-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_step [hPre_finite_step : Cert.Pre_finite_step.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_step.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_step [hPre_finite_step : Cert.Pre_finite_step.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_step.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite_step [hKernel6Ideal : Cert.Kernel6Ideal.Facts] [hPre_finite_step : Cert.Pre_finite_step.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_step m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite_step [hReference6Ideal : Cert.Reference6Ideal.Facts] [hPre_finite_step : Cert.Pre_finite_step.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_step m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v12)) (v2 : (c : Dev Cert.Kernel5Ideal.nD) → Buf (Elt Ideal) ((c.tc : Thread Cert.Kernel5Ideal.nD Cert.Kernel5Ideal.τ).loc Cert.Kernel5Ideal.main_v14)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)) (v6 : (c : Dev Cert.Kernel5Ideal.nD) → Buf (Elt Ideal) ((c.tc : Thread Cert.Kernel5Ideal.nD Cert.Kernel5Ideal.τ).loc Cert.Kernel5Ideal.main_v10_6)) (v7 : (c : Dev Cert.Kernel5Ideal.nD) → Buf (Elt Ideal) ((c.tc : Thread Cert.Kernel5Ideal.nD Cert.Kernel5Ideal.τ).loc Cert.Kernel5Ideal.main_v10_7)) (v8 : (c : Dev Cert.Kernel5Ideal.nD) → Buf (Elt Ideal) ((c.tc : Thread Cert.Kernel5Ideal.nD Cert.Kernel5Ideal.τ).loc Cert.Kernel5Ideal.main_v10_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v12) = v1 c
          ∧ r.2.mem ((c.tc : Thread Cert.Kernel5Ideal.nD Cert.Kernel5Ideal.τ).loc Cert.Kernel5Ideal.main_v14) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_v10_6) = v6 c
          ∧ r.2.mem ((c.tc : Thread Cert.Kernel5Ideal.nD Cert.Kernel5Ideal.τ).loc Cert.Kernel5Ideal.main_v10_7) = v7 c
          ∧ r.2.mem ((c.tc : Thread Cert.Kernel5Ideal.nD Cert.Kernel5Ideal.τ).loc Cert.Kernel5Ideal.main_v10_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v33) = v3 c
          ∧ r.2.mem ((c.tc : Thread Cert.Reference5Ideal.nD Cert.Reference5Ideal.τ).loc Cert.Reference5Ideal.main_v36) = v4 c
          ∧ r.2.mem ((c.tc : Thread Cert.Reference5Ideal.nD Cert.Reference5Ideal.τ).loc Cert.Reference5Ideal.main_v19) = v5 c
          ∧ r.2.mem ((c.tc : Thread Cert.Reference5Ideal.nD Cert.Reference5Ideal.τ).loc Cert.Reference5Ideal.main_v20) = v6 c
          ∧ r.2.mem ((c.tc : Thread Cert.Reference5Ideal.nD Cert.Reference5Ideal.τ).loc Cert.Reference5Ideal.main_v21) = v7 c
          ∧ r.2.mem ((c.tc : Thread Cert.Reference5Ideal.nD Cert.Reference5Ideal.τ).loc Cert.Reference5Ideal.main_v37) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_step [hKernel6Ideal : Cert.Kernel6Ideal.Facts] [hReference6Ideal : Cert.Reference6Ideal.Facts] [hPre_finite_step : Cert.Pre_finite_step.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_step m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v33_0)) (v1 : (c : Dev Cert.Kernel6Ideal.nD) → Buf (Elt Ideal) ((c.tc : Thread Cert.Kernel6Ideal.nD Cert.Kernel6Ideal.τ).loc Cert.Kernel6Ideal.main_v33_1)) (v2 : (c : Dev Cert.Kernel6Ideal.nD) → Buf (Elt Ideal) ((c.tc : Thread Cert.Kernel6Ideal.nD Cert.Kernel6Ideal.τ).loc Cert.Kernel6Ideal.main_v33_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v33_0) = v0 c
          ∧ r.2.mem ((c.tc : Thread Cert.Kernel6Ideal.nD Cert.Kernel6Ideal.τ).loc Cert.Kernel6Ideal.main_v33_1) = v1 c
          ∧ r.2.mem ((c.tc : Thread Cert.Kernel6Ideal.nD Cert.Kernel6Ideal.τ).loc Cert.Kernel6Ideal.main_v33_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v124) = v0 c
          ∧ r.2.mem ((c.tc : Thread Cert.Reference6Ideal.nD Cert.Reference6Ideal.τ).loc Cert.Reference6Ideal.main_v125) = v1 c
          ∧ r.2.mem ((c.tc : Thread Cert.Reference6Ideal.nD Cert.Reference6Ideal.τ).loc Cert.Reference6Ideal.main_v126) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v12)) (v1 : (c : Dev Cert.Kernel8Ideal.nD) → Buf (Elt Ideal) ((c.tc : Thread Cert.Kernel8Ideal.nD Cert.Kernel8Ideal.τ).loc Cert.Kernel8Ideal.main_v14)) (v2 : (c : Dev Cert.Kernel8Ideal.nD) → Buf (Elt Ideal) ((c.tc : Thread Cert.Kernel8Ideal.nD Cert.Kernel8Ideal.τ).loc Cert.Kernel8Ideal.main_v16)) (v3 : (c : Dev Cert.Kernel8Ideal.nD) → Buf (Elt Ideal) ((c.tc : Thread Cert.Kernel8Ideal.nD Cert.Kernel8Ideal.τ).loc Cert.Kernel8Ideal.main_v17)) (v4 : (c : Dev Cert.Kernel8Ideal.nD) → Buf (Elt Ideal) ((c.tc : Thread Cert.Kernel8Ideal.nD Cert.Kernel8Ideal.τ).loc Cert.Kernel8Ideal.main_v18)) (v5 : (c : Dev Cert.Kernel8Ideal.nD) → Buf (Elt Ideal) ((c.tc : Thread Cert.Kernel8Ideal.nD Cert.Kernel8Ideal.τ).loc Cert.Kernel8Ideal.main_v19)) (v6 : (c : Dev Cert.Kernel8Ideal.nD) → Buf (Elt Ideal) ((c.tc : Thread Cert.Kernel8Ideal.nD Cert.Kernel8Ideal.τ).loc Cert.Kernel8Ideal.main_v20)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12) = v0 c
          ∧ r.2.mem ((c.tc : Thread Cert.Kernel8Ideal.nD Cert.Kernel8Ideal.τ).loc Cert.Kernel8Ideal.main_v14) = v1 c
          ∧ r.2.mem ((c.tc : Thread Cert.Kernel8Ideal.nD Cert.Kernel8Ideal.τ).loc Cert.Kernel8Ideal.main_v16) = v2 c
          ∧ r.2.mem ((c.tc : Thread Cert.Kernel8Ideal.nD Cert.Kernel8Ideal.τ).loc Cert.Kernel8Ideal.main_v17) = v3 c
          ∧ r.2.mem ((c.tc : Thread Cert.Kernel8Ideal.nD Cert.Kernel8Ideal.τ).loc Cert.Kernel8Ideal.main_v18) = v4 c
          ∧ r.2.mem ((c.tc : Thread Cert.Kernel8Ideal.nD Cert.Kernel8Ideal.τ).loc Cert.Kernel8Ideal.main_v19) = v5 c
          ∧ r.2.mem ((c.tc : Thread Cert.Kernel8Ideal.nD Cert.Kernel8Ideal.τ).loc Cert.Kernel8Ideal.main_v20) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_v29) = v2 c
          ∧ r.2.mem ((c.tc : Thread Cert.Reference8Ideal.nD Cert.Reference8Ideal.τ).loc Cert.Reference8Ideal.main_v19) = v3 c
          ∧ r.2.mem ((c.tc : Thread Cert.Reference8Ideal.nD Cert.Reference8Ideal.τ).loc Cert.Reference8Ideal.main_v20) = v4 c
          ∧ r.2.mem ((c.tc : Thread Cert.Reference8Ideal.nD Cert.Reference8Ideal.τ).loc Cert.Reference8Ideal.main_v21) = v5 c
          ∧ r.2.mem ((c.tc : Thread Cert.Reference8Ideal.nD Cert.Reference8Ideal.τ).loc Cert.Reference8Ideal.main_v30) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_step : Cert.Pre_finite_step.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_step (hKernel6Ideal := hKernel6Ideal) (hPre_finite_step := hPre_finite_step)
    ∧ quiescent_Reference6Ideal (hReference6Ideal := hReference6Ideal)
    ∧ quiescent_Reference6Ideal_pre_finite_step (hReference6Ideal := hReference6Ideal) (hPre_finite_step := hPre_finite_step)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_step (hKernel6Ideal := hKernel6Ideal) (hReference6Ideal := hReference6Ideal) (hPre_finite_step := hPre_finite_step)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4x2048x16x64 : Shape := ⟨4, ![4, 2048, 16, 64]⟩
abbrev S16 : Shape := ⟨1, ![16]⟩
abbrev S_ : Shape := ⟨0, ![]⟩
abbrev S1x1x16x1 : Shape := ⟨4, ![1, 1, 16, 1]⟩

class Facts : Prop where
  bcast_S_S4x2048x16x64 : S_.BroadcastsInDim S4x2048x16x64 (![] : Fin 0 → Fin S4x2048x16x64.rank)
  bcast_S_S16 : S_.BroadcastsInDim S16 (![] : Fin 0 → Fin S16.rank)
  bcast_S16_S1x1x16x1_2 : S16.BroadcastsInDim S1x1x16x1 (![2] : Fin 1 → Fin S1x1x16x1.rank)
  bcast_S1x1x16x1_S4x2048x16x64_0_1_2_3 : S1x1x16x1.BroadcastsInDim S4x2048x16x64 (![0, 1, 2, 3] : Fin 4 → Fin S4x2048x16x64.rank)

variable [Facts]

def fn {F : FTy → Type} [FloatOps F] (main_arg0 : FVec F S4x2048x16x64 .f32) (main_arg1 : FVec F S4x2048x16x64 .f32) (main_arg2 : FVec F S4x2048x16x64 .f32) (main_arg3 : FVec F S16 .f32) : IVec S4x2048x16x64 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_v3 : FVec F S4x2048x16x64 .f32 := Host.absf main_arg1
  let main_cst_0 : FVec F S_ .f32 := constant S_ .f32 0x7F800000#32
  let main_v4 : FVec F S4x2048x16x64 .f32 := broadcastInDim S4x2048x16x64 ![] bcast_S_S4x2048x16x64 main_cst_0
  let main_v5 : IVec S4x2048x16x64 1 := cmpf .olt main_v3 main_v4
  let main_v6 : IVec S4x2048x16x64 1 := andi main_v2 main_v5
  let main_v7 : FVec F S16 .f32 := Host.absf main_arg3
  let main_cst_1 : FVec F S_ .f32 := constant S_ .f32 0x7F800000#32
  let main_v8 : FVec F S16 .f32 := broadcastInDim S16 ![] bcast_S_S16 main_cst_1
  let main_v9 : IVec S16 1 := cmpf .olt main_v7 main_v8
  let main_v10 : IVec S1x1x16x1 1 := broadcastInDim S1x1x16x1 ![2] bcast_S16_S1x1x16x1_2 main_v9
  let main_v11 : IVec S4x2048x16x64 1 := broadcastInDim S4x2048x16x64 ![0, 1, 2, 3] bcast_S1x1x16x1_S4x2048x16x64_0_1_2_3 main_v10
  let main_v12 : IVec S4x2048x16x64 1 := andi main_v6 main_v11
  main_v12
-- ==== Pre_finite_step.lean ====
abbrev S8x1x1024 : Shape := ⟨3, ![8, 1, 1024]⟩
abbrev S8x1x1536 : Shape := ⟨3, ![8, 1, 1536]⟩
abbrev S8x1x16 : Shape := ⟨3, ![8, 1, 16]⟩
abbrev S4x8x3x1536 : Shape := ⟨4, ![4, 8, 3, 1536]⟩
abbrev S4x8x16x64x128 : Shape := ⟨5, ![4, 8, 16, 64, 128]⟩
abbrev S4x4x1536 : Shape := ⟨3, ![4, 4, 1536]⟩
abbrev S4x1536 : Shape := ⟨2, ![4, 1536]⟩
abbrev S4x16 : Shape := ⟨2, ![4, 16]⟩
abbrev S4x1024 : Shape := ⟨2, ![4, 1024]⟩
abbrev S_ : Shape := ⟨0, ![]⟩

class Facts : Prop where
  bcast_S_S8x1x1536 : S_.BroadcastsInDim S8x1x1536 (![] : Fin 0 → Fin S8x1x1536.rank)
  reducesTo_S8x1x1536_S_d0_1_2 : S8x1x1536.ReducesTo [0, 1, 2] S_
  h_S_ : 0 < S_.numel
  bcast_S_S8x1x16 : S_.BroadcastsInDim S8x1x16 (![] : Fin 0 → Fin S8x1x16.rank)
  reducesTo_S8x1x16_S_d0_1_2 : S8x1x16.ReducesTo [0, 1, 2] S_
  bcast_S_S4x8x3x1536 : S_.BroadcastsInDim S4x8x3x1536 (![] : Fin 0 → Fin S4x8x3x1536.rank)
  reducesTo_S4x8x3x1536_S_d0_1_2_3 : S4x8x3x1536.ReducesTo [0, 1, 2, 3] S_
  bcast_S_S4x8x16x64x128 : S_.BroadcastsInDim S4x8x16x64x128 (![] : Fin 0 → Fin S4x8x16x64x128.rank)
  reducesTo_S4x8x16x64x128_S_d0_1_2_3_4 : S4x8x16x64x128.ReducesTo [0, 1, 2, 3, 4] S_
  bcast_S_S4x4x1536 : S_.BroadcastsInDim S4x4x1536 (![] : Fin 0 → Fin S4x4x1536.rank)
  reducesTo_S4x4x1536_S_d0_1_2 : S4x4x1536.ReducesTo [0, 1, 2] S_
  bcast_S_S4x1536 : S_.BroadcastsInDim S4x1536 (![] : Fin 0 → Fin S4x1536.rank)
  reducesTo_S4x1536_S_d0_1 : S4x1536.ReducesTo [0, 1] S_
  bcast_S_S4x16 : S_.BroadcastsInDim S4x16 (![] : Fin 0 → Fin S4x16.rank)
  reducesTo_S4x16_S_d0_1 : S4x16.ReducesTo [0, 1] S_

variable [Facts]

def fn_part1 {F : FTy → Type} [FloatOps F] (main_arg5 : FVec F S4x4x1536 .f32) (main_arg6 : FVec F S4x1536 .f32) (main_arg7 : FVec F S4x16 .f32) (main_v13 : IVec S_ 1) (main_v16 : IVec S4x8x16x64x128 1) : IVec S_ 1 :=
  let main_c_5 : IVec S_ 1 := constantI S_ 1 1#1
  let main_v17 : IVec S_ 1 := (fun x v => Host.reduce IntOp.andi x v reducesTo_S4x8x16x64x128_S_d0_1_2_3_4 h_S_) main_v16 main_c_5
  let main_v18 : IVec S_ 1 := andi main_v13 main_v17
  let main_v19 : FVec F S4x4x1536 .f32 := Host.absf main_arg5
  let main_cst_6 : FVec F S_ .f32 := constant S_ .f32 0x7F800000#32
  let main_v20 : FVec F S4x4x1536 .f32 := broadcastInDim S4x4x1536 ![] bcast_S_S4x4x1536 main_cst_6
  let main_v21 : IVec S4x4x1536 1 := cmpf .olt main_v19 main_v20
  let main_c_7 : IVec S_ 1 := constantI S_ 1 1#1
  let main_v22 : IVec S_ 1 := (fun x v => Host.reduce IntOp.andi x v reducesTo_S4x4x1536_S_d0_1_2 h_S_) main_v21 main_c_7
  let main_v23 : IVec S_ 1 := andi main_v18 main_v22
  let main_v24 : FVec F S4x1536 .f32 := Host.absf main_arg6
  let main_cst_8 : FVec F S_ .f32 := constant S_ .f32 0x7F800000#32
  let main_v25 : FVec F S4x1536 .f32 := broadcastInDim S4x1536 ![] bcast_S_S4x1536 main_cst_8
  let main_v26 : IVec S4x1536 1 := cmpf .olt main_v24 main_v25
  let main_c_9 : IVec S_ 1 := constantI S_ 1 1#1
  let main_v27 : IVec S_ 1 := (fun x v => Host.reduce IntOp.andi x v reducesTo_S4x1536_S_d0_1 h_S_) main_v26 main_c_9
  let main_v28 : IVec S_ 1 := andi main_v23 main_v27
  let main_v29 : FVec F S4x16 .f32 := Host.absf main_arg7
  let main_cst_10 : FVec F S_ .f32 := constant S_ .f32 0x7F800000#32
  let main_v30 : FVec F S4x16 .f32 := broadcastInDim S4x16 ![] bcast_S_S4x16 main_cst_10
  let main_v31 : IVec S4x16 1 := cmpf .olt main_v29 main_v30
  let main_c_11 : IVec S_ 1 := constantI S_ 1 1#1
  let main_v32 : IVec S_ 1 := (fun x v => Host.reduce IntOp.andi x v reducesTo_S4x16_S_d0_1 h_S_) main_v31 main_c_11
  let main_v33 : IVec S_ 1 := andi main_v28 main_v32
  main_v33

def fn {F : FTy → Type} [FloatOps F] (main_arg0 : FVec F S8x1x1024 .f32) (main_arg1 : FVec F S8x1x1536 .f32) (main_arg2 : FVec F S8x1x16 .f32) (main_arg3 : FVec F S4x8x3x1536 .f32) (main_arg4 : FVec F S4x8x16x64x128 .f32) (main_arg5 : FVec F S4x4x1536 .f32) (main_arg6 : FVec F S4x1536 .f32) (main_arg7 : FVec F S4x16 .f32) (main_arg8 : FVec F S4x16 .f32) (main_arg9 : FVec F S4x16 .f32) (main_arg10 : FVec F S4x1024 .f32) : IVec S_ 1 :=
  let main_v0 : FVec F S8x1x1536 .f32 := Host.absf main_arg1
  let main_cst : FVec F S_ .f32 := constant S_ .f32 0x7F800000#32
  let main_v1 : FVec F S8x1x1536 .f32 := broadcastInDim S8x1x1536 ![] bcast_S_S8x1x1536 main_cst
  let main_v2 : IVec S8x1x1536 1 := cmpf .olt main_v0 main_v1
  let main_c : IVec S_ 1 := constantI S_ 1 1#1
  let main_v3 : IVec S_ 1 := (fun x v => Host.reduce IntOp.andi x v reducesTo_S8x1x1536_S_d0_1_2 h_S_) main_v2 main_c
  let main_v4 : FVec F S8x1x16 .f32 := Host.absf main_arg2
  let main_cst_0 : FVec F S_ .f32 := constant S_ .f32 0x7F800000#32
  let main_v5 : FVec F S8x1x16 .f32 := broadcastInDim S8x1x16 ![] bcast_S_S8x1x16 main_cst_0
  let main_v6 : IVec S8x1x16 1 := cmpf .olt main_v4 main_v5
  let main_c_1 : IVec S_ 1 := constantI S_ 1 1#1
  let main_v7 : IVec S_ 1 := (fun x v => Host.reduce IntOp.andi x v reducesTo_S8x1x16_S_d0_1_2 h_S_) main_v6 main_c_1
  let main_v8 : IVec S_ 1 := andi main_v3 main_v7
  let main_v9 : FVec F S4x8x3x1536 .f32 := Host.absf main_arg3
  let main_cst_2 : FVec F S_ .f32 := constant S_ .f32 0x7F800000#32
  let main_v10 : FVec F S4x8x3x1536 .f32 := broadcastInDim S4x8x3x1536 ![] bcast_S_S4x8x3x1536 main_cst_2
  let main_v11 : IVec S4x8x3x1536 1 := cmpf .olt main_v9 main_v10
  let main_c_3 : IVec S_ 1 := constantI S_ 1 1#1
  let main_v12 : IVec S_ 1 := (fun x v => Host.reduce IntOp.andi x v reducesTo_S4x8x3x1536_S_d0_1_2_3 h_S_) main_v11 main_c_3
  let main_v13 : IVec S_ 1 := andi main_v8 main_v12
  let main_v14 : FVec F S4x8x16x64x128 .f32 := Host.absf main_arg4
  let main_cst_4 : FVec F S_ .f32 := constant S_ .f32 0x7F800000#32
  let main_v15 : FVec F S4x8x16x64x128 .f32 := broadcastInDim S4x8x16x64x128 ![] bcast_S_S4x8x16x64x128 main_cst_4
  let main_v16 : IVec S4x8x16x64x128 1 := cmpf .olt main_v14 main_v15
  fn_part1 (F := F) main_arg5 main_arg6 main_arg7 main_v13 main_v16
-- ==== Kernel.lean ====
abbrev S4x2048x16x64 : Shape := ⟨4, ![4, 2048, 16, 64]⟩
abbrev S16 : Shape := ⟨1, ![16]⟩
abbrev S8192x1024 : Shape := ⟨2, ![8192, 1024]⟩
abbrev S_ : Shape := ⟨0, ![]⟩
abbrev S4x4x512x1024 : Shape := ⟨4, ![4, 4, 512, 1024]⟩
abbrev S4x4x1024x512 : Shape := ⟨4, ![4, 4, 1024, 512]⟩
abbrev S512x128 : Shape := ⟨2, ![512, 128]⟩
abbrev S1x4x128x512 : Shape := ⟨4, ![1, 4, 128, 512]⟩
abbrev S1 : Shape := ⟨1, ![1]⟩
abbrev S256x256 : Shape := ⟨2, ![256, 256]⟩
abbrev S512x256 : Shape := ⟨2, ![512, 256]⟩
abbrev S1024x512 : Shape := ⟨2, ![1024, 512]⟩
abbrev S1x1x128x512 : Shape := ⟨4, ![1, 1, 128, 512]⟩
abbrev S128x512 : Shape := ⟨2, ![128, 512]⟩
abbrev S512x512 : Shape := ⟨2, ![512, 512]⟩
abbrev S1024x128 : Shape := ⟨2, ![1024, 128]⟩
abbrev S1024x1 : Shape := ⟨2, ![1024, 1]⟩
abbrev S1024x256 : Shape := ⟨2, ![1024, 256]⟩

abbrev nBuf : Space → Nat
  | .hbm => 16
  | .vmem => 8
  | .smem => 1
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S16, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S4x4x512x1024, .f32⟩
  | .hbm, ⟨10, _⟩ => ⟨S4x4x1024x512, .f32⟩
  | .hbm, ⟨11, _⟩ => ⟨S4x4x1024x512, .bf16⟩
  | .hbm, ⟨12, _⟩ => ⟨S4x4x512x1024, .f32⟩
  | .hbm, ⟨13, _⟩ => ⟨S4x4x1024x512, .f32⟩
  | .hbm, ⟨14, _⟩ => ⟨S4x4x1024x512, .bf16⟩
  | .hbm, ⟨15, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S1x4x128x512, .bf16⟩
  | .local _ .vmem, ⟨3, _⟩ => ⟨S1x4x128x512, .bf16⟩
  | .local _ .vmem, ⟨4, _⟩ => ⟨S1x4x128x512, .bf16⟩
  | .local _ .vmem, ⟨5, _⟩ => ⟨S1x4x128x512, .bf16⟩
  | .local _ .vmem, ⟨6, _⟩ => ⟨S512x128, .bf16⟩
  | .local _ .vmem, ⟨7, _⟩ => ⟨S512x128, .bf16⟩
  | .local _ .smem, ⟨0, _⟩ => ⟨S16, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 4], ![false, false, false]⟩

def k0_off1 (i : grid0.Coords) : Fin 1 → Nat :=
  let c2_i32 : BitVec 32 := 2#32
  let arg1 : BitVec 32 := BitVec.ofNat 32 (i 1).val
  let v8 : BitVec 32 := Scalar.muli c2_i32 arg1
  let v9 : Index := Scalar.indexCast v8
  ![v9.toNat]
def k0_off2 (i : grid0.Coords) : Fin 1 → Nat :=
  let c2_i32_1 : BitVec 32 := 2#32
  let arg1 : BitVec 32 := BitVec.ofNat 32 (i 1).val
  let v11 : BitVec 32 := Scalar.muli c2_i32_1 arg1
  let c1_i32 : BitVec 32 := 1#32
  let v12 : BitVec 32 := Scalar.addi v11 c1_i32
  let v13 : Index := Scalar.indexCast v12
  ![v13.toNat]
def k0_cond1 (i : grid0.Coords) : BitVec 1 :=
  let arg2 : BitVec 32 := BitVec.ofNat 32 (i 2).val
  let c0_i32 : BitVec 32 := 0#32
  let v23 : BitVec 1 := Scalar.cmpi .eq arg2 c0_i32
  let v24 : BitVec 32 := Scalar.extui v23
  let c0_i32_4 : BitVec 32 := 0#32
  let v25 : BitVec 1 := Scalar.cmpi .ne v24 c0_i32_4
  v25

def k0_cond2 (i : grid0.Coords) : BitVec 1 :=
  let arg2 : BitVec 32 := BitVec.ofNat 32 (i 2).val
  let c1_i32_5 : BitVec 32 := 1#32
  let v26 : BitVec 1 := Scalar.cmpi .eq arg2 c1_i32_5
  let v27 : BitVec 32 := Scalar.extui v26
  let c0_i32_6 : BitVec 32 := 0#32
  let v28 : BitVec 1 := Scalar.cmpi .ne v27 c0_i32_6
  v28

def k0_cond3 (i : grid0.Coords) : BitVec 1 :=
  let arg2 : BitVec 32 := BitVec.ofNat 32 (i 2).val
  let c2_i32_7 : BitVec 32 := 2#32
  let v29 : BitVec 1 := Scalar.cmpi .eq arg2 c2_i32_7
  let v30 : BitVec 32 := Scalar.extui v29
  let c0_i32_8 : BitVec 32 := 0#32
  let v31 : BitVec 1 := Scalar.cmpi .ne v30 c0_i32_8
  v31

def k0_cond4 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_9 : BitVec 32 := 0#32
  let v34 : BitVec 1 := Scalar.cmpi .ne v33 c0_i32_9
  v34

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x2048x16x64 : Shape := ⟨4, ![4, 2048, 16, 64]⟩
abbrev S16 : Shape := ⟨1, ![16]⟩
abbrev S2048 : Shape := ⟨1, ![2048]⟩
abbrev S4x16x2048x2048 : Shape := ⟨4, ![4, 16, 2048, 2048]⟩
abbrev S_ : Shape := ⟨0, ![]⟩
abbrev S1x16x1x1 : Shape := ⟨4, ![1, 16, 1, 1]⟩
abbrev S1x2048 : Shape := ⟨2, ![1, 2048]⟩
abbrev S2048x1 : Shape := ⟨2, ![2048, 1]⟩
abbrev S2048x2048 : Shape := ⟨2, ![2048, 2048]⟩
abbrev S4x16x64x2048 : Shape := ⟨4, ![4, 16, 64, 2048]⟩
abbrev S8192x1024 : Shape := ⟨2, ![8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S16, .f32⟩
  | .hbm, ⟨4, _⟩ => ⟨S2048, .i32⟩
  | .hbm, ⟨5, _⟩ => ⟨S4x16x2048x2048, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S1x16x1x1, .f32⟩
  | .hbm, ⟨10, _⟩ => ⟨S4x16x2048x2048, .f32⟩
  | .hbm, ⟨11, _⟩ => ⟨S4x16x2048x2048, .f32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .i1⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S_, .f32⟩
  | .hbm, ⟨36, _⟩ => ⟨S4x16x2048x2048, .i1⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S_, .f32⟩
  | .hbm, ⟨41, _⟩ => ⟨S4x16x2048x2048, .f32⟩
  | .hbm, ⟨42, _⟩ => ⟨S4x16x2048x2048, .f32⟩
  | .hbm, ⟨43, _⟩ => ⟨S4x16x2048x2048, .f32⟩
  | .hbm, ⟨44, _⟩ => ⟨S_, .f32⟩
  | .hbm, ⟨45, _⟩ => ⟨S4x16x2048x2048, .f32⟩
  | .hbm, ⟨46, _⟩ => ⟨S4x16x2048x2048, .f32⟩
  | .hbm, ⟨47, _⟩ => ⟨S4x16x2048x2048, .f32⟩
  | .hbm, ⟨48, _⟩ => ⟨S4x16x2048x2048, .f32⟩
  | .hbm, ⟨49, _⟩ => ⟨S4x16x2048x2048, .i1⟩
  | .hbm, ⟨50, _⟩ => ⟨S4x16x2048x2048, .f32⟩
  | .hbm, ⟨51, _⟩ => ⟨S4x16x2048x2048, .f32⟩
  | .hbm, ⟨52, _⟩ => ⟨S4x16x2048x2048, .f32⟩
  | .hbm, ⟨53, _⟩ => ⟨S4x16x2048x2048, .f32⟩
  | .hbm, ⟨54, _⟩ => ⟨S4x16x2048x2048, .f32⟩
  | .hbm, ⟨55, _⟩ => ⟨S4x16x2048x2048, .f32⟩
  | .hbm, ⟨56, _⟩ => ⟨S4x16x2048x2048, .f32⟩
  | .hbm, ⟨57, _⟩ => ⟨S4x16x2048x2048, .f32⟩
  | .hbm, ⟨58, _⟩ => ⟨S4x16x2048x2048, .f32⟩
  | .hbm, ⟨59, _⟩ => ⟨S4x16x2048x2048, .f32⟩
  | .hbm, ⟨60, _⟩ => ⟨S4x16x2048x2048, .f32⟩
  | .hbm, ⟨61, _⟩ => ⟨S_, .f32⟩
  | .hbm, ⟨62, _⟩ => ⟨S_, .f32⟩
  | .hbm, ⟨63, _⟩ => ⟨S4x16x2048x2048, .i1⟩
  | .hbm, ⟨64, _⟩ => ⟨S4x16x2048x2048, .f32⟩
  | .hbm, ⟨65, _⟩ => ⟨S4x16x2048x2048, .f32⟩
  | .hbm, ⟨66, _⟩ => ⟨S4x16x64x2048, .f32⟩
  | .hbm, ⟨67, _⟩ => ⟨S4x2048x16x64, .f32⟩
  | .hbm, ⟨68, _⟩ => ⟨S8192x1024, .f32⟩
  | .hbm, ⟨69, _⟩ => ⟨S8192x1024, .bf16⟩
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_call2_cst : Ref sig .tc := ⟨.hbm, 39, rfl⟩
abbrev main_call2_v0 : Ref sig .tc := ⟨.hbm, 40, rfl⟩
abbrev main_v15 : Ref sig .tc := ⟨.hbm, 41, rfl⟩
abbrev main_v16 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S8192x2048 : Shape := ⟨2, ![8192, 2048]⟩
abbrev S4x1x2048 : Shape := ⟨3, ![4, 1, 2048]⟩
abbrev S512x2048 : Shape := ⟨2, ![512, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x2048 : Shape := ⟨2, ![1, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S4x2048, .f32⟩
  | .hbm, ⟨5, _⟩ => ⟨S8192x2048, .f32⟩
  | .hbm, ⟨6, _⟩ => ⟨S4x1x2048, .f32⟩
  | .hbm, ⟨7, _⟩ => ⟨S4x2048x11264, .bf16⟩
  | .hbm, ⟨8, _⟩ => ⟨S4x5632x2048, .bf16⟩
  | .hbm, ⟨9, _⟩ => ⟨S4x1x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x2048x2048 : Shape := ⟨3, ![4, 2048, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S4x2048, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x2048x11264, .f32⟩
  | .hbm, ⟨25, _⟩ => ⟨S2048x11264, .f32⟩
  | .hbm, ⟨26, _⟩ => ⟨S8192x11264, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S1x5632x2048, .f32⟩
  | .hbm, ⟨40, _⟩ => ⟨S5632x2048, .f32⟩
  | .hbm, ⟨41, _⟩ => ⟨S8192x2048, .f32⟩
  | .hbm, ⟨42, _⟩ => ⟨S1x2048, .f32⟩
  | .hbm, ⟨43, _⟩ => ⟨S2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel3.lean ====
abbrev S4x2048x2048 : Shape := ⟨3, ![4, 2048, 2048]⟩
abbrev S4x4x2048x256 : Shape := ⟨4, ![4, 4, 2048, 256]⟩
abbrev S4x2048 : Shape := ⟨2, ![4, 2048]⟩
abbrev S4x256x2048 : Shape := ⟨3, ![4, 256, 2048]⟩
abbrev S8192x2048 : Shape := ⟨2, ![8192, 2048]⟩
abbrev S4x8192x256 : Shape := ⟨3, ![4, 8192, 256]⟩
abbrev S4x1x2048 : Shape := ⟨3, ![4, 1, 2048]⟩
abbrev S256x2048 : Shape := ⟨2, ![256, 2048]⟩
abbrev S1x256x256 : Shape := ⟨3, ![1, 256, 256]⟩
abbrev S1x1x2048 : Shape := ⟨3, ![1, 1, 2048]⟩
abbrev S1x2048x2048 : Shape := ⟨3, ![1, 2048, 2048]⟩
abbrev S1x256x2048 : Shape := ⟨3, ![1, 256, 2048]⟩
abbrev S1x2048 : Shape := ⟨2, ![1, 2048]⟩
abbrev S256 : Shape := ⟨1, ![256]⟩
abbrev S256x1 : Shape := ⟨2, ![256, 1]⟩
abbrev S2048x2048 : Shape := ⟨2, ![2048, 2048]⟩
abbrev S256x256 : Shape := ⟨2, ![256, 256]⟩

abbrev nBuf : Space → Nat
  | .hbm => 11
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S4x4x2048x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S8192x2048, .f32⟩
  | .hbm, ⟨6, _⟩ => ⟨S4x8192x256, .f32⟩
  | .hbm, ⟨7, _⟩ => ⟨S4x1x2048, .f32⟩
  | .hbm, ⟨8, _⟩ => ⟨S4x2048x2048, .bf16⟩
  | .hbm, ⟨9, _⟩ => ⟨S4x256x2048, .bf16⟩
  | .hbm, ⟨10, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x256x256, .f32⟩
  | .local _ .vmem, ⟨3, _⟩ => ⟨S1x256x256, .f32⟩
  | .local _ .vmem, ⟨4, _⟩ => ⟨S1x1x2048, .f32⟩
  | .local _ .vmem, ⟨5, _⟩ => ⟨S1x2048x2048, .bf16⟩
  | .local _ .vmem, ⟨6, _⟩ => ⟨S1x256x2048, .bf16⟩
  | .local _ .vmem, ⟨7, _⟩ => ⟨S256x2048, .f32⟩
  | .local _ .vmem, ⟨8, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x2048x2048 : Shape := ⟨3, ![4, 2048, 2048]⟩
abbrev S4x4x2048x256 : Shape := ⟨4, ![4, 4, 2048, 256]⟩
abbrev S4x2048 : Shape := ⟨2, ![4, 2048]⟩
abbrev S4x256x2048 : Shape := ⟨3, ![4, 256, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x4x2048x256 : Shape := ⟨4, ![1, 4, 2048, 256]⟩
abbrev S4x2048x256 : Shape := ⟨3, ![4, 2048, 256]⟩
abbrev S1x256x2048 : Shape := ⟨3, ![1, 256, 2048]⟩
abbrev S256x2048 : Shape := ⟨2, ![256, 2048]⟩
abbrev S8192x2048 : Shape := ⟨2, ![8192, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x4x2048x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S1x2048, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S1x2048x2048, .f32⟩
  | .hbm, ⟨24, _⟩ => ⟨S2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S1x4x2048x256, .f32⟩
  | .hbm, ⟨35, _⟩ => ⟨S4x2048x256, .f32⟩
  | .hbm, ⟨36, _⟩ => ⟨S1x256x2048, .f32⟩
  | .hbm, ⟨37, _⟩ => ⟨S256x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel4.lean ====
abbrev S4x2048x2048 : Shape := ⟨3, ![4, 2048, 2048]⟩
abbrev S4x2048x1024 : Shape := ⟨3, ![4, 2048, 1024]⟩
abbrev S4x2048 : Shape := ⟨2, ![4, 2048]⟩
abbrev S8192x2048 : Shape := ⟨2, ![8192, 2048]⟩
abbrev S8192x1024 : Shape := ⟨2, ![8192, 1024]⟩
abbrev S4x1x2048 : Shape := ⟨3, ![4, 1, 2048]⟩
abbrev S256x2048 : Shape := ⟨2, ![256, 2048]⟩
abbrev S256x1024 : Shape := ⟨2, ![256, 1024]⟩
abbrev S1x1024x2048 : Shape := ⟨3, ![1, 1024, 2048]⟩
abbrev S1x1x2048 : Shape := ⟨3, ![1, 1, 2048]⟩
abbrev S1024x2048 : Shape := ⟨2, ![1024, 2048]⟩
abbrev S1x2048 : Shape := ⟨2, ![1, 2048]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .f32⟩
  | .hbm, ⟨2, _⟩ => ⟨S4x2048x1024, .f32⟩
  | .hbm, ⟨3, _⟩ => ⟨S4x2048x2048, .f32⟩
  | .hbm, ⟨4, _⟩ => ⟨S4x2048, .f32⟩
  | .hbm, ⟨5, _⟩ => ⟨S8192x2048, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S4x2048x2048, .bf16⟩
  | .hbm, ⟨11, _⟩ => ⟨S4x1x2048, .f32⟩
  | .hbm, ⟨12, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x1x2048, .f32⟩
  | .local _ .vmem, ⟨9, _⟩ => ⟨S256x2048, .f32⟩
  | .local _ .vmem, ⟨10, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x2048x2048 : Shape := ⟨3, ![4, 2048, 2048]⟩
abbrev S4x2048x1024 : Shape := ⟨3, ![4, 2048, 1024]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .f32⟩
  | .hbm, ⟨2, _⟩ => ⟨S4x2048x1024, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S1x2048x2048, .f32⟩
  | .hbm, ⟨7, _⟩ => ⟨S2048x2048, .f32⟩
  | .hbm, ⟨8, _⟩ => ⟨S4x2048x2048, .f32⟩
  | .hbm, ⟨9, _⟩ => ⟨S1x2048, .f32⟩
  | .hbm, ⟨10, _⟩ => ⟨S2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S1x1x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel5.lean ====
abbrev S4x2048x2048 : Shape := ⟨3, ![4, 2048, 2048]⟩
abbrev S4x2048 : Shape := ⟨2, ![4, 2048]⟩
abbrev S4x2048x5648 : Shape := ⟨3, ![4, 2048, 5648]⟩
abbrev S4x2048x3072 : Shape := ⟨3, ![4, 2048, 3072]⟩
abbrev S4x2048x1024 : Shape := ⟨3, ![4, 2048, 1024]⟩
abbrev S4x2048x5120 : Shape := ⟨3, ![4, 2048, 5120]⟩
abbrev S4x2048x528 : Shape := ⟨3, ![4, 2048, 528]⟩
abbrev S_ : Shape := ⟨0, ![]⟩
abbrev S4x2048x640 : Shape := ⟨3, ![4, 2048, 640]⟩
abbrev S8192x2048 : Shape := ⟨2, ![8192, 2048]⟩
abbrev S4x1x2048 : Shape := ⟨3, ![4, 1, 2048]⟩
abbrev S8192x1024 : Shape := ⟨2, ![8192, 1024]⟩
abbrev S4x1024x2048 : Shape := ⟨3, ![4, 1024, 2048]⟩
abbrev S4x4x1024x512 : Shape := ⟨4, ![4, 4, 1024, 512]⟩
abbrev S8192x512 : Shape := ⟨2, ![8192, 512]⟩
abbrev S8192x128 : Shape := ⟨2, ![8192, 128]⟩
abbrev S512x2048 : Shape := ⟨2, ![512, 2048]⟩
abbrev S1x1x2048 : Shape := ⟨3, ![1, 1, 2048]⟩
abbrev S1x2048x1024 : Shape := ⟨3, ![1, 2048, 1024]⟩
abbrev S1x2048x640 : Shape := ⟨3, ![1, 2048, 640]⟩
abbrev S512x1024 : Shape := ⟨2, ![512, 1024]⟩
abbrev S1x1024x512 : Shape := ⟨3, ![1, 1024, 512]⟩
abbrev S1x1x1024x512 : Shape := ⟨4, ![1, 1, 1024, 512]⟩
abbrev S512x512 : Shape := ⟨2, ![512, 512]⟩
abbrev S512x128 : Shape := ⟨2, ![512, 128]⟩
abbrev S1x2048 : Shape := ⟨2, ![1, 2048]⟩
abbrev S512 : Shape := ⟨1, ![512]⟩
abbrev S512x1 : Shape := ⟨2, ![512, 1]⟩
abbrev S2048x640 : Shape := ⟨2, ![2048, 640]⟩
abbrev S512x640 : Shape := ⟨2, ![512, 640]⟩
abbrev S2048x1024 : Shape := ⟨2, ![2048, 1024]⟩
abbrev S1024x512 : Shape := ⟨2, ![1024, 512]⟩
abbrev S4x16x64x2048 : Shape := ⟨4, ![4, 16, 64, 2048]⟩
abbrev S4x2048x16x64 : Shape := ⟨4, ![4, 2048, 16, 64]⟩

abbrev nBuf : Space → Nat
  | .hbm => 28
  | .vmem => 25
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x5648, .f32⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x5120, .f32⟩
  | .hbm, ⟨7, _⟩ => ⟨S4x2048x5120, .bf16⟩
  | .hbm, ⟨8, _⟩ => ⟨S4x2048x528, .f32⟩
  | .hbm, ⟨9, _⟩ => ⟨S_, .i32⟩
  | .hbm, ⟨10, _⟩ => ⟨S_, .f32⟩
  | .hbm, ⟨11, _⟩ => ⟨S4x2048x640, .f32⟩
  | .hbm, ⟨12, _⟩ => ⟨S4x2048x640, .bf16⟩
  | .hbm, ⟨13, _⟩ => ⟨S8192x2048, .f32⟩
  | .hbm, ⟨14, _⟩ => ⟨S4x1x2048, .f32⟩
  | .hbm, ⟨15, _⟩ => ⟨S8192x1024, .bf16⟩
  | .hbm, ⟨16, _⟩ => ⟨S4x1024x2048, .f32⟩
  | .hbm, ⟨17, _⟩ => ⟨S4x1024x2048, .f32⟩
  | .hbm, ⟨18, _⟩ => ⟨S4x4x1024x512, .bf16⟩
  | .hbm, ⟨19, _⟩ => ⟨S4x4x1024x512, .bf16⟩
  | .hbm, ⟨20, _⟩ => ⟨S8192x1024, .f32⟩
  | .hbm, ⟨21, _⟩ => ⟨S8192x1024, .f32⟩
  | .hbm, ⟨22, _⟩ => ⟨S8192x512, .f32⟩
  | .hbm, ⟨23, _⟩ => ⟨S8192x128, .f32⟩
  | .hbm, ⟨24, _⟩ => ⟨S4x16x64x2048, .f32⟩
  | .hbm, ⟨25, _⟩ => ⟨S4x2048x16x64, .f32⟩
  | .hbm, ⟨26, _⟩ => ⟨S4x16x64x2048, .f32⟩
  | .hbm, ⟨27, _⟩ => ⟨S4x2048x16x64, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x640, .bf16⟩
  | .local _ .vmem, ⟨6, _⟩ => ⟨S512x1024, .bf16⟩
  | .local _ .vmem, ⟨7, _⟩ => ⟨S512x1024, .bf16⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1x1024x512, .bf16⟩
  | .local _ .vmem, ⟨13, _⟩ => ⟨S1x1x1024x512, .bf16⟩
  | .local _ .vmem, ⟨14, _⟩ => ⟨S1x1x1024x512, .bf16⟩
  | .local _ .vmem, ⟨15, _⟩ => ⟨S1x1x1024x512, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x512, .f32⟩
  | .local _ .vmem, ⟨21, _⟩ => ⟨S512x512, .f32⟩
  | .local _ .vmem, ⟨22, _⟩ => ⟨S512x128, .f32⟩
  | .local _ .vmem, ⟨23, _⟩ => ⟨S512x128, .f32⟩
  | .local _ .vmem, ⟨24, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v10_5 : Ref sig .tc := ⟨.hbm, 20, rfl⟩
abbrev main_v10_6 : Ref sig .tc := ⟨.hbm, 21, rfl⟩
abbrev main_v10_7 : Ref sig .tc := ⟨.hbm, 22, rfl⟩
abbrev main_v10_8 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 5], ![false, false]⟩

def k0_cond4 (i : grid0.Coords) : BitVec 1 :=
  let arg1 : BitVec 32 := BitVec.ofNat 32 (i 1).val
  let c0_i32_8 : BitVec 32 := 0#32
  let v17 : BitVec 1 := Scalar.cmpi .sge arg1 c0_i32_8
  let c1_i32 : BitVec 32 := 1#32
  let v18 : BitVec 1 := Scalar.cmpi .slt arg1 c1_i32
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg1 : BitVec 32 := BitVec.ofNat 32 (i 1).val
  let c1_i32_10 : BitVec 32 := 1#32
  let v22 : BitVec 1 := Scalar.cmpi .sge arg1 c1_i32_10
  let c2_i32 : BitVec 32 := 2#32
  let v23 : BitVec 1 := Scalar.cmpi .slt arg1 c2_i32
  let v24 : BitVec 1 := Scalar.andi v22 v23
  let v25 : BitVec 32 := Scalar.extui v24
  let c0_i32_11 : BitVec 32 := 0#32
  let v26 : BitVec 1 := Scalar.cmpi .ne v25 c0_i32_11
  v26

def k0_cond6 (i : grid0.Coords) : BitVec 1 :=
  let arg1 : BitVec 32 := BitVec.ofNat 32 (i 1).val
  let c2_i32_12 : BitVec 32 := 2#32
  let v27 : BitVec 1 := Scalar.cmpi .sge arg1 c2_i32_12
  let c3_i32_13 : BitVec 32 := 3#32
  let v28 : BitVec 1 := Scalar.cmpi .slt arg1 c3_i32_13
  let v29 : BitVec 1 := Scalar.andi v27 v28
  let v30 : BitVec 32 := Scalar.extui v29
  let c0_i32_14 : BitVec 32 := 0#32
  let v31 : BitVec 1 := Scalar.cmpi .ne v30 c0_i32_14
  v31

def k0_cond2 (i : grid0.Coords) : BitVec 1 :=
  let arg1 : BitVec 32 := BitVec.ofNat 32 (i 1).val
  let c3_i32 : BitVec 32 := 3#32
  let v7 : BitVec 1 := Scalar.cmpi .sge arg1 c3_i32
  let c4_i32 : BitVec 32 := 4#32
  let v8 : BitVec 1 := Scalar.cmpi .slt arg1 c4_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg1 : BitVec 32 := BitVec.ofNat 32 (i 1).val
  let c4_i32_6 : BitVec 32 := 4#32
  let v12 : BitVec 1 := Scalar.cmpi .sge arg1 c4_i32_6
  let c5_i32 : BitVec 32 := 5#32
  let v13 : BitVec 1 := Scalar.cmpi .slt arg1 c5_i32
  let v14 : BitVec 1 := Scalar.andi v12 v13
  let v15 : BitVec 32 := Scalar.extui v14
  let c0_i32_7 : BitVec 32 := 0#32
  let v16 : BitVec 1 := Scalar.cmpi .ne v15 c0_i32_7
  v16

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference5Ideal.lean ====
abbrev S4x2048x2048 : Shape := ⟨3, ![4, 2048, 2048]⟩
abbrev S4x2048 : Shape := ⟨2, ![4, 2048]⟩
abbrev S4x2048x5648 : Shape := ⟨3, ![4, 2048, 5648]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x5648 : Shape := ⟨3, ![1, 2048, 5648]⟩
abbrev S2048x5648 : Shape := ⟨2, ![2048, 5648]⟩
abbrev S8192x5648 : Shape := ⟨2, ![8192, 5648]⟩
abbrev S8192x1024 : Shape := ⟨2, ![8192, 1024]⟩
abbrev S8192x512 : Shape := ⟨2, ![8192, 512]⟩
abbrev S8192x16 : Shape := ⟨2, ![8192, 16]⟩
abbrev S4x2048x16x64 : Shape := ⟨4, ![4, 2048, 16, 64]⟩
abbrev S4x4x512x1024 : Shape := ⟨4, ![4, 4, 512, 1024]⟩
abbrev S4x4x1024x512 : Shape := ⟨4, ![4, 4, 1024, 512]⟩
abbrev S8192x128 : Shape := ⟨2, ![8192, 128]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x5648, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x5648, .f32⟩
  | .hbm, ⟨23, _⟩ => ⟨S2048x5648, .f32⟩
  | .hbm, ⟨24, _⟩ => ⟨S8192x5648, .f32⟩
  | .hbm, ⟨25, _⟩ => ⟨S8192x1024, .f32⟩
  | .hbm, ⟨26, _⟩ => ⟨S8192x1024, .f32⟩
  | .hbm, ⟨27, _⟩ => ⟨S8192x512, .f32⟩
  | .hbm, ⟨28, _⟩ => ⟨S8192x16, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .bf16⟩
  | .hbm, ⟨36, _⟩ => ⟨S4x2048x16x64, .f32⟩
  | .hbm, ⟨37, _⟩ => ⟨S4x2048x16x64, .f32⟩
  | .hbm, ⟨38, _⟩ => ⟨S4x4x512x1024, .f32⟩
  | .hbm, ⟨39, _⟩ => ⟨S4x4x1024x512, .f32⟩
  | .hbm, ⟨40, _⟩ => ⟨S4x4x1024x512, .bf16⟩
  | .hbm, ⟨41, _⟩ => ⟨S4x4x512x1024, .f32⟩
  | .hbm, ⟨42, _⟩ => ⟨S4x4x1024x512, .f32⟩
  | .hbm, ⟨43, _⟩ => ⟨S4x4x1024x512, .bf16⟩
  | .hbm, ⟨44, _⟩ => ⟨S_, .i32⟩
  | .hbm, ⟨45, _⟩ => ⟨S_, .f32⟩
  | .hbm, ⟨46, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_call0_v0 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel6.lean ====
abbrev S8x1x1024 : Shape := ⟨3, ![8, 1, 1024]⟩
abbrev S8x1x1536 : Shape := ⟨3, ![8, 1, 1536]⟩
abbrev S8x1x16 : Shape := ⟨3, ![8, 1, 16]⟩
abbrev S4x8x3x1536 : Shape := ⟨4, ![4, 8, 3, 1536]⟩
abbrev S4x8x16x64x128 : Shape := ⟨5, ![4, 8, 16, 64, 128]⟩
abbrev S4x4x1536 : Shape := ⟨3, ![4, 4, 1536]⟩
abbrev S4x1536 : Shape := ⟨2, ![4, 1536]⟩
abbrev S4x16 : Shape := ⟨2, ![4, 16]⟩
abbrev S4x1024 : Shape := ⟨2, ![4, 1024]⟩
abbrev S8x1024 : Shape := ⟨2, ![8, 1024]⟩
abbrev S_ : Shape := ⟨0, ![]⟩
abbrev S16x1024 : Shape := ⟨2, ![16, 1024]⟩
abbrev S8x1x512 : Shape := ⟨3, ![8, 1, 512]⟩
abbrev S8x512 : Shape := ⟨2, ![8, 512]⟩
abbrev S16x512 : Shape := ⟨2, ![16, 512]⟩
abbrev S8x16 : Shape := ⟨2, ![8, 16]⟩
abbrev S16x16 : Shape := ⟨2, ![16, 16]⟩
abbrev S16x128 : Shape := ⟨2, ![16, 128]⟩
abbrev S4x128 : Shape := ⟨2, ![4, 128]⟩
abbrev S4x1x128 : Shape := ⟨3, ![4, 1, 128]⟩
abbrev S4x16x64 : Shape := ⟨3, ![4, 16, 64]⟩
abbrev S4x1x1024 : Shape := ⟨3, ![4, 1, 1024]⟩
abbrev S4x8x1024x128 : Shape := ⟨4, ![4, 8, 1024, 128]⟩
abbrev S1x4x1536 : Shape := ⟨3, ![1, 4, 1536]⟩
abbrev S1x1536 : Shape := ⟨2, ![1, 1536]⟩
abbrev S1536 : Shape := ⟨1, ![1536]⟩
abbrev S1x1x128 : Shape := ⟨3, ![1, 1, 128]⟩
abbrev S1x128 : Shape := ⟨2, ![1, 128]⟩
abbrev S1x1x1024 : Shape := ⟨3, ![1, 1, 1024]⟩
abbrev S1x1024 : Shape := ⟨2, ![1, 1024]⟩
abbrev S8x3x1536 : Shape := ⟨3, ![8, 3, 1536]⟩
abbrev S8x1024x128 : Shape := ⟨3, ![8, 1024, 128]⟩
abbrev S1x1x3x1536 : Shape := ⟨4, ![1, 1, 3, 1536]⟩
abbrev S1x1x1024x128 : Shape := ⟨4, ![1, 1, 1024, 128]⟩
abbrev S1x3x1536 : Shape := ⟨3, ![1, 3, 1536]⟩
abbrev S1x1024x128 : Shape := ⟨3, ![1, 1024, 128]⟩
abbrev S1x512 : Shape := ⟨2, ![1, 512]⟩
abbrev S3x1536 : Shape := ⟨2, ![3, 1536]⟩
abbrev S1x1x1536 : Shape := ⟨3, ![1, 1, 1536]⟩
abbrev S1x1 : Shape := ⟨2, ![1, 1]⟩
abbrev S1 : Shape := ⟨1, ![1]⟩
abbrev S1024x128 : Shape := ⟨2, ![1024, 128]⟩
abbrev S8x128 : Shape := ⟨2, ![8, 128]⟩
abbrev S512x128 : Shape := ⟨2, ![512, 128]⟩
abbrev S1x512x128 : Shape := ⟨3, ![1, 512, 128]⟩

abbrev nBuf : Space → Nat
  | .hbm => 61
  | .vmem => 20
  | .smem => 0
  | _ => 0

abbrev bufTy : (tb : Table) → Fin (tcTables nBuf tb) → BufTy
  | .hbm, ⟨0, _⟩ => ⟨S8x1x1024, .f32⟩
  | .hbm, ⟨1, _⟩ => ⟨S8x1x1536, .f32⟩
  | .hbm, ⟨2, _⟩ => ⟨S8x1x16, .f32⟩
  | .hbm, ⟨3, _⟩ => ⟨S4x8x3x1536, .f32⟩
  | .hbm, ⟨4, _⟩ => ⟨S4x8x16x64x128, .f32⟩
  | .hbm, ⟨5, _⟩ => ⟨S4x4x1536, .f32⟩
  | .hbm, ⟨6, _⟩ => ⟨S4x1536, .f32⟩
  | .hbm, ⟨7, _⟩ => ⟨S4x16, .f32⟩
  | .hbm, ⟨8, _⟩ => ⟨S4x16, .f32⟩
  | .hbm, ⟨9, _⟩ => ⟨S4x16, .f32⟩
  | .hbm, ⟨10, _⟩ => ⟨S4x1024, .f32⟩
  | .hbm, ⟨11, _⟩ => ⟨S8x1x1024, .f32⟩
  | .hbm, ⟨12, _⟩ => ⟨S8x1024, .f32⟩
  | .hbm, ⟨13, _⟩ => ⟨S_, .i32⟩
  | .hbm, ⟨14, _⟩ => ⟨S_, .f32⟩
  | .hbm, ⟨15, _⟩ => ⟨S16x1024, .f32⟩
  | .hbm, ⟨16, _⟩ => ⟨S8x1x512, .f32⟩
  | .hbm, ⟨17, _⟩ => ⟨S8x512, .f32⟩
  | .hbm, ⟨18, _⟩ => ⟨S_, .i32⟩
  | .hbm, ⟨19, _⟩ => ⟨S_, .f32⟩
  | .hbm, ⟨20, _⟩ => ⟨S16x512, .f32⟩
  | .hbm, ⟨21, _⟩ => ⟨S8x16, .f32⟩
  | .hbm, ⟨22, _⟩ => ⟨S_, .i32⟩
  | .hbm, ⟨23, _⟩ => ⟨S_, .f32⟩
  | .hbm, ⟨24, _⟩ => ⟨S16x16, .f32⟩
  | .hbm, ⟨25, _⟩ => ⟨S_, .i32⟩
  | .hbm, ⟨26, _⟩ => ⟨S_, .f32⟩
  | .hbm, ⟨27, _⟩ => ⟨S16x128, .f32⟩
  | .hbm, ⟨28, _⟩ => ⟨S_, .i32⟩
  | .hbm, ⟨29, _⟩ => ⟨S_, .f32⟩
  | .hbm, ⟨30, _⟩ => ⟨S4x128, .f32⟩
  | .hbm, ⟨31, _⟩ => ⟨S4x1x128, .f32⟩
  | .hbm, ⟨32, _⟩ => ⟨S_, .i32⟩
  | .hbm, ⟨33, _⟩ => ⟨S_, .f32⟩
  | .hbm, ⟨34, _⟩ => ⟨S4x128, .f32⟩
  | .hbm, ⟨35, _⟩ => ⟨S4x1x128, .f32⟩
  | .hbm, ⟨36, _⟩ => ⟨S4x16x64, .f32⟩
  | .hbm, ⟨37, _⟩ => ⟨S4x1024, .f32⟩
  | .hbm, ⟨38, _⟩ => ⟨S4x1x1024, .f32⟩
  | .hbm, ⟨39, _⟩ => ⟨S4x1x1024, .f32⟩
  | .hbm, ⟨40, _⟩ => ⟨S4x8x1024x128, .f32⟩
  | .hbm, ⟨41, _⟩ => ⟨S8x1024, .f32⟩
  | .hbm, ⟨42, _⟩ => ⟨S_, .i32⟩
  | .hbm, ⟨43, _⟩ => ⟨S_, .f32⟩
  | .hbm, ⟨44, _⟩ => ⟨S16x1024, .f32⟩
  | .hbm, ⟨45, _⟩ => ⟨S1x4x1536, .f32⟩
  | .hbm, ⟨46, _⟩ => ⟨S4x1536, .f32⟩
  | .hbm, ⟨47, _⟩ => ⟨S1x1536, .f32⟩
  | .hbm, ⟨48, _⟩ => ⟨S1536, .f32⟩
  | .hbm, ⟨49, _⟩ => ⟨S1x1536, .f32⟩
  | .hbm, ⟨50, _⟩ => ⟨S1x1x128, .f32⟩
  | .hbm, ⟨51, _⟩ => ⟨S1x128, .f32⟩
  | .hbm, ⟨52, _⟩ => ⟨S1x1x128, .f32⟩
  | .hbm, ⟨53, _⟩ => ⟨S1x128, .f32⟩
  | .hbm, ⟨54, _⟩ => ⟨S1x1x1024, .f32⟩
  | .hbm, ⟨55, _⟩ => ⟨S1x1024, .f32⟩
  | .hbm, ⟨56, _⟩ => ⟨S1x1x1024, .f32⟩
  | .hbm, ⟨57, _⟩ => ⟨S1x1024, .f32⟩
  | .hbm, ⟨58, _⟩ => ⟨S8x1x1024, .f32⟩
  | .hbm, ⟨59, _⟩ => ⟨S8x3x1536, .f32⟩
  | .hbm, ⟨60, _⟩ => ⟨S8x1024x128, .f32⟩
  | .local _ .vmem, ⟨0, _⟩ => ⟨S16x1024, .f32⟩
  | .local _ .vmem, ⟨1, _⟩ => ⟨S16x512, .f32⟩
  | .local _ .vmem, ⟨2, _⟩ => ⟨S16x128, .f32⟩
  | .local _ .vmem, ⟨3, _⟩ => ⟨S16x1024, .f32⟩
  | .local _ .vmem, ⟨4, _⟩ => ⟨S1x1x3x1536, .f32⟩
  | .local _ .vmem, ⟨5, _⟩ => ⟨S1x1x3x1536, .f32⟩
  | .local _ .vmem, ⟨6, _⟩ => ⟨S1x1x1024x128, .f32⟩
  | .local _ .vmem, ⟨7, _⟩ => ⟨S1x1x1024x128, .f32⟩
  | .local _ .vmem, ⟨8, _⟩ => ⟨S4x1536, .f32⟩
  | .local _ .vmem, ⟨9, _⟩ => ⟨S1x1536, .f32⟩
  | .local _ .vmem, ⟨10, _⟩ => ⟨S1x128, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x3x1536, .f32⟩
  | .local _ .vmem, ⟨17, _⟩ => ⟨S1x3x1536, .f32⟩
  | .local _ .vmem, ⟨18, _⟩ => ⟨S1x1024x128, .f32⟩
  | .local _ .vmem, ⟨19, _⟩ => ⟨S1x1024x128, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_c_2 : Ref sig .tc := ⟨.hbm, 25, rfl⟩
abbrev main_call3_v0 : Ref sig .tc := ⟨.hbm, 26, rfl⟩
abbrev main_v8 : Ref sig .tc := ⟨.hbm, 27, rfl⟩
abbrev main_c_3 : Ref sig .tc := ⟨.hbm, 28, rfl⟩
abbrev main_call4_v0 : Ref sig .tc := ⟨.hbm, 29, rfl⟩
abbrev main_v9 : Ref sig .tc := ⟨.hbm, 30, rfl⟩
abbrev main_v10 : Ref sig .tc := ⟨.hbm, 31, rfl⟩
abbrev main_c_4 : Ref sig .tc := ⟨.hbm, 32, rfl⟩
abbrev main_call5_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_call6_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33_0 : Ref sig .tc := ⟨.hbm, 58, rfl⟩
abbrev main_v33_1 : Ref sig .tc := ⟨.hbm, 59, rfl⟩
abbrev main_v33_2 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v3 : Index := Scalar.indexCast arg0
  let c0_0 : Index := 0#32
  ![v3.toNat, 0]
def k0_off3 (i : grid0.Coords) : Fin 2 → Nat :=
  let arg0 : BitVec 32 := BitVec.ofNat 32 (i 0).val
  let v76 : Index := Scalar.indexCast arg0
  let c0_25 : Index := 0#32
  ![v76.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_5 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x3x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x3x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S8x1x1024 : Shape := ⟨3, ![8, 1, 1024]⟩
abbrev S8x1x1536 : Shape := ⟨3, ![8, 1, 1536]⟩
abbrev S8x1x16 : Shape := ⟨3, ![8, 1, 16]⟩
abbrev S4x8x3x1536 : Shape := ⟨4, ![4, 8, 3, 1536]⟩
abbrev S4x8x16x64x128 : Shape := ⟨5, ![4, 8, 16, 64, 128]⟩
abbrev S4x4x1536 : Shape := ⟨3, ![4, 4, 1536]⟩
abbrev S4x1536 : Shape := ⟨2, ![4, 1536]⟩
abbrev S4x16 : Shape := ⟨2, ![4, 16]⟩
abbrev S4x1024 : Shape := ⟨2, ![4, 1024]⟩
abbrev S1x8x3x1536 : Shape := ⟨4, ![1, 8, 3, 1536]⟩
abbrev S8x3x1536 : Shape := ⟨3, ![8, 3, 1536]⟩
abbrev S8x4x1536 : Shape := ⟨3, ![8, 4, 1536]⟩
abbrev S1x1536 : Shape := ⟨2, ![1, 1536]⟩
abbrev S1536 : Shape := ⟨1, ![1536]⟩
abbrev S8x1536 : Shape := ⟨2, ![8, 1536]⟩
abbrev S1x4x1536 : Shape := ⟨3, ![1, 4, 1536]⟩
abbrev S_ : Shape := ⟨0, ![]⟩
abbrev S8x1024 : Shape := ⟨2, ![8, 1024]⟩
abbrev S8x2x8x64 : Shape := ⟨4, ![8, 2, 8, 64]⟩
abbrev S8x256 : Shape := ⟨2, ![8, 256]⟩
abbrev S8x2x128 : Shape := ⟨3, ![8, 2, 128]⟩
abbrev S8x16 : Shape := ⟨2, ![8, 16]⟩
abbrev S1x16 : Shape := ⟨2, ![1, 16]⟩
abbrev S16 : Shape := ⟨1, ![16]⟩
abbrev S8x2x8 : Shape := ⟨3, ![8, 2, 8]⟩
abbrev S8x2x8x1 : Shape := ⟨4, ![8, 2, 8, 1]⟩
abbrev S1x8x16x64x128 : Shape := ⟨5, ![1, 8, 16, 64, 128]⟩
abbrev S8x16x64x128 : Shape := ⟨4, ![8, 16, 64, 128]⟩
abbrev S8x2x8x64x128 : Shape := ⟨5, ![8, 2, 8, 64, 128]⟩
abbrev S8x2x8x1x1 : Shape := ⟨5, ![8, 2, 8, 1, 1]⟩
abbrev S8x2x8x64x1 : Shape := ⟨5, ![8, 2, 8, 64, 1]⟩
abbrev S8x2x1x1x128 : Shape := ⟨5, ![8, 2, 1, 1, 128]⟩
abbrev S8x2 : Shape := ⟨2, ![8, 2]⟩
abbrev S8x2x1x1 : Shape := ⟨4, ![8, 2, 1, 1]⟩
abbrev S2x8 : Shape := ⟨2, ![2, 8]⟩
abbrev S2x8x1 : Shape := ⟨3, ![2, 8, 1]⟩
abbrev S1x2x8x1 : Shape := ⟨4, ![1, 2, 8, 1]⟩
abbrev S1x1024 : Shape := ⟨2, ![1, 1024]⟩
abbrev S1024 : Shape := ⟨1, ![1024]⟩
abbrev S8x1 : Shape := ⟨2, ![8, 1]⟩
abbrev S8x1x1 : Shape := ⟨3, ![8, 1, 1]⟩
abbrev S1x1x1024 : Shape := ⟨3, ![1, 1, 1024]⟩
abbrev S8x1024x128 : Shape := ⟨3, ![8, 1024, 128]⟩

abbrev nBuf : Space → Nat
  | .hbm => 172
  | .vmem => 0
  | .smem => 0
  | _ => 0

abbrev hbmTy0_0 (i : Nat) : BufTy := match i % 128 with
  | 0 => ⟨S8x1x1024, .f32⟩
  | 1 => ⟨S8x1x1536, .f32⟩
  | 2 => ⟨S8x1x16, .f32⟩
  | 3 => ⟨S4x8x3x1536, .f32⟩
  | 4 => ⟨S4x8x16x64x128, .f32⟩
  | 5 => ⟨S4x4x1536, .f32⟩
  | 6 => ⟨S4x1536, .f32⟩
  | 7 => ⟨S4x16, .f32⟩
  | 8 => ⟨S4x16, .f32⟩
  | 9 => ⟨S4x16, .f32⟩
  | 10 => ⟨S4x1024, .f32⟩
  | 11 => ⟨S1x8x3x1536, .f32⟩
  | 12 => ⟨S8x3x1536, .f32⟩
  | 13 => ⟨S8x4x1536, .f32⟩
  | 14 => ⟨S1x1536, .f32⟩
  | 15 => ⟨S1536, .f32⟩
  | 16 => ⟨S8x1x1536, .f32⟩
  | 17 => ⟨S8x1536, .f32⟩
  | 18 => ⟨S1x4x1536, .f32⟩
  | 19 => ⟨S4x1536, .f32⟩
  | 20 => ⟨S1x1536, .f32⟩
  | 21 => ⟨S1536, .f32⟩
  | 22 => ⟨S1x1536, .f32⟩
  | 23 => ⟨S8x1536, .f32⟩
  | 24 => ⟨S8x1536, .f32⟩
  | 25 => ⟨S1x1536, .f32⟩
  | 26 => ⟨S8x1536, .f32⟩
  | 27 => ⟨S8x1536, .f32⟩
  | 28 => ⟨S8x1x1536, .f32⟩
  | 29 => ⟨S8x1536, .f32⟩
  | 30 => ⟨S1x4x1536, .f32⟩
  | 31 => ⟨S4x1536, .f32⟩
  | 32 => ⟨S1x1536, .f32⟩
  | 33 => ⟨S1536, .f32⟩
  | 34 => ⟨S1x1536, .f32⟩
  | 35 => ⟨S8x1536, .f32⟩
  | 36 => ⟨S8x1536, .f32⟩
  | 37 => ⟨S8x1536, .f32⟩
  | 38 => ⟨S8x1x1536, .f32⟩
  | 39 => ⟨S8x1536, .f32⟩
  | 40 => ⟨S1x4x1536, .f32⟩
  | 41 => ⟨S4x1536, .f32⟩
  | 42 => ⟨S1x1536, .f32⟩
  | 43 => ⟨S1536, .f32⟩
  | 44 => ⟨S1x1536, .f32⟩
  | 45 => ⟨S8x1536, .f32⟩
  | 46 => ⟨S8x1536, .f32⟩
  | 47 => ⟨S8x1536, .f32⟩
  | 48 => ⟨S8x1x1536, .f32⟩
  | 49 => ⟨S8x1536, .f32⟩
  | 50 => ⟨S1x4x1536, .f32⟩
  | 51 => ⟨S4x1536, .f32⟩
  | 52 => ⟨S1x1536, .f32⟩
  | 53 => ⟨S1536, .f32⟩
  | 54 => ⟨S1x1536, .f32⟩
  | 55 => ⟨S8x1536, .f32⟩
  | 56 => ⟨S8x1536, .f32⟩
  | 57 => ⟨S8x1536, .f32⟩
  | 58 => ⟨S8x1536, .f32⟩
  | 59 => ⟨S8x1536, .f32⟩
  | 60 => ⟨S_, .f32⟩
  | 61 => ⟨S8x1536, .f32⟩
  | 62 => ⟨S8x1536, .f32⟩
  | 63 => ⟨S_, .f32⟩
  | 64 => ⟨S8x1536, .f32⟩
  | 65 => ⟨S8x1536, .f32⟩
  | 66 => ⟨S8x1536, .f32⟩
  | 67 => ⟨S8x1024, .f32⟩
  | 68 => ⟨S8x2x8x64, .f32⟩
  | 69 => ⟨S8x256, .f32⟩
  | 70 => ⟨S8x2x128, .f32⟩
  | 71 => ⟨S8x256, .f32⟩
  | 72 => ⟨S8x2x128, .f32⟩
  | 73 => ⟨S8x16, .f32⟩
  | 74 => ⟨S1x16, .f32⟩
  | 75 => ⟨S16, .f32⟩
  | 76 => ⟨S1x16, .f32⟩
  | 77 => ⟨S8x16, .f32⟩
  | 78 => ⟨S8x16, .f32⟩
  | 79 => ⟨S_, .f32⟩
  | 80 => ⟨S8x16, .f32⟩
  | 81 => ⟨S8x16, .f32⟩
  | 82 => ⟨S8x16, .f32⟩
  | 83 => ⟨S8x16, .f32⟩
  | 84 => ⟨S8x16, .i1⟩
  | 85 => ⟨S8x16, .f32⟩
  | 86 => ⟨S8x16, .f32⟩
  | 87 => ⟨S8x16, .f32⟩
  | 88 => ⟨S8x16, .f32⟩
  | 89 => ⟨S8x16, .f32⟩
  | 90 => ⟨S8x16, .f32⟩
  | 91 => ⟨S8x16, .f32⟩
  | 92 => ⟨S8x16, .f32⟩
  | 93 => ⟨S1x16, .f32⟩
  | 94 => ⟨S16, .f32⟩
  | 95 => ⟨S16, .f32⟩
  | 96 => ⟨S16, .f32⟩
  | 97 => ⟨S1x16, .f32⟩
  | 98 => ⟨S8x16, .f32⟩
  | 99 => ⟨S8x16, .f32⟩
  | 100 => ⟨S8x16, .f32⟩
  | 101 => ⟨S8x2x8, .f32⟩
  | 102 => ⟨S8x2x8, .f32⟩
  | 103 => ⟨S8x2x8x1, .f32⟩
  | 104 => ⟨S8x2x8x64, .f32⟩
  | 105 => ⟨S8x2x8x64, .f32⟩
  | 106 => ⟨S1x8x16x64x128, .f32⟩
  | 107 => ⟨S8x16x64x128, .f32⟩
  | 108 => ⟨S8x2x8x64x128, .f32⟩
  | 109 => ⟨S8x2x8x1x1, .f32⟩
  | 110 => ⟨S8x2x8x64x128, .f32⟩
  | 111 => ⟨S8x2x8x64x128, .f32⟩
  | 112 => ⟨S8x2x8x64x1, .f32⟩
  | 113 => ⟨S8x2x1x1x128, .f32⟩
  | 114 => ⟨S8x2x8x64x128, .f32⟩
  | 115 => ⟨S8x2x8x64x128, .f32⟩
  | 116 => ⟨S8x2x8x64x128, .f32⟩
  | 117 => ⟨S8x2x8x64x128, .f32⟩
  | 118 => ⟨S8x2x128, .f32⟩
  | 119 => ⟨S_, .f32⟩
  | 120 => ⟨S8x2, .f32⟩
  | 121 => ⟨S8x2x1x1, .f32⟩
  | 122 => ⟨S8x2x8x64, .f32⟩
  | 123 => ⟨S8x2x8x64, .f32⟩
  | 124 => ⟨S8x2x1x1x128, .f32⟩
  | 125 => ⟨S8x2x8x64x128, .f32⟩
  | 126 => ⟨S8x2x8x64x128, .f32⟩
  | 127 => ⟨S_, .f32⟩
  | _ => ⟨S8x1x1024, .f32⟩

abbrev hbmTy0_1 (i : Nat) : BufTy := match i % 128 with
  | 0 => ⟨S8x2x8x64, .f32⟩
  | 1 => ⟨S8x2x8x1, .f32⟩
  | 2 => ⟨S8x2x8x64, .f32⟩
  | 3 => ⟨S8x2x8x64, .f32⟩
  | 4 => ⟨S8x2x8x64, .f32⟩
  | 5 => ⟨S1x16, .f32⟩
  | 6 => ⟨S16, .f32⟩
  | 7 => ⟨S2x8, .f32⟩
  | 8 => ⟨S2x8x1, .f32⟩
  | 9 => ⟨S1x2x8x1, .f32⟩
  | 10 => ⟨S8x2x8x64, .f32⟩
  | 11 => ⟨S8x2x8x64, .f32⟩
  | 12 => ⟨S8x2x8x64, .f32⟩
  | 13 => ⟨S8x1x1024, .f32⟩
  | 14 => ⟨S8x1x1024, .f32⟩
  | 15 => ⟨S8x1x1024, .f32⟩
  | 16 => ⟨S_, .f32⟩
  | 17 => ⟨S8x1x1024, .f32⟩
  | 18 => ⟨S8x1x1024, .f32⟩
  | 19 => ⟨S_, .f32⟩
  | 20 => ⟨S8x1x1024, .f32⟩
  | 21 => ⟨S8x1x1024, .f32⟩
  | 22 => ⟨S8x1x1024, .f32⟩
  | 23 => ⟨S8x1x1024, .f32⟩
  | 24 => ⟨S1x1024, .f32⟩
  | 25 => ⟨S1024, .f32⟩
  | 26 => ⟨S8x1x1024, .f32⟩
  | 27 => ⟨S_, .f32⟩
  | 28 => ⟨S8x1, .f32⟩
  | 29 => ⟨S8x1x1, .f32⟩
  | 30 => ⟨S_, .f32⟩
  | 31 => ⟨S8x1x1, .f32⟩
  | 32 => ⟨S8x1x1, .f32⟩
  | 33 => ⟨S_, .f32⟩
  | 34 => ⟨S8x1x1, .f32⟩
  | 35 => ⟨S8x1x1, .f32⟩
  | 36 => ⟨S8x1x1, .f32⟩
  | 37 => ⟨S8x1x1024, .f32⟩
  | 38 => ⟨S8x1x1024, .f32⟩
  | 39 => ⟨S1x1x1024, .f32⟩
  | 40 => ⟨S8x1x1024, .f32⟩
  | 41 => ⟨S8x1x1024, .f32⟩
  | 42 => ⟨S8x3x1536, .f32⟩
  | 43 => ⟨S8x1024x128, .f32⟩
  | _ => ⟨S8x1x1024, .f32⟩

abbrev hbmTy (i : Nat) : BufTy := match i / 128 with
  | 0 => hbmTy0_0 i
  | 1 => hbmTy0_1 i
  | _ => ⟨S8x1x1024, .f32⟩

abbrev bufTy : (tb : Table) → Fin (tcTables nBuf tb) → BufTy
  | .hbm, ⟨i, _⟩ => hbmTy i
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_0 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_call2_v0 : Ref sig .tc := ⟨.hbm, 142, rfl⟩
abbrev main_call2_v1 : Ref sig .tc := ⟨.hbm, 143, rfl⟩
abbrev main_call2_cst : Ref sig .tc := ⟨.hbm, 144, rfl⟩
abbrev main_call2_v2 : Ref sig .tc := ⟨.hbm, 145, rfl⟩
abbrev main_call2_v3 : Ref sig .tc := ⟨.hbm, 146, rfl⟩
abbrev main_call2_cst_0 : Ref sig .tc := ⟨.hbm, 147, rfl⟩
abbrev main_call2_v4 : Ref sig .tc := ⟨.hbm, 148, rfl⟩
abbrev main_call2_v5 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_1 : Ref sig .tc := ⟨.hbm, 155, rfl⟩
abbrev main_v113 : Ref sig .tc := ⟨.hbm, 156, rfl⟩
abbrev main_v114 : Ref sig .tc := ⟨.hbm, 157, rfl⟩
abbrev main_cst_2 : Ref sig .tc := ⟨.hbm, 158, rfl⟩
abbrev main_v115 : Ref sig .tc := ⟨.hbm, 159, rfl⟩
abbrev main_v116 : Ref sig .tc := ⟨.hbm, 160, rfl⟩
abbrev main_cst_3 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩

abbrev nD : Nat := 1
abbrev τ : Topo := Topo.v7x

variable {F : FTy → Type} [FloatOps F]
-- ==== Kernel7.lean ====
abbrev S8x1x2048 : Shape := ⟨3, ![8, 1, 2048]⟩
abbrev S4x8x1x256 : Shape := ⟨4, ![4, 8, 1, 256]⟩
abbrev S4x2048 : Shape := ⟨2, ![4, 2048]⟩
abbrev S4x2048x2048 : Shape := ⟨3, ![4, 2048, 2048]⟩
abbrev S4x256x2048 : Shape := ⟨3, ![4, 256, 2048]⟩
abbrev S4x8x256 : Shape := ⟨3, ![4, 8, 256]⟩
abbrev S_ : Shape := ⟨0, ![]⟩
abbrev S4x16x256 : Shape := ⟨3, ![4, 16, 256]⟩
abbrev S8x2048 : Shape := ⟨2, ![8, 2048]⟩
abbrev S16x2048 : Shape := ⟨2, ![16, 2048]⟩
abbrev S4x1x2048 : Shape := ⟨3, ![4, 1, 2048]⟩
abbrev S1x16x256 : Shape := ⟨3, ![1, 16, 256]⟩
abbrev S1x1x2048 : Shape := ⟨3, ![1, 1, 2048]⟩
abbrev S1x2048x2048 : Shape := ⟨3, ![1, 2048, 2048]⟩
abbrev S1x256x2048 : Shape := ⟨3, ![1, 256, 2048]⟩
abbrev S1x2048 : Shape := ⟨2, ![1, 2048]⟩
abbrev S16 : Shape := ⟨1, ![16]⟩
abbrev S16x1 : Shape := ⟨2, ![16, 1]⟩
abbrev S2048x2048 : Shape := ⟨2, ![2048, 2048]⟩
abbrev S16x256 : Shape := ⟨2, ![16, 256]⟩
abbrev S256x2048 : Shape := ⟨2, ![256, 2048]⟩

abbrev nBuf : Space → Nat
  | .hbm => 19
  | .vmem => 6
  | .smem => 0
  | _ => 0

abbrev bufTy : (tb : Table) → Fin (tcTables nBuf tb) → BufTy
  | .hbm, ⟨0, _⟩ => ⟨S8x1x2048, .f32⟩
  | .hbm, ⟨1, _⟩ => ⟨S4x8x1x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S4x8x256, .f32⟩
  | .hbm, ⟨6, _⟩ => ⟨S_, .i32⟩
  | .hbm, ⟨7, _⟩ => ⟨S_, .f32⟩
  | .hbm, ⟨8, _⟩ => ⟨S4x16x256, .f32⟩
  | .hbm, ⟨9, _⟩ => ⟨S8x2048, .f32⟩
  | .hbm, ⟨10, _⟩ => ⟨S_, .i32⟩
  | .hbm, ⟨11, _⟩ => ⟨S_, .f32⟩
  | .hbm, ⟨12, _⟩ => ⟨S16x2048, .f32⟩
  | .hbm, ⟨13, _⟩ => ⟨S4x1x2048, .f32⟩
  | .hbm, ⟨14, _⟩ => ⟨S4x2048x2048, .bf16⟩
  | .hbm, ⟨15, _⟩ => ⟨S4x256x2048, .bf16⟩
  | .hbm, ⟨16, _⟩ => ⟨S16x2048, .f32⟩
  | .hbm, ⟨17, _⟩ => ⟨S8x2048, .f32⟩
  | .hbm, ⟨18, _⟩ => ⟨S8x1x2048, .f32⟩
  | .local _ .vmem, ⟨0, _⟩ => ⟨S16x2048, .f32⟩
  | .local _ .vmem, ⟨1, _⟩ => ⟨S1x16x256, .f32⟩
  | .local _ .vmem, ⟨2, _⟩ => ⟨S1x1x2048, .f32⟩
  | .local _ .vmem, ⟨3, _⟩ => ⟨S1x2048x2048, .bf16⟩
  | .local _ .vmem, ⟨4, _⟩ => ⟨S1x256x2048, .bf16⟩
  | .local _ .vmem, ⟨5, _⟩ => ⟨S16x2048, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference7Ideal.lean ====
abbrev S8x1x2048 : Shape := ⟨3, ![8, 1, 2048]⟩
abbrev S4x8x1x256 : Shape := ⟨4, ![4, 8, 1, 256]⟩
abbrev S4x2048 : Shape := ⟨2, ![4, 2048]⟩
abbrev S4x2048x2048 : Shape := ⟨3, ![4, 2048, 2048]⟩
abbrev S4x256x2048 : Shape := ⟨3, ![4, 256, 2048]⟩
abbrev S1x2048 : Shape := ⟨2, ![1, 2048]⟩
abbrev S2048 : Shape := ⟨1, ![2048]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x8x1x256 : Shape := ⟨4, ![1, 8, 1, 256]⟩
abbrev S8x1x256 : Shape := ⟨3, ![8, 1, 256]⟩
abbrev S1x256x2048 : Shape := ⟨3, ![1, 256, 2048]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S4x8x1x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S1x2048, .f32⟩
  | .hbm, ⟨6, _⟩ => ⟨S2048, .f32⟩
  | .hbm, ⟨7, _⟩ => ⟨S8x1x2048, .f32⟩
  | .hbm, ⟨8, _⟩ => ⟨S_, .f32⟩
  | .hbm, ⟨9, _⟩ => ⟨S8x1, .f32⟩
  | .hbm, ⟨10, _⟩ => ⟨S8x1x1, .f32⟩
  | .hbm, ⟨11, _⟩ => ⟨S_, .f32⟩
  | .hbm, ⟨12, _⟩ => ⟨S8x1x1, .f32⟩
  | .hbm, ⟨13, _⟩ => ⟨S8x1x1, .f32⟩
  | .hbm, ⟨14, _⟩ => ⟨S_, .f32⟩
  | .hbm, ⟨15, _⟩ => ⟨S8x1x1, .f32⟩
  | .hbm, ⟨16, _⟩ => ⟨S8x1x1, .f32⟩
  | .hbm, ⟨17, _⟩ => ⟨S8x1x1, .f32⟩
  | .hbm, ⟨18, _⟩ => ⟨S8x1x2048, .f32⟩
  | .hbm, ⟨19, _⟩ => ⟨S8x1x2048, .f32⟩
  | .hbm, ⟨20, _⟩ => ⟨S1x1x2048, .f32⟩
  | .hbm, ⟨21, _⟩ => ⟨S8x1x2048, .f32⟩
  | .hbm, ⟨22, _⟩ => ⟨S8x1x2048, .f32⟩
  | .hbm, ⟨23, _⟩ => ⟨S1x2048x2048, .f32⟩
  | .hbm, ⟨24, _⟩ => ⟨S2048x2048, .f32⟩
  | .hbm, ⟨25, _⟩ => ⟨S8x1x2048, .f32⟩
  | .hbm, ⟨26, _⟩ => ⟨S8x1x2048, .f32⟩
  | .hbm, ⟨27, _⟩ => ⟨S8x1x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S_, .f32⟩
  | .hbm, ⟨32, _⟩ => ⟨S8x1x2048, .f32⟩
  | .hbm, ⟨33, _⟩ => ⟨S8x1x2048, .f32⟩
  | .hbm, ⟨34, _⟩ => ⟨S1x8x1x256, .f32⟩
  | .hbm, ⟨35, _⟩ => ⟨S8x1x256, .f32⟩
  | .hbm, ⟨36, _⟩ => ⟨S1x256x2048, .f32⟩
  | .hbm, ⟨37, _⟩ => ⟨S256x2048, .f32⟩
  | .hbm, ⟨38, _⟩ => ⟨S8x1x2048, .f32⟩
  | .hbm, ⟨39, _⟩ => ⟨S8x1x2048, .f32⟩
  | .hbm, ⟨40, _⟩ => ⟨S8x1x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel8.lean ====
abbrev S8x1x2048 : Shape := ⟨3, ![8, 1, 2048]⟩
abbrev S4x2048 : Shape := ⟨2, ![4, 2048]⟩
abbrev S4x2048x5648 : Shape := ⟨3, ![4, 2048, 5648]⟩
abbrev S4x2048x3072 : Shape := ⟨3, ![4, 2048, 3072]⟩
abbrev S4x2048x1024 : Shape := ⟨3, ![4, 2048, 1024]⟩
abbrev S4x2048x5120 : Shape := ⟨3, ![4, 2048, 5120]⟩
abbrev S4x2048x528 : Shape := ⟨3, ![4, 2048, 528]⟩
abbrev S_ : Shape := ⟨0, ![]⟩
abbrev S4x2048x640 : Shape := ⟨3, ![4, 2048, 640]⟩
abbrev S8x2048 : Shape := ⟨2, ![8, 2048]⟩
abbrev S16x2048 : Shape := ⟨2, ![16, 2048]⟩
abbrev S4x1x2048 : Shape := ⟨3, ![4, 1, 2048]⟩
abbrev S16x1024 : Shape := ⟨2, ![16, 1024]⟩
abbrev S16x512 : Shape := ⟨2, ![16, 512]⟩
abbrev S16x128 : Shape := ⟨2, ![16, 128]⟩
abbrev S1x1x2048 : Shape := ⟨3, ![1, 1, 2048]⟩
abbrev S1x2048x1024 : Shape := ⟨3, ![1, 2048, 1024]⟩
abbrev S1x2048x640 : Shape := ⟨3, ![1, 2048, 640]⟩
abbrev S1x2048 : Shape := ⟨2, ![1, 2048]⟩
abbrev S16 : Shape := ⟨1, ![16]⟩
abbrev S16x1 : Shape := ⟨2, ![16, 1]⟩
abbrev S2048x640 : Shape := ⟨2, ![2048, 640]⟩
abbrev S16x640 : Shape := ⟨2, ![16, 640]⟩
abbrev S2048x1024 : Shape := ⟨2, ![2048, 1024]⟩
abbrev S8x1024 : Shape := ⟨2, ![8, 1024]⟩
abbrev S8x1x16x64 : Shape := ⟨4, ![8, 1, 16, 64]⟩
abbrev S8x512 : Shape := ⟨2, ![8, 512]⟩
abbrev S8x128 : Shape := ⟨2, ![8, 128]⟩

abbrev nBuf : Space → Nat
  | .hbm => 34
  | .vmem => 13
  | .smem => 0
  | _ => 0

abbrev bufTy : (tb : Table) → Fin (tcTables nBuf tb) → BufTy
  | .hbm, ⟨0, _⟩ => ⟨S8x1x2048, .f32⟩
  | .hbm, ⟨1, _⟩ => ⟨S4x2048, .f32⟩
  | .hbm, ⟨2, _⟩ => ⟨S4x2048x5648, .f32⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x5120, .f32⟩
  | .hbm, ⟨7, _⟩ => ⟨S4x2048x5120, .bf16⟩
  | .hbm, ⟨8, _⟩ => ⟨S4x2048x528, .f32⟩
  | .hbm, ⟨9, _⟩ => ⟨S_, .i32⟩
  | .hbm, ⟨10, _⟩ => ⟨S_, .f32⟩
  | .hbm, ⟨11, _⟩ => ⟨S4x2048x640, .f32⟩
  | .hbm, ⟨12, _⟩ => ⟨S4x2048x640, .bf16⟩
  | .hbm, ⟨13, _⟩ => ⟨S8x2048, .f32⟩
  | .hbm, ⟨14, _⟩ => ⟨S_, .i32⟩
  | .hbm, ⟨15, _⟩ => ⟨S_, .f32⟩
  | .hbm, ⟨16, _⟩ => ⟨S16x2048, .f32⟩
  | .hbm, ⟨17, _⟩ => ⟨S4x1x2048, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S16x1024, .f32⟩
  | .hbm, ⟨22, _⟩ => ⟨S16x1024, .f32⟩
  | .hbm, ⟨23, _⟩ => ⟨S16x512, .f32⟩
  | .hbm, ⟨24, _⟩ => ⟨S16x128, .f32⟩
  | .hbm, ⟨25, _⟩ => ⟨S8x1024, .f32⟩
  | .hbm, ⟨26, _⟩ => ⟨S8x1024, .f32⟩
  | .hbm, ⟨27, _⟩ => ⟨S8x1x16x64, .f32⟩
  | .hbm, ⟨28, _⟩ => ⟨S8x1024, .f32⟩
  | .hbm, ⟨29, _⟩ => ⟨S8x1x16x64, .f32⟩
  | .hbm, ⟨30, _⟩ => ⟨S8x1024, .f32⟩
  | .hbm, ⟨31, _⟩ => ⟨S8x1024, .f32⟩
  | .hbm, ⟨32, _⟩ => ⟨S8x512, .f32⟩
  | .hbm, ⟨33, _⟩ => ⟨S8x128, .f32⟩
  | .local _ .vmem, ⟨0, _⟩ => ⟨S16x2048, .f32⟩
  | .local _ .vmem, ⟨1, _⟩ => ⟨S1x1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x640, .bf16⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x512, .f32⟩
  | .local _ .vmem, ⟨11, _⟩ => ⟨S16x128, .f32⟩
  | .local _ .vmem, ⟨12, _⟩ => ⟨S16x2048, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨2, ![1, 5], ![false, false]⟩

def k0_cond4 (i : grid0.Coords) : BitVec 1 :=
  let arg1 : BitVec 32 := BitVec.ofNat 32 (i 1).val
  let c0_i32_8 : BitVec 32 := 0#32
  let v17 : BitVec 1 := Scalar.cmpi .sge arg1 c0_i32_8
  let c1_i32 : BitVec 32 := 1#32
  let v18 : BitVec 1 := Scalar.cmpi .slt arg1 c1_i32
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg1 : BitVec 32 := BitVec.ofNat 32 (i 1).val
  let c1_i32_10 : BitVec 32 := 1#32
  let v22 : BitVec 1 := Scalar.cmpi .sge arg1 c1_i32_10
  let c2_i32 : BitVec 32 := 2#32
  let v23 : BitVec 1 := Scalar.cmpi .slt arg1 c2_i32
  let v24 : BitVec 1 := Scalar.andi v22 v23
  let v25 : BitVec 32 := Scalar.extui v24
  let c0_i32_11 : BitVec 32 := 0#32
  let v26 : BitVec 1 := Scalar.cmpi .ne v25 c0_i32_11
  v26

def k0_cond6 (i : grid0.Coords) : BitVec 1 :=
  let arg1 : BitVec 32 := BitVec.ofNat 32 (i 1).val
  let c2_i32_12 : BitVec 32 := 2#32
  let v27 : BitVec 1 := Scalar.cmpi .sge arg1 c2_i32_12
  let c3_i32_13 : BitVec 32 := 3#32
  let v28 : BitVec 1 := Scalar.cmpi .slt arg1 c3_i32_13
  let v29 : BitVec 1 := Scalar.andi v27 v28
  let v30 : BitVec 32 := Scalar.extui v29
  let c0_i32_14 : BitVec 32 := 0#32
  let v31 : BitVec 1 := Scalar.cmpi .ne v30 c0_i32_14
  v31

def k0_cond2 (i : grid0.Coords) : BitVec 1 :=
  let arg1 : BitVec 32 := BitVec.ofNat 32 (i 1).val
  let c3_i32 : BitVec 32 := 3#32
  let v7 : BitVec 1 := Scalar.cmpi .sge arg1 c3_i32
  let c4_i32 : BitVec 32 := 4#32
  let v8 : BitVec 1 := Scalar.cmpi .slt arg1 c4_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg1 : BitVec 32 := BitVec.ofNat 32 (i 1).val
  let c4_i32_6 : BitVec 32 := 4#32
  let v12 : BitVec 1 := Scalar.cmpi .sge arg1 c4_i32_6
  let c5_i32 : BitVec 32 := 5#32
  let v13 : BitVec 1 := Scalar.cmpi .slt arg1 c5_i32
  let v14 : BitVec 1 := Scalar.andi v12 v13
  let v15 : BitVec 32 := Scalar.extui v14
  let c0_i32_7 : BitVec 32 := 0#32
  let v16 : BitVec 1 := Scalar.cmpi .ne v15 c0_i32_7
  v16

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S16x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== Reference8Ideal.lean ====
abbrev S8x1x2048 : Shape := ⟨3, ![8, 1, 2048]⟩
abbrev S4x2048 : Shape := ⟨2, ![4, 2048]⟩
abbrev S4x2048x5648 : Shape := ⟨3, ![4, 2048, 5648]⟩
abbrev S8x2048 : Shape := ⟨2, ![8, 2048]⟩
abbrev S1x2048 : Shape := ⟨2, ![1, 2048]⟩
abbrev S2048 : Shape := ⟨1, ![2048]⟩
abbrev S_ : Shape := ⟨0, ![]⟩
abbrev S8 : Shape := ⟨1, ![8]⟩
abbrev S8x1 : Shape := ⟨2, ![8, 1]⟩
abbrev S1x2048x5648 : Shape := ⟨3, ![1, 2048, 5648]⟩
abbrev S2048x5648 : Shape := ⟨2, ![2048, 5648]⟩
abbrev S8x5648 : Shape := ⟨2, ![8, 5648]⟩
abbrev S8x1024 : Shape := ⟨2, ![8, 1024]⟩
abbrev S8x512 : Shape := ⟨2, ![8, 512]⟩
abbrev S8x16 : Shape := ⟨2, ![8, 16]⟩
abbrev S8x1x16x64 : Shape := ⟨4, ![8, 1, 16, 64]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S4x2048, .f32⟩
  | .hbm, ⟨2, _⟩ => ⟨S4x2048x5648, .f32⟩
  | .hbm, ⟨3, _⟩ => ⟨S8x2048, .f32⟩
  | .hbm, ⟨4, _⟩ => ⟨S1x2048, .f32⟩
  | .hbm, ⟨5, _⟩ => ⟨S2048, .f32⟩
  | .hbm, ⟨6, _⟩ => ⟨S8x2048, .f32⟩
  | .hbm, ⟨7, _⟩ => ⟨S_, .f32⟩
  | .hbm, ⟨8, _⟩ => ⟨S8, .f32⟩
  | .hbm, ⟨9, _⟩ => ⟨S8x1, .f32⟩
  | .hbm, ⟨10, _⟩ => ⟨S_, .f32⟩
  | .hbm, ⟨11, _⟩ => ⟨S8x1, .f32⟩
  | .hbm, ⟨12, _⟩ => ⟨S8x1, .f32⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S8x1, .f32⟩
  | .hbm, ⟨17, _⟩ => ⟨S8x2048, .f32⟩
  | .hbm, ⟨18, _⟩ => ⟨S8x2048, .f32⟩
  | .hbm, ⟨19, _⟩ => ⟨S1x2048, .f32⟩
  | .hbm, ⟨20, _⟩ => ⟨S8x2048, .f32⟩
  | .hbm, ⟨21, _⟩ => ⟨S8x2048, .f32⟩
  | .hbm, ⟨22, _⟩ => ⟨S1x2048x5648, .f32⟩
  | .hbm, ⟨23, _⟩ => ⟨S2048x5648, .f32⟩
  | .hbm, ⟨24, _⟩ => ⟨S8x5648, .f32⟩
  | .hbm, ⟨25, _⟩ => ⟨S8x1024, .f32⟩
  | .hbm, ⟨26, _⟩ => ⟨S8x1024, .f32⟩
  | .hbm, ⟨27, _⟩ => ⟨S8x512, .f32⟩
  | .hbm, ⟨28, _⟩ => ⟨S8x16, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1x16x64, .f32⟩
  | .hbm, ⟨36, _⟩ => ⟨S8x1x16x64, .f32⟩
  | .hbm, ⟨37, _⟩ => ⟨S_, .i32⟩
  | .hbm, ⟨38, _⟩ => ⟨S_, .f32⟩
  | .hbm, ⟨39, _⟩ => ⟨S8x128, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_call0_v0 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Pointwise

@[expose] public section

set_option maxRecDepth 16384

noncomputable section

/-! What one grid point of the attention kernel writes, as a composition of a few vector functions: the scores of a
key slab, one fold of a slab into the running pair (accumulator, sum of the drops so far), and the final choice of each
lane's head. -/

namespace Cert.Att

open Cert.KernelIdeal Cert.KernelIdeal.Gen Cert.KernelIdeal.Facts Idealize.ShloMosaic Idealize.ShloMosaic.TcCoe Idealize.SL.Sem

variable {F : FTy → Type} [FloatOps F]

/-- One head's scores of one slab: `q · kt + bias`. -/
def score1 (q : FVec F S512x128 .bf16) (b : Elt F .f32) (kt : Vec F S1x1x128x512 .bf16) : FVec F S512x512 .f32 :=
  addf (matmul dot_S512x128_S128x512_S512x512_1_0_0_1_n_n none q (shapeCast S128x512 kt shapeCasts_S1x1x128x512_S128x512)
    (constant S512x512 .f32 0x00000000#32)) (broadcast S512x512 b)

/-- The two heads' scores of one slab, stacked. -/
def scores (q0 q1 : FVec F S512x128 .bf16) (b0 b1 : Elt F .f32) (kt : Vec F S1x1x128x512 .bf16) : FVec F S1024x512 .f32 :=
  concatenate S1024x512 0 [⟨S512x512, score1 q0 b0 kt⟩, ⟨S512x512, score1 q1 b1 kt⟩] concatenates_S512x512_S512x512_S1024x512_d0

/-- `max z 0 + log (1 + exp (-|z|))`. -/
def drop (z : FVec F S1024x512 .f32) : FVec F S1024x512 .f32 :=
  addf (maximumf z (broadcast S1024x512 (Scalar.ofBits .f32 0x00000000#32)))
    (log (addf (broadcast S1024x512 (Scalar.ofBits .f32 0x3F800000#32))
      (exp (subf (broadcast S1024x512 (Scalar.ofBits .f32 0x00000000#32)) (absf z)))))

/-- A slab's masked or unmasked scores with its drops in two bf16 parts. -/
structure Scored (F : FTy → Type) [FloatOps F] where
  z : FVec F S1024x512 .f32
  hi : FVec F S1024x512 .bf16
  lo : FVec F S1024x512 .bf16

/-- The drops' high part, and what it leaves. -/
def split (z d : FVec F S1024x512 .f32) : Scored F where
  z := z
  hi := truncf .bf16 d bitsLt_bf16_f32
  lo := truncf .bf16 (subf d (extf .f32 (truncf .bf16 d bitsLt_bf16_f32) bitsLt_bf16_f32)) bitsLt_bf16_f32

/-- A slab wholly before the query tile. -/
def scoredU (q0 q1 : FVec F S512x128 .bf16) (b0 b1 : Elt F .f32) (kt : Vec F S1x1x128x512 .bf16) : Scored F :=
  split (scores q0 q1 b0 b1 kt) (drop (scores q0 q1 b0 b1 kt))

/-- The diagonal slab: keys at or after the query are masked. -/
def scoredM (q0 q1 : FVec F S512x128 .bf16) (b0 b1 : Elt F .f32) (kt : Vec F S1x1x128x512 .bf16) : Scored F :=
  split (select k0_pay11 (scores q0 q1 b0 b1 kt) (broadcast S1024x512 (Scalar.ofBits .f32 0xFF800000#32)))
    (select k0_pay11 (drop (scores q0 q1 b0 b1 kt)) (broadcast S1024x512 (Scalar.ofBits .f32 0x00000000#32)))

/-- The sums of the drops from each column to the end of the slab's upper half. -/
def csumHi (s : Scored F) : FVec F S1024x256 .f32 :=
  matmul dot_S1024x512_S512x256_S1024x256_1_0_0_1_n_n none
    (concatenate S1024x512 1 [⟨S1024x256, extractStridedSlice S1024x256 ![0, 256] s.hi slices_S1024x512_o0_256_S1024x256⟩,
      ⟨S1024x256, extractStridedSlice S1024x256 ![0, 256] s.lo slices_S1024x512_o0_256_S1024x256⟩] concatenates_S1024x256_S1024x256_S1024x512_d1)
    (k0_pay6 (F := F)) (constant S1024x256 .f32 0x00000000#32)

/-- The sums of the drops from each column to the end of the slab's lower half. -/
def csumLo (s : Scored F) : FVec F S1024x256 .f32 :=
  matmul dot_S1024x512_S512x256_S1024x256_1_0_0_1_n_n none
    (concatenate S1024x512 1 [⟨S1024x256, extractStridedSlice S1024x256 ![0, 0] s.hi slices_S1024x512_o0_0_S1024x256⟩,
      ⟨S1024x256, extractStridedSlice S1024x256 ![0, 0] s.lo slices_S1024x512_o0_0_S1024x256⟩] concatenates_S1024x256_S1024x256_S1024x512_d1)
    (k0_pay6 (F := F)) (constant S1024x256 .f32 0x00000000#32)

/-- The running sum with a half slab's first column added. -/
def runOn (r : FVec F S1024x1 .f32) (cs : FVec F S1024x256 .f32) : FVec F S1024x1 .f32 :=
  addf r (extractStridedSlice S1024x1 ![0, 0] cs slices_S1024x256_o0_0_S1024x1)

/-- A half slab's weights from its scores, its sums and the running sum. -/
def half (z cs : FVec F S1024x256 .f32) (r : FVec F S1024x1 .f32) : FVec F S1024x256 .bf16 :=
  truncf .bf16 (exp (subf (subf z cs) (broadcastTo S1024x256 r broadcasts_S1024x1_S1024x256))) bitsLt_bf16_f32

/-- A slab's weights. -/
def weights (s : Scored F) (r : FVec F S1024x1 .f32) : FVec F S1024x512 .bf16 :=
  concatenate S1024x512 1
    [⟨S1024x256, half (extractStridedSlice S1024x256 ![0, 0] s.z slices_S1024x512_o0_0_S1024x256) (csumLo s) (runOn r (csumHi s))⟩,
      ⟨S1024x256, half (extractStridedSlice S1024x256 ![0, 256] s.z slices_S1024x512_o0_256_S1024x256) (csumHi s) r⟩]
    concatenates_S1024x256_S1024x256_S1024x512_d1

/-- The running sum after a slab. -/
def runOut (s : Scored F) (r : FVec F S1024x1 .f32) : FVec F S1024x1 .f32 := runOn (runOn r (csumHi s)) (csumLo s)

/-- The accumulator after a slab. -/
def accOut (s : Scored F) (r : FVec F S1024x1 .f32) (acc : FVec F S1024x128 .f32) (vt : Vec F S1x1x128x512 .bf16) : FVec F S1024x128 .f32 :=
  addf acc (matmul dot_S1024x512_S128x512_S1024x128_1_1_0_0_n_n none (weights s r)
    (shapeCast S128x512 vt shapeCasts_S1x1x128x512_S128x512) (constant S1024x128 .f32 0x00000000#32))

/-- Each lane takes its own head's rows. -/
def finish (acc : FVec F S1024x128 .f32) : FVec F S512x128 .bf16 :=
  truncf .bf16 (select k0_pay1 (extractStridedSlice S512x128 ![0, 0] acc slices_S1024x128_o0_0_S512x128)
    (extractStridedSlice S512x128 ![512, 0] acc slices_S1024x128_o512_0_S512x128)) bitsLt_bf16_f32

/-- The running sum and the accumulator after `j` of the slabs `s 0, s 1, …` with values `v 0, v 1, …`. -/
def state (s : ℕ → Scored F) (v : ℕ → Vec F S1x1x128x512 .bf16) : ℕ → FVec F S1024x1 .f32 × FVec F S1024x128 .f32
  | 0 => (broadcast S1024x1 (Scalar.ofBits .f32 0x00000000#32), broadcast S1024x128 (Scalar.ofBits .f32 0x00000000#32))
  | j + 1 => (runOut (s j) (state s v j).1, accOut (s j) (state s v j).1 (state s v j).2 (v j))

/-- What a tile whose diagonal slab is `n` writes: its slabs from `n` down to 0, the first masked. -/
def tile (n : ℕ) (q : Vec F S512x128 .bf16) (b0 b1 : Elt F .f32) (kt vt : ℕ → Vec F S1x1x128x512 .bf16) : FVec F S512x128 .bf16 :=
  finish (state (fun j => if j = 0 then scoredM (k0_pay4 q) (k0_pay5 q) b0 b1 (kt (n - j)) else scoredU (k0_pay4 q) (k0_pay5 q) b0 b1 (kt (n - j)))
    (fun j => vt (n - j)) (n + 1)).2

/-- Slab `s` of a staged block (slab 3 for any larger number). -/
def slab (x : Vec F S1x4x128x512 .bf16) : ℕ → Vec F S1x1x128x512 .bf16
  | 0 => View.ld x (Rect.unit (s := S1x4x128x512) ![0, 0, 0, 0] S1x1x128x512.size inb_S1x4x128x512_S1x1x128x512_0_0_0_0)
  | 1 => View.ld x (Rect.unit (s := S1x4x128x512) ![0, 1, 0, 0] S1x1x128x512.size inb_S1x4x128x512_S1x1x128x512_0_1_0_0)
  | 2 => View.ld x (Rect.unit (s := S1x4x128x512) ![0, 2, 0, 0] S1x1x128x512.size inb_S1x4x128x512_S1x1x128x512_0_2_0_0)
  | _ => View.ld x (Rect.unit (s := S1x4x128x512) ![0, 3, 0, 0] S1x1x128x512.size inb_S1x4x128x512_S1x1x128x512_0_3_0_0)

/-- The two biases a grid point reads. -/
def bias0 (i : grid0.Coords) (x : Vec F S16 .f32) : Elt F .f32 :=
  View.ld x (Rect.unit (s := S16) (k0_off1 i) S1.size (k0_off1_inb i)) (Shape.Idx.first (numel1_S1 ▸ Nat.one_pos))
def bias1 (i : grid0.Coords) (x : Vec F S16 .f32) : Elt F .f32 :=
  View.ld x (Rect.unit (s := S16) (k0_off2 i) S1.size (k0_off2_inb i)) (Shape.Idx.first (numel1_S1 ▸ Nat.one_pos))

/-- A whole-block load reads the block. -/
theorem ld_q (x : Vec F S512x128 .bf16) :
    View.ld x (Rect.unit (s := S512x128) ![0, 0] ![512, 128] inb_S512x128_S512x128_0_0) = x :=
  View.ld_unit_zero (by funext a; match a with | ⟨0, _⟩ => rfl | ⟨1, _⟩ => rfl) _ _

theorem tile_0 (q : Vec F S512x128 .bf16) (b0 b1 : Elt F .f32) (kt vt : ℕ → Vec F S1x1x128x512 .bf16) :
    tile 0 q b0 b1 kt vt = finish (accOut (scoredM (k0_pay4 q) (k0_pay5 q) b0 b1 (kt 0))
      (broadcast S1024x1 (Scalar.ofBits .f32 0x00000000#32)) (broadcast S1024x128 (Scalar.ofBits .f32 0x00000000#32)) (vt 0)) := by
  simp only [tile, state, Nat.zero_add, Nat.sub_zero, if_true]

theorem tile_1 (q : Vec F S512x128 .bf16) (b0 b1 : Elt F .f32) (kt vt : ℕ → Vec F S1x1x128x512 .bf16) :
    tile 1 q b0 b1 kt vt = finish (accOut (scoredU (k0_pay4 q) (k0_pay5 q) b0 b1 (kt 0)) (runOut (scoredM (k0_pay4 q) (k0_pay5 q) b0 b1 (kt 1)) (broadcast S1024x1 (Scalar.ofBits .f32 0x00000000#32))) (accOut (scoredM (k0_pay4 q) (k0_pay5 q) b0 b1 (kt 1)) (broadcast S1024x1 (Scalar.ofBits .f32 0x00000000#32)) (broadcast S1024x128 (Scalar.ofBits .f32 0x00000000#32)) (vt 1)) (vt 0)) := rfl

theorem tile_2 (q : Vec F S512x128 .bf16) (b0 b1 : Elt F .f32) (kt vt : ℕ → Vec F S1x1x128x512 .bf16) :
    tile 2 q b0 b1 kt vt = finish (accOut (scoredU (k0_pay4 q) (k0_pay5 q) b0 b1 (kt 0)) (runOut (scoredU (k0_pay4 q) (k0_pay5 q) b0 b1 (kt 1)) (runOut (scoredM (k0_pay4 q) (k0_pay5 q) b0 b1 (kt 2)) (broadcast S1024x1 (Scalar.ofBits .f32 0x00000000#32)))) (accOut (scoredU (k0_pay4 q) (k0_pay5 q) b0 b1 (kt 1)) (runOut (scoredM (k0_pay4 q) (k0_pay5 q) b0 b1 (kt 2)) (broadcast S1024x1 (Scalar.ofBits .f32 0x00000000#32))) (accOut (scoredM (k0_pay4 q) (k0_pay5 q) b0 b1 (kt 2)) (broadcast S1024x1 (Scalar.ofBits .f32 0x00000000#32)) (broadcast S1024x128 (Scalar.ofBits .f32 0x00000000#32)) (vt 2)) (vt 1)) (vt 0)) := rfl

theorem tile_3 (q : Vec F S512x128 .bf16) (b0 b1 : Elt F .f32) (kt vt : ℕ → Vec F S1x1x128x512 .bf16) :
    tile 3 q b0 b1 kt vt = finish (accOut (scoredU (k0_pay4 q) (k0_pay5 q) b0 b1 (kt 0)) (runOut (scoredU (k0_pay4 q) (k0_pay5 q) b0 b1 (kt 1)) (runOut (scoredU (k0_pay4 q) (k0_pay5 q) b0 b1 (kt 2)) (runOut (scoredM (k0_pay4 q) (k0_pay5 q) b0 b1 (kt 3)) (broadcast S1024x1 (Scalar.ofBits .f32 0x00000000#32))))) (accOut (scoredU (k0_pay4 q) (k0_pay5 q) b0 b1 (kt 1)) (runOut (scoredU (k0_pay4 q) (k0_pay5 q) b0 b1 (kt 2)) (runOut (scoredM (k0_pay4 q) (k0_pay5 q) b0 b1 (kt 3)) (broadcast S1024x1 (Scalar.ofBits .f32 0x00000000#32)))) (accOut (scoredU (k0_pay4 q) (k0_pay5 q) b0 b1 (kt 2)) (runOut (scoredM (k0_pay4 q) (k0_pay5 q) b0 b1 (kt 3)) (broadcast S1024x1 (Scalar.ofBits .f32 0x00000000#32))) (accOut (scoredM (k0_pay4 q) (k0_pay5 q) b0 b1 (kt 3)) (broadcast S1024x1 (Scalar.ofBits .f32 0x00000000#32)) (broadcast S1024x128 (Scalar.ofBits .f32 0x00000000#32)) (vt 3)) (vt 2)) (vt 1)) (vt 0)) := rfl

/-- A point of case A writes the tile whose diagonal slab is 0. -/
theorem out_A (c : Dev nD) (i : grid0.Coords) (arg3 : Memref sig .tc .smem S16 .f32) (harg3 : arg3.IsWhole) (arg4 : Memref sig .tc .vmem S512x128 .bf16) (harg4 : arg4.IsWhole) (arg5 : Memref sig .tc .vmem S1x4x128x512 .bf16) (harg5 : arg5.IsWhole) (arg6 : Memref sig .tc .vmem S1x4x128x512 .bf16) (harg6 : arg6.IsWhole) (arg7 : Memref sig .tc .vmem S512x128 .bf16) (harg7 : arg7.IsWhole) (hc0 : cond0_0 i) (hc1 : ¬cond0_1 i) (hc2 : ¬cond0_2 i) (hc3 : ¬cond0_3 i)
    (x0 : Vec F S16 .f32) (x1 : Vec F S512x128 .bf16) (x2 : Vec F S1x4x128x512 .bf16) (x3 : Vec F S1x4x128x512 .bf16) :
    out0_A_4 c i arg3 harg3 arg4 harg4 arg5 harg5 arg6 harg6 arg7 harg7 hc0 hc1 hc2 hc3 x0 x1 x2 x3
      = tile 0 x1 (bias0 i x0) (bias1 i x0) (slab x2) (slab x3) := by
  unfold out0_A_4
  rw [View.read_writes_eq_canon _ _ _ (cover0_A_4 c i arg3 harg3 arg4 harg4 arg5 harg5 arg6 harg6 arg7 harg7 hc0 hc1 hc2 hc3 x0 x1 x2 x3)]
  unfold kernelRun0_A
  dsimp only
  rw [View.canon_unit_zero (by funext a; match a with | ⟨0, _⟩ => rfl | ⟨1, _⟩ => rfl)]
  sl_unfold_words
  simp only [View.readAt_eq_ld, Memref.IsWhole.read_unread, ld_q, tile_0]
  rfl

/-- A point of case B writes the tile whose diagonal slab is 1. -/
theorem out_B (c : Dev nD) (i : grid0.Coords) (arg3 : Memref sig .tc .smem S16 .f32) (harg3 : arg3.IsWhole) (arg4 : Memref sig .tc .vmem S512x128 .bf16) (harg4 : arg4.IsWhole) (arg5 : Memref sig .tc .vmem S1x4x128x512 .bf16) (harg5 : arg5.IsWhole) (arg6 : Memref sig .tc .vmem S1x4x128x512 .bf16) (harg6 : arg6.IsWhole) (arg7 : Memref sig .tc .vmem S512x128 .bf16) (harg7 : arg7.IsWhole) (hc0 : ¬cond0_0 i) (hc1 : cond0_1 i) (hc2 : ¬cond0_2 i) (hc3 : ¬cond0_3 i)
    (x0 : Vec F S16 .f32) (x1 : Vec F S512x128 .bf16) (x2 : Vec F S1x4x128x512 .bf16) (x3 : Vec F S1x4x128x512 .bf16) :
    out0_B_4 c i arg3 harg3 arg4 harg4 arg5 harg5 arg6 harg6 arg7 harg7 hc0 hc1 hc2 hc3 x0 x1 x2 x3
      = tile 1 x1 (bias0 i x0) (bias1 i x0) (slab x2) (slab x3) := by
  unfold out0_B_4
  rw [View.read_writes_eq_canon _ _ _ (cover0_B_4 c i arg3 harg3 arg4 harg4 arg5 harg5 arg6 harg6 arg7 harg7 hc0 hc1 hc2 hc3 x0 x1 x2 x3)]
  unfold kernelRun0_B
  dsimp only
  rw [View.canon_unit_zero (by funext a; match a with | ⟨0, _⟩ => rfl | ⟨1, _⟩ => rfl)]
  sl_unfold_words
  simp only [View.readAt_eq_ld, Memref.IsWhole.read_unread, ld_q, tile_1]
  rfl

/-- A point of case C writes the tile whose diagonal slab is 2. -/
theorem out_C (c : Dev nD) (i : grid0.Coords) (arg3 : Memref sig .tc .smem S16 .f32) (harg3 : arg3.IsWhole) (arg4 : Memref sig .tc .vmem S512x128 .bf16) (harg4 : arg4.IsWhole) (arg5 : Memref sig .tc .vmem S1x4x128x512 .bf16) (harg5 : arg5.IsWhole) (arg6 : Memref sig .tc .vmem S1x4x128x512 .bf16) (harg6 : arg6.IsWhole) (arg7 : Memref sig .tc .vmem S512x128 .bf16) (harg7 : arg7.IsWhole) (hc0 : ¬cond0_0 i) (hc1 : ¬cond0_1 i) (hc2 : cond0_2 i) (hc3 : ¬cond0_3 i)
    (x0 : Vec F S16 .f32) (x1 : Vec F S512x128 .bf16) (x2 : Vec F S1x4x128x512 .bf16) (x3 : Vec F S1x4x128x512 .bf16) :
    out0_C_4 c i arg3 harg3 arg4 harg4 arg5 harg5 arg6 harg6 arg7 harg7 hc0 hc1 hc2 hc3 x0 x1 x2 x3
      = tile 2 x1 (bias0 i x0) (bias1 i x0) (slab x2) (slab x3) := by
  unfold out0_C_4
  rw [View.read_writes_eq_canon _ _ _ (cover0_C_4 c i arg3 harg3 arg4 harg4 arg5 harg5 arg6 harg6 arg7 harg7 hc0 hc1 hc2 hc3 x0 x1 x2 x3)]
  unfold kernelRun0_C
  dsimp only
  rw [View.canon_unit_zero (by funext a; match a with | ⟨0, _⟩ => rfl | ⟨1, _⟩ => rfl)]
  sl_unfold_words
  simp only [View.readAt_eq_ld, Memref.IsWhole.read_unread, ld_q, tile_2]
  rfl

/-- A point of case D writes the tile whose diagonal slab is 3. -/
theorem out_D (c : Dev nD) (i : grid0.Coords) (arg3 : Memref sig .tc .smem S16 .f32) (harg3 : arg3.IsWhole) (arg4 : Memref sig .tc .vmem S512x128 .bf16) (harg4 : arg4.IsWhole) (arg5 : Memref sig .tc .vmem S1x4x128x512 .bf16) (harg5 : arg5.IsWhole) (arg6 : Memref sig .tc .vmem S1x4x128x512 .bf16) (harg6 : arg6.IsWhole) (arg7 : Memref sig .tc .vmem S512x128 .bf16) (harg7 : arg7.IsWhole) (hc0 : ¬cond0_0 i) (hc1 : ¬cond0_1 i) (hc2 : ¬cond0_2 i) (hc3 : cond0_3 i)
    (x0 : Vec F S16 .f32) (x1 : Vec F S512x128 .bf16) (x2 : Vec F S1x4x128x512 .bf16) (x3 : Vec F S1x4x128x512 .bf16) :
    out0_D_4 c i arg3 harg3 arg4 harg4 arg5 harg5 arg6 harg6 arg7 harg7 hc0 hc1 hc2 hc3 x0 x1 x2 x3
      = tile 3 x1 (bias0 i x0) (bias1 i x0) (slab x2) (slab x3) := by
  unfold out0_D_4
  rw [View.read_writes_eq_canon _ _ _ (cover0_D_4 c i arg3 harg3 arg4 harg4 arg5 harg5 arg6 harg6 arg7 harg7 hc0 hc1 hc2 hc3 x0 x1 x2 x3)]
  unfold kernelRun0_D
  dsimp only
  rw [View.canon_unit_zero (by funext a; match a with | ⟨0, _⟩ => rfl | ⟨1, _⟩ => rfl)]
  sl_unfold_words
  simp only [View.readAt_eq_ld, Memref.IsWhole.read_unread, ld_q, tile_3]
  rfl

end Cert.Att

end
-- ==== Proof.Vals.lean ====
module

public import proofs.«01_k».proof.Proof.Body

@[expose] public section

set_option maxRecDepth 16384

noncomputable section

/-! The vector functions of `Body` at an index, over the extended reals. -/

namespace Cert.Att

open Cert.KernelIdeal Cert.KernelIdeal.Gen Cert.KernelIdeal.Facts Idealize.ShloMosaic Idealize.ShloMosaic.TcCoe Idealize.ShloMosaic.WordCmp Idealize.SL.Sem

/-- A selection by a comparison of words chooses as the comparison of numbers does. -/
theorem select_ofBool {α : Type} (p : Prop) [Decidable p] (x y : α) :
    Scalar.select (BitVec.ofBool (decide p)) x y = if p then x else y := by
  by_cases h : p <;> simp [h, Scalar.select]

theorem score1_apply (q : FVec Ideal S512x128 .bf16) (b : Elt Ideal .f32) (kt : Vec Ideal S1x1x128x512 .bf16) (r c : Fin 512) :
    score1 q b kt (ix2 r c) = ∑ l : Fin 128, q (ix2 r l) * kt (ix4 0 0 l c) + b := by
  pointwise [score1]

theorem scores_apply (q0 q1 : FVec Ideal S512x128 .bf16) (b0 b1 : Elt Ideal .f32) (kt : Vec Ideal S1x1x128x512 .bf16) (r : Fin 1024) (c : Fin 512) :
    scores q0 q1 b0 b1 kt (ix2 r c)
      = if h : r.val < 512 then score1 q0 b0 kt (ix2 ⟨r.val, h⟩ c) else score1 q1 b1 kt (ix2 ⟨r.val - 512, by omega⟩ c) := by
  pointwise [scores]

theorem drop_apply (z : FVec Ideal S1024x512 .f32) (r : Fin 1024) (c : Fin 512) :
    drop z (ix2 r c) = max (z (ix2 r c)) 0 + Ideal.log (1 + Ideal.exp (0 - max (z (ix2 r c)) (-(z (ix2 r c))))) := by
  pointwise [drop]
  rfl

theorem mask_apply (r : Fin 1024) (c : Fin 512) : k0_pay11 (ix2 r c) = BitVec.ofBool (decide (c.val < r.val % 512)) := by
  pointwise [k0_pay11]
  have h : IntOp.andi (BitVec.ofNat 32 r.val) 511#32 = BitVec.ofNat 32 (r.val % 512) := by
    apply BitVec.eq_of_toNat_eq
    have := r.isLt
    simp only [IntOp.andi, BitVec.toNat_and, BitVec.toNat_ofNat]
    rw [Nat.mod_eq_of_lt (by omega : r.val < 2 ^ 32), Nat.mod_eq_of_lt (by omega : r.val % 512 < 2 ^ 32)]
    exact Nat.and_two_pow_sub_one_eq_mod r.val 9
  rw [h, cmpi_slt_ofNat (by omega) (by omega)]

theorem suffix_apply (k : Fin 512) (j : Fin 256) :
    (k0_pay6 (F := Ideal)) (ix2 k j) = if j.val ≤ k.val % 256 then (1 : EReal) else 0 := by
  pointwise [k0_pay6]
  rw [cmpi_sge_ofNat (by omega) (by omega), cmpi_sge_ofNat (by omega) (by omega), select_ofBool, select_ofBool]
  by_cases h : k.val < 256
  · rw [dif_pos h, Nat.mod_eq_of_lt h]
  · rw [dif_neg h, show k.val % 256 = k.val - 256 by omega]

/-- The coercion of the reals keeps finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The part of a half slab's sum from column `j` on. -/
theorem sum_half (f : ℕ → ℝ) (j : ℕ) :
    ∑ x : Fin 256, ((f x.val : ℝ) : EReal) * (if j ≤ x.val then (1 : EReal) else 0) = ((∑ i ∈ Finset.Ico j 256, f i : ℝ) : EReal) := by
  have e : ∀ x : Fin 256, ((f x.val : ℝ) : EReal) * (if j ≤ x.val then (1 : EReal) else 0)
      = (((fun i => if j ≤ i then f i else 0) x.val : ℝ) : EReal) := by
    intro x
    by_cases h : j ≤ x.val <;> simp [h]
  rw [Finset.sum_congr rfl fun x _ => e x, ← coe_sum, Fin.sum_univ_eq_sum_range (fun i => if j ≤ i then f i else 0) 256, ← Finset.sum_filter]
  congr 2
  ext i
  simp only [Finset.mem_filter, Finset.mem_range, Finset.mem_Ico]
  omega

/-- A row of a scored slab whose drops are the real numbers `d`. -/
structure Row (s : Scored Ideal) (r : Fin 1024) (ζ : ℕ → EReal) (d : ℕ → ℝ) : Prop where
  z : ∀ c : Fin 512, s.z (ix2 r c) = ζ c.val
  hi : ∀ c : Fin 512, s.hi (ix2 r c) = (d c.val : EReal)
  lo : ∀ c : Fin 512, s.lo (ix2 r c) = 0

theorem csumHi_row {s : Scored Ideal} {r : Fin 1024} {ζ : ℕ → EReal} {d : ℕ → ℝ} (h : Row s r ζ d) (j : Fin 256) :
    csumHi s (ix2 r j) = ((∑ i ∈ Finset.Ico (256 + j.val) 512, d i : ℝ) : EReal) := by
  have e := sum_half (fun i => d (256 + i)) j.val
  rw [Finset.sum_Ico_add d j.val 256 256] at e
  pointwise [csumHi]
  simp only [h.hi, h.lo, zero_mul, Finset.sum_const_zero, add_zero, suffix_apply]
  rw [show 256 + j.val = j.val + 256 from Nat.add_comm _ _, ← e]
  refine Finset.sum_congr rfl fun x _ => ?_
  rw [Nat.mod_eq_of_lt x.isLt]

theorem csumLo_row {s : Scored Ideal} {r : Fin 1024} {ζ : ℕ → EReal} {d : ℕ → ℝ} (h : Row s r ζ d) (j : Fin 256) :
    csumLo s (ix2 r j) = ((∑ i ∈ Finset.Ico j.val 256, d i : ℝ) : EReal) := by
  pointwise [csumLo]
  simp only [h.hi, h.lo, zero_mul, Finset.sum_const_zero, add_zero, suffix_apply]
  rw [← sum_half]
  refine Finset.sum_congr rfl fun x _ => ?_
  rw [Nat.mod_eq_of_lt x.isLt]

theorem runOut_row {s : Scored Ideal} {r : Fin 1024} {ζ : ℕ → EReal} {d : ℕ → ℝ} (h : Row s r ζ d) {ru : FVec Ideal S1024x1 .f32} {ρ : ℝ}
    (hr : ru (ix2 r 0) = (ρ : EReal)) :
    runOut s ru (ix2 r 0) = ((ρ + ∑ i ∈ Finset.Ico 0 512, d i : ℝ) : EReal) := by
  pointwise [runOut, runOn]
  rw [csumHi_row h 0, csumLo_row h 0, hr, ← EReal.coe_add, ← EReal.coe_add]
  congr 1
  rw [← Finset.sum_Ico_consecutive d (Nat.zero_le 256) (by decide : 256 ≤ 512)]
  simp only [Fin.val_zero, Nat.add_zero]
  ring

theorem weights_row {s : Scored Ideal} {r : Fin 1024} {ζ : ℕ → EReal} {d : ℕ → ℝ} (h : Row s r ζ d) {ru : FVec Ideal S1024x1 .f32} {ρ : ℝ}
    (hr : ru (ix2 r 0) = (ρ : EReal)) (c : Fin 512) :
    weights s ru (ix2 r c) = Ideal.exp (ζ c.val - ((∑ i ∈ Finset.Ico c.val 512, d i + ρ : ℝ) : EReal)) := by
  have key : ∀ (x : EReal) (a b : ℝ), x - (a : EReal) - (b : EReal) = x - ((a + b : ℝ) : EReal) := by
    intro x a b
    induction x with
    | bot => rfl
    | top => rfl
    | coe x => rw [← EReal.coe_sub, ← EReal.coe_sub, ← EReal.coe_sub]; congr 1; ring
  pointwise [weights, half, runOn]
  by_cases hc : c.val < 256
  · rw [dif_pos hc, csumHi_row h 0, csumLo_row h, hr, h.z, ← EReal.coe_add, key]
    congr 3
    rw [← Finset.sum_Ico_consecutive d hc.le (by decide : 256 ≤ 512)]
    simp only [Fin.val_zero, Nat.add_zero]
    ring
  · rw [dif_neg hc, csumHi_row h, hr, h.z, key]
    have e : 256 + (c.val - 256) = c.val := by omega
    simp only [e]

theorem accOut_row {s : Scored Ideal} {r : Fin 1024} {ζ : ℕ → EReal} {d : ℕ → ℝ} (h : Row s r ζ d) {ru : FVec Ideal S1024x1 .f32} {ρ : ℝ}
    (hr : ru (ix2 r 0) = (ρ : EReal)) (acc : FVec Ideal S1024x128 .f32) (vt : Vec Ideal S1x1x128x512 .bf16) (l : Fin 128) :
    accOut s ru acc vt (ix2 r l)
      = acc (ix2 r l) + ∑ c : Fin 512, Ideal.exp (ζ c.val - ((∑ i ∈ Finset.Ico c.val 512, d i + ρ : ℝ) : EReal)) * vt (ix4 0 0 l c) := by
  pointwise [accOut]
  simp only [weights_row h hr]

theorem finish_apply (acc : FVec Ideal S1024x128 .f32) (r : Fin 512) (l : Fin 128) :
    finish acc (ix2 r l) = acc (ix2 ⟨512 * (l.val / 64) + r.val, by omega⟩ l) := by
  pointwise [finish, k0_pay1]
  rw [show (64#32 : BitVec 32) = BitVec.ofNat 32 64 from rfl, cmpi_slt_ofNat (by omega) (by omega), select_ofBool]
  split_ifs with h
  · congr 2; exact Fin.ext (by show r.val = 512 * (l.val / 64) + r.val; omega)
  · congr 2; exact Fin.ext (by show 512 + r.val = 512 * (l.val / 64) + r.val; omega)

theorem q0_apply (q : Vec Ideal S512x128 .bf16) (r : Fin 512) (l : Fin 128) : k0_pay4 q (ix2 r l) = if l.val < 64 then q (ix2 r l) else 0 := by
  pointwise [k0_pay4, k0_pay1, k0_pay3, k0_pay2]
  rw [show (64#32 : BitVec 32) = BitVec.ofNat 32 64 from rfl, cmpi_slt_ofNat (by omega) (by omega), select_ofBool]

theorem q1_apply (q : Vec Ideal S512x128 .bf16) (r : Fin 512) (l : Fin 128) : k0_pay5 q (ix2 r l) = if l.val < 64 then 0 else q (ix2 r l) := by
  pointwise [k0_pay5, k0_pay1, k0_pay3, k0_pay2]
  rw [show (64#32 : BitVec 32) = BitVec.ofNat 32 64 from rfl, cmpi_slt_ofNat (by omega) (by omega), select_ofBool]

end Cert.Att

end
-- ==== Proof.Tile.lean ====
module

public import proofs.«01_k».proof.Proof.Vals

@[expose] public section

set_option maxRecDepth 16384

noncomputable section

/-! A tile of queries: its rows are the stick-breaking sums. -/

namespace Cert.Att

open Cert.KernelIdeal Cert.KernelIdeal.Gen Cert.KernelIdeal.Facts Idealize.ShloMosaic Idealize.ShloMosaic.TcCoe Idealize.ShloMosaic.WordCmp Idealize.SL.Sem

/-- `log (1 + exp x)`: minus the logarithm of what a key with score `x` leaves of the stick. -/
def sp (x : ℝ) : ℝ := Real.log (1 + Real.exp x)

/-- The kernel's form of `sp`. -/
theorem sp_eq (x : ℝ) : max x 0 + Real.log (1 + Real.exp (-|x|)) = sp x := by
  unfold sp
  rcases le_total 0 x with h | h
  · rw [max_eq_left h, abs_of_nonneg h]
    have e : 1 + Real.exp x = Real.exp x * (1 + Real.exp (-x)) := by
      rw [mul_add, ← Real.exp_add]; simp [add_comm]
    rw [e, Real.log_mul (Real.exp_pos x).ne' (by positivity), Real.log_exp]
  · rw [max_eq_right h, abs_of_nonpos h, neg_neg, zero_add]

theorem coe_max (x y : ℝ) : max (x : EReal) (y : EReal) = ((max x y : ℝ) : EReal) :=
  (EReal.coe_strictMono.monotone.map_max).symm

theorem log_coe_pos {x : ℝ} (h : 0 < x) : Ideal.log (x : EReal) = (Real.log x : EReal) := by
  rw [Ideal.log_coe, if_neg (not_le.mpr h)]

theorem drop_coe (x : ℝ) :
    max (x : EReal) 0 + Ideal.log (1 + Ideal.exp (0 - max (x : EReal) (-(x : EReal)))) = (sp x : EReal) := by
  have h0 : (0 : EReal) = ((0 : ℝ) : EReal) := rfl
  have h1 : (1 : EReal) = ((1 : ℝ) : EReal) := rfl
  rw [h0, h1, ← EReal.coe_neg, coe_max, coe_max, ← EReal.coe_sub, Ideal.exp_coe, ← EReal.coe_add, log_coe_pos (by positivity),
    ← EReal.coe_add, ← sp_eq x]
  rw [← abs_eq_max_neg, zero_sub]

/-- What key `k` takes off the logarithm for query `T`: nothing unless it is before it. -/
def dlt (T : ℕ) (z : ℕ → ℝ) (k : ℕ) : ℝ := if k < T then sp (z k) else 0

/-- Key `k`'s weight for query `T`, the sum of the drops taken up to `N`. -/
def wgt (T N : ℕ) (z : ℕ → ℝ) (k : ℕ) : EReal :=
  if k < T then ((Real.exp (z k - ∑ i ∈ Finset.Ico k N, dlt T z i) : ℝ) : EReal) else 0

/-- The stick-breaking attention of query `T` among 2048 keys with scores `z` and values `v`. -/
def att (z : ℕ → ℝ) (v : ℕ → EReal) (T : ℕ) : EReal := ∑ k ∈ Finset.range 2048, wgt T 2048 z k * v k

theorem wgt_eq {T N M : ℕ} (hN : T ≤ N) (hM : N ≤ M) (z : ℕ → ℝ) (k : ℕ) : wgt T N z k = wgt T M z k := by
  unfold wgt
  split_ifs with h
  · congr 3
    rw [← Finset.sum_Ico_consecutive (dlt T z) (by omega : k ≤ N) hM, Finset.sum_eq_zero (s := Finset.Ico N M), add_zero]
    intro i hi
    rw [Finset.mem_Ico] at hi
    exact if_neg (by omega)
  · rfl

/-- The keys from a tile's end on weigh nothing. -/
theorem att_eq {T N : ℕ} (hN : T ≤ N) (hM : N ≤ 2048) (z : ℕ → ℝ) (v : ℕ → EReal) :
    ∑ k ∈ Finset.Ico 0 N, wgt T N z k * v k = att z v T := by
  unfold att
  rw [Finset.range_eq_Ico, ← Finset.sum_Ico_consecutive _ (Nat.zero_le N) hM, Finset.sum_eq_zero (s := Finset.Ico N 2048), add_zero]
  · exact Finset.sum_congr rfl fun k _ => by rw [wgt_eq hN hM]
  · intro i hi
    rw [Finset.mem_Ico] at hi
    rw [wgt, if_neg (by omega), zero_mul]

/-- The columns of slab `m` are the keys `512 m, …, 512 m + 511`. -/
theorem sum_slab {α : Type} [AddCommMonoid α] (g : ℕ → α) (m : ℕ) :
    ∑ c : Fin 512, g (512 * m + c.val) = ∑ k ∈ Finset.Ico (512 * m) (512 * (m + 1)), g k := by
  rw [Fin.sum_univ_eq_sum_range (fun c => g (512 * m + c)) 512, Finset.range_eq_Ico, Finset.sum_Ico_add g 0 512 (512 * m)]
  congr 2 <;> ring

theorem sum_slab_from (g : ℕ → ℝ) (m c : ℕ) :
    ∑ i ∈ Finset.Ico c 512, g (512 * m + i) = ∑ k ∈ Finset.Ico (512 * m + c) (512 * (m + 1)), g k := by
  rw [Finset.sum_Ico_add g c 512 (512 * m)]
  congr 2 <;> ring

/-- A slab's weight in the running form is the key's weight. -/
theorem weight_eq (T N m c : ℕ) (hm : 512 * (m + 1) ≤ N) (hc : c < 512) (z : ℕ → ℝ) :
    Ideal.exp ((if 512 * m + c < T then (z (512 * m + c) : EReal) else ⊥)
      - ((∑ i ∈ Finset.Ico c 512, dlt T z (512 * m + i) + ∑ k ∈ Finset.Ico (512 * (m + 1)) N, dlt T z k : ℝ) : EReal))
      = wgt T N z (512 * m + c) := by
  rw [sum_slab_from, Finset.sum_Ico_consecutive _ (by omega) hm]
  unfold wgt
  split_ifs with h
  · rw [← EReal.coe_sub, Ideal.exp_coe]
  · rw [EReal.bot_sub, Ideal.exp_bot]

section Slabs

variable (q0 q1 : FVec Ideal S512x128 .bf16) (b0 b1 : Elt Ideal .f32) (kt : Vec Ideal S1x1x128x512 .bf16)

theorem scoredU_row {r : Fin 1024} {m T : ℕ} {z : ℕ → ℝ} (hT : 512 * (m + 1) ≤ T)
    (h : ∀ c : Fin 512, scores q0 q1 b0 b1 kt (ix2 r c) = (z (512 * m + c.val) : EReal)) :
    Row (scoredU q0 q1 b0 b1 kt) r (fun c => if 512 * m + c < T then (z (512 * m + c) : EReal) else ⊥) (fun c => dlt T z (512 * m + c)) := by
  have hd : ∀ c : Fin 512, drop (scores q0 q1 b0 b1 kt) (ix2 r c) = (dlt T z (512 * m + c.val) : EReal) := by
    intro c
    rw [drop_apply, h, drop_coe, dlt, if_pos (by omega)]
  refine ⟨fun c => ?_, fun c => ?_, fun c => ?_⟩
  · show scores q0 q1 b0 b1 kt (ix2 r c) = _
    rw [h, if_pos (by omega)]
  · exact hd c
  · show drop (scores q0 q1 b0 b1 kt) (ix2 r c) - drop (scores q0 q1 b0 b1 kt) (ix2 r c) = 0
    rw [hd, ← EReal.coe_sub, sub_self, EReal.coe_zero]

theorem scoredM_row {r : Fin 1024} {m T : ℕ} {z : ℕ → ℝ} (hT : T = 512 * m + r.val % 512)
    (h : ∀ c : Fin 512, scores q0 q1 b0 b1 kt (ix2 r c) = (z (512 * m + c.val) : EReal)) :
    Row (scoredM q0 q1 b0 b1 kt) r (fun c => if 512 * m + c < T then (z (512 * m + c) : EReal) else ⊥) (fun c => dlt T z (512 * m + c)) := by
  have hb : (Scalar.ofBits (F := Ideal) .f32 0xFF800000#32 : EReal) = ⊥ := by
    show Ideal.ofBits .f32 0xFF800000#32 = ⊥
    simp [Ideal.ofBits, Ideal.ieee]
  have hd : ∀ c : Fin 512, (select k0_pay11 (drop (scores q0 q1 b0 b1 kt)) (broadcast S1024x512 (Scalar.ofBits .f32 0x00000000#32))) (ix2 r c)
      = (dlt T z (512 * m + c.val) : EReal) := by
    intro c
    pointwise []
    rw [mask_apply, select_ofBool, drop_apply, h, drop_coe, dlt]
    by_cases hc : c.val < r.val % 512
    · rw [if_pos hc, if_pos (by omega)]
    · rw [if_neg hc, if_neg (by omega), EReal.coe_zero]
  refine ⟨fun c => ?_, fun c => ?_, fun c => ?_⟩
  · show Scalar.select (k0_pay11 (ix2 r c)) (scores q0 q1 b0 b1 kt (ix2 r c)) (Scalar.ofBits (F := Ideal) .f32 0xFF800000#32) = _
    rw [mask_apply, select_ofBool, h, hb]
    by_cases hc : c.val < r.val % 512
    · rw [if_pos hc, if_pos (by omega)]
    · rw [if_neg hc, if_neg (by omega)]
  · exact hd c
  · show (select k0_pay11 (drop (scores q0 q1 b0 b1 kt)) (broadcast S1024x512 (Scalar.ofBits .f32 0x00000000#32))) (ix2 r c)
      - (select k0_pay11 (drop (scores q0 q1 b0 b1 kt)) (broadcast S1024x512 (Scalar.ofBits .f32 0x00000000#32))) (ix2 r c) = 0
    rw [hd, ← EReal.coe_sub, sub_self, EReal.coe_zero]

end Slabs

/-- The running pair after `j` slabs from slab `n` down. -/
theorem state_apply (n : ℕ) (s : ℕ → Scored Ideal) (vt : ℕ → Vec Ideal S1x1x128x512 .bf16) (r : Fin 1024) (l : Fin 128) (T : ℕ) (z : ℕ → ℝ) (v : ℕ → EReal)
    (hs : ∀ j ≤ n, Row (s j) r (fun c => if 512 * (n - j) + c < T then (z (512 * (n - j) + c) : EReal) else ⊥) (fun c => dlt T z (512 * (n - j) + c)))
    (hv : ∀ j ≤ n, ∀ c : Fin 512, vt j (ix4 0 0 l c) = v (512 * (n - j) + c.val)) (j : ℕ) (hj : j ≤ n + 1) :
    (state s vt j).1 (ix2 r 0) = ((∑ k ∈ Finset.Ico (512 * (n + 1 - j)) (512 * (n + 1)), dlt T z k : ℝ) : EReal)
      ∧ (state s vt j).2 (ix2 r l) = ∑ k ∈ Finset.Ico (512 * (n + 1 - j)) (512 * (n + 1)), wgt T (512 * (n + 1)) z k * v k := by
  induction j with
  | zero =>
    rw [Nat.sub_zero, Finset.Ico_self, Finset.sum_empty, Finset.sum_empty]
    constructor
    · show Ideal.ofBits .f32 0x00000000#32 = _
      rw [Ideal.ofBits_zero_f32, EReal.coe_zero]
    · show Ideal.ofBits .f32 0x00000000#32 = _
      rw [Ideal.ofBits_zero_f32]
  | succ j ih =>
    obtain ⟨hr, ha⟩ := ih (by omega)
    have e : n + 1 - j = n - j + 1 := by omega
    have e' : n + 1 - (j + 1) = n - j := by omega
    rw [e] at hr ha
    rw [e']
    have h := hs j (by omega)
    constructor
    · show runOut (s j) (state s vt j).1 (ix2 r 0) = _
      rw [runOut_row h hr, sum_slab_from, add_comm, Finset.sum_Ico_consecutive _ (by omega) (by omega), Nat.add_zero]
    · show accOut (s j) (state s vt j).1 (state s vt j).2 (vt j) (ix2 r l) = _
      rw [accOut_row h hr, ha, add_comm, ← Finset.sum_Ico_consecutive _ (by omega : 512 * (n - j) ≤ 512 * (n - j + 1)) (by omega), ← sum_slab]
      congr 1
      refine Finset.sum_congr rfl fun c _ => ?_
      rw [weight_eq T _ (n - j) c.val (by omega) c.isLt, hv j (by omega)]

/-- A tile's element is the attention of its query, lane and head. -/
theorem tile_apply (n : ℕ) (hn : n < 4) (q : Vec Ideal S512x128 .bf16) (b0 b1 : Elt Ideal .f32) (kt vt : ℕ → Vec Ideal S1x1x128x512 .bf16)
    (r : Fin 512) (l : Fin 128) (z : ℕ → ℝ) (v : ℕ → EReal)
    (hz : ∀ m ≤ n, ∀ c : Fin 512, scores (k0_pay4 q) (k0_pay5 q) b0 b1 (kt m) (ix2 ⟨512 * (l.val / 64) + r.val, by omega⟩ c) = (z (512 * m + c.val) : EReal))
    (hv : ∀ m ≤ n, ∀ c : Fin 512, vt m (ix4 0 0 l c) = v (512 * m + c.val)) :
    tile n q b0 b1 kt vt (ix2 r l) = att z v (512 * n + r.val) := by
  unfold tile
  rw [finish_apply]
  refine ((state_apply n _ _ ⟨512 * (l.val / 64) + r.val, by omega⟩ l (512 * n + r.val) z v (fun j hj => ?_)
    (fun j hj c => hv (n - j) (by omega) c) (n + 1) le_rfl).2).trans ?_
  · by_cases h0 : j = 0
    · subst h0
      refine scoredM_row _ _ _ _ _ ?_ (hz _ (Nat.sub_le _ _))
      show 512 * n + r.val = 512 * (n - 0) + (512 * (l.val / 64) + r.val) % 512
      omega
    · simp only [if_neg h0]
      exact scoredU_row _ _ _ _ _ (by omega) (hz _ (Nat.sub_le _ _))
  · rw [Nat.sub_self, Nat.mul_zero, att_eq (by omega) (by omega)]

end Cert.Att

end
-- ==== Proof.Kern.lean ====
module

public import proofs.«01_k».proof.Proof.Tile
public import Idealize.ShloMosaic.Lib.Pipeline.ValueKit.Geometry

@[expose] public section

set_option maxRecDepth 16384

noncomputable section

/-! The attention kernel's result array as one function of its four arguments. -/

namespace Cert.Att

open Cert.KernelIdeal Cert.KernelIdeal.Gen Cert.KernelIdeal.Value Cert.KernelIdeal.Facts Idealize.ShloMosaic Idealize.ShloMosaic.TcCoe Idealize.ShloMosaic.WordCmp Idealize.SL.Sem

/-- The scores of query `t` of batch `b` and head `h`, as real numbers. -/
def zOf (a0 a1 : Vec Ideal S4x2048x16x64 .f32) (a3 : Vec Ideal S16 .f32) (b : Fin 4) (t : Fin 2048) (h : Fin 16) (s : ℕ) : ℝ :=
  (∑ d : Fin 64, EReal.toReal (a0 (ix4 b t h d)) * EReal.toReal (a1 (ix4 b ⟨s % 2048, Nat.mod_lt _ (by decide)⟩ h d))) * (1 / 8)
    + EReal.toReal (a3 (ix1 h))

/-- The values of a head and lane, by key. -/
def vOf (a2 : Vec Ideal S4x2048x16x64 .f32) (b : Fin 4) (h : Fin 16) (d : Fin 64) (s : ℕ) : EReal :=
  a2 (ix4 b ⟨s % 2048, Nat.mod_lt _ (by decide)⟩ h d)

/-- The attention at a batch, query, head and lane. -/
def attAt (a0 a1 a2 : Vec Ideal S4x2048x16x64 .f32) (a3 : Vec Ideal S16 .f32) (b : Fin 4) (t : Fin 2048) (h : Fin 16) (d : Fin 64) : EReal :=
  att (zOf a0 a1 a3 b t h) (vOf a2 b h d) t.val

/-- The result array: rows are batch by query, columns head by lane. -/
def G (a0 a1 a2 : Vec Ideal S4x2048x16x64 .f32) (a3 : Vec Ideal S16 .f32) : Vec Ideal S8192x1024 .bf16 := fun i =>
  attAt a0 a1 a2 a3 ⟨(i 0).val / 2048, by have h : (i 0).val < 8192 := (i 0).isLt; omega⟩ ⟨(i 0).val % 2048, Nat.mod_lt _ (by decide)⟩
    ⟨(i 1).val / 64, by have h : (i 1).val < 1024 := (i 1).isLt; omega⟩ ⟨(i 1).val % 64, Nat.mod_lt _ (by decide)⟩

theorem G_apply (a0 a1 a2 : Vec Ideal S4x2048x16x64 .f32) (a3 : Vec Ideal S16 .f32) (i : Fin 8192) (j : Fin 1024) :
    G a0 a1 a2 a3 (ix2 i j) = attAt a0 a1 a2 a3 ⟨i.val / 2048, by omega⟩ ⟨i.val % 2048, Nat.mod_lt _ (by decide)⟩ ⟨j.val / 64, by omega⟩
      ⟨j.val % 64, Nat.mod_lt _ (by decide)⟩ := rfl

/-- A head's part of a product over the two heads' lanes: the other head's lanes are zero. -/
theorem sum_lane0 (q : Vec Ideal S512x128 .bf16) (r : Fin 512) (k : Fin 128 → EReal) (qr kr : ℕ → ℝ)
    (hq : ∀ l : Fin 128, q (ix2 r l) = (qr l.val : EReal)) (hk : ∀ l : Fin 128, k l = (kr l.val : EReal)) :
    ∑ l : Fin 128, k0_pay4 q (ix2 r l) * k l = ((∑ d : Fin 64, qr (64 * 0 + d.val) * kr (64 * 0 + d.val) : ℝ) : EReal) := by
  have e : ∀ l : Fin 128, k0_pay4 q (ix2 r l) * k l = (((fun l : ℕ => if l < 64 then qr l * kr l else 0) l.val : ℝ) : EReal) := by
    intro l
    rw [q0_apply, hq, hk]
    by_cases h : l.val < 64 <;> simp [h]
  rw [Finset.sum_congr rfl fun l _ => e l, ← coe_sum, Fin.sum_univ_eq_sum_range (fun l : ℕ => if l < 64 then qr l * kr l else 0) 128,
    Fin.sum_univ_eq_sum_range (fun d : ℕ => qr (64 * 0 + d) * kr (64 * 0 + d)) 64, ← Finset.sum_filter]
  have f : (Finset.range 128).filter (fun l => l < 64) = Finset.range 64 := by ext l; simp only [Finset.mem_filter, Finset.mem_range]; omega
  rw [f]
  simp only [Nat.mul_zero, Nat.zero_add]

theorem sum_lane1 (q : Vec Ideal S512x128 .bf16) (r : Fin 512) (k : Fin 128 → EReal) (qr kr : ℕ → ℝ)
    (hq : ∀ l : Fin 128, q (ix2 r l) = (qr l.val : EReal)) (hk : ∀ l : Fin 128, k l = (kr l.val : EReal)) :
    ∑ l : Fin 128, k0_pay5 q (ix2 r l) * k l = ((∑ d : Fin 64, qr (64 * 1 + d.val) * kr (64 * 1 + d.val) : ℝ) : EReal) := by
  have e : ∀ l : Fin 128, k0_pay5 q (ix2 r l) * k l = (((fun l : ℕ => if 64 ≤ l then qr l * kr l else 0) l.val : ℝ) : EReal) := by
    intro l
    rw [q1_apply, hq, hk]
    by_cases h : l.val < 64
    · rw [if_pos h, zero_mul]; simp [not_le.mpr h]
    · rw [if_neg h]; simp [not_lt.mp h]
  rw [Finset.sum_congr rfl fun l _ => e l, ← coe_sum, Fin.sum_univ_eq_sum_range (fun l : ℕ => if 64 ≤ l then qr l * kr l else 0) 128,
    Fin.sum_univ_eq_sum_range (fun d : ℕ => qr (64 * 1 + d) * kr (64 * 1 + d)) 64, ← Finset.sum_filter]
  have f : (Finset.range 128).filter (fun l => 64 ≤ l) = Finset.Ico 64 128 := by
    ext l; simp only [Finset.mem_filter, Finset.mem_range, Finset.mem_Ico]; omega
  rw [f, Finset.range_eq_Ico, Finset.sum_Ico_add (fun l => qr l * kr l) 0 64 (64 * 1)]

/-- The scores of a row whose queries, keys and biases are real. -/
theorem scores_real (q : Vec Ideal S512x128 .bf16) (b0 b1 : Elt Ideal .f32) (kt : Vec Ideal S1x1x128x512 .bf16) (r c : Fin 512) (e : ℕ) (he : e < 2)
    (qr kr : ℕ → ℝ) (β : ℝ) (hq : ∀ l : Fin 128, q (ix2 r l) = (qr l.val : EReal)) (hk : ∀ l : Fin 128, kt (ix4 0 0 l c) = (kr l.val : EReal))
    (hb : (if e = 0 then b0 else b1) = (β : EReal)) :
    scores (k0_pay4 q) (k0_pay5 q) b0 b1 kt (ix2 ⟨512 * e + r.val, by omega⟩ c)
      = ((∑ d : Fin 64, qr (64 * e + d.val) * kr (64 * e + d.val) + β : ℝ) : EReal) := by
  rw [scores_apply, EReal.coe_add]
  obtain rfl | rfl : e = 0 ∨ e = 1 := by omega
  · have er : (⟨512 * 0 + r.val, by omega⟩ : Fin 512) = r := Fin.ext (by show 512 * 0 + r.val = r.val; omega)
    rw [dif_pos (by show 512 * 0 + r.val < 512; omega), score1_apply, ← hb, if_pos rfl]
    simp only [er]
    rw [sum_lane0 q r _ qr kr hq hk]
  · have er : (⟨512 * 1 + r.val - 512, by omega⟩ : Fin 512) = r := Fin.ext (by show 512 * 1 + r.val - 512 = r.val; omega)
    rw [dif_neg (by show ¬ 512 * 1 + r.val < 512; omega), score1_apply, ← hb, if_neg (by decide)]
    simp only [er]
    rw [sum_lane1 q r _ qr kr hq hk]

/-- The printed index maps, as numbers of the grid point. -/
theorem idx0 : ∀ t : Fin cfg0.N, win0_0.index t = ![0] := (by decide +kernel : ∀ t : Fin grid0.N, _)
theorem idx1 : ∀ t : Fin cfg0.N, win0_1.index t = ![t.val / 32 * 4 + t.val % 4, t.val / 4 % 8] := (by decide +kernel : ∀ t : Fin grid0.N, _)
theorem idx2 : ∀ t : Fin cfg0.N, win0_2.index t = ![t.val / 32, 0, t.val / 4 % 8, 0] := (by decide +kernel : ∀ t : Fin grid0.N, _)
theorem idx3 : ∀ t : Fin cfg0.N, win0_3.index t = ![t.val / 32, 0, t.val / 4 % 8, 0] := (by decide +kernel : ∀ t : Fin grid0.N, _)
theorem idx4 : ∀ t : Fin cfg0.N, win0_4.index t = ![t.val / 32 * 4 + t.val % 4, t.val / 4 % 8] := (by decide +kernel : ∀ t : Fin grid0.N, _)

/-- A grid point's coordinate along the head pairs. -/
theorem coord1 (t : Fin cfg0.N) : (grid0.coords t 1).val = t.val / 4 % 8 := Pipeline.Grid.coords_val t 1 (by decide) rfl

/-- The word of a head pair's first bias is twice the pair. -/
theorem off1_val (i : grid0.Coords) : k0_off1 i = ![2 * (i 1).val] := by
  have h : ∀ v : Fin 8, (Scalar.indexCast (Scalar.muli 2#32 (BitVec.ofNat 32 v.val)) : BitVec _).toNat = 2 * v.val := by decide
  unfold k0_off1
  exact congrArg (fun x : ℕ => ![x]) (h (i 1))

theorem off2_val (i : grid0.Coords) : k0_off2 i = ![2 * (i 1).val + 1] := by
  have h : ∀ v : Fin 8, (Scalar.indexCast (Scalar.addi (Scalar.muli 2#32 (BitVec.ofNat 32 v.val)) 1#32) : BitVec _).toNat = 2 * v.val + 1 := by decide
  unfold k0_off2
  exact congrArg (fun x : ℕ => ![x]) (h (i 1))

theorem bias0_eq (i : grid0.Coords) (x : Vec Ideal S16 .f32) (h : 2 * (i 1).val < 16) : bias0 i x = x (ix1 ⟨2 * (i 1).val, h⟩) := by
  refine congrArg x (funext fun a => Fin.ext ?_)
  match a with
  | ⟨0, _⟩ =>
    show k0_off1 i 0 + 1 * 0 = 2 * (i 1).val
    rw [off1_val]; rfl

theorem bias1_eq (i : grid0.Coords) (x : Vec Ideal S16 .f32) (h : 2 * (i 1).val + 1 < 16) : bias1 i x = x (ix1 ⟨2 * (i 1).val + 1, h⟩) := by
  refine congrArg x (funext fun a => Fin.ext ?_)
  match a with
  | ⟨0, _⟩ =>
    show k0_off2 i 0 + 1 * 0 = 2 * (i 1).val + 1
    rw [off2_val]; rfl

/-- A staged slab at an index. -/
theorem slab_apply (x : Vec Ideal S1x4x128x512 .bf16) (s : Fin 4) (l : Fin 128) (c : Fin 512) : slab x s.val (ix4 0 0 l c) = x (ix4 0 s l c) := by
  match s with
  | ⟨0, _⟩ => pointwise [slab]
  | ⟨1, _⟩ => pointwise [slab]
  | ⟨2, _⟩ => pointwise [slab]
  | ⟨3, _⟩ => pointwise [slab]

variable (m : (ℓ : Loc nD τ sig) → Buf (Elt Ideal) ℓ) (c : Dev nD)

/-- The four arguments as the program is launched on them. -/
abbrev A0 : Vec Ideal S4x2048x16x64 .f32 := m ((c : Thread nD τ).loc main_arg0)
abbrev A1 : Vec Ideal S4x2048x16x64 .f32 := m ((c : Thread nD τ).loc main_arg1)
abbrev A2 : Vec Ideal S4x2048x16x64 .f32 := m ((c : Thread nD τ).loc main_arg2)
abbrev A3 : Vec Ideal S16 .f32 := m ((c : Thread nD τ).loc main_arg3)

theorem V_q (i : Fin 8192) (j : Fin 1024) : (V m c main_v3 : Vec Ideal S8192x1024 .bf16) (ix2 i j)
    = A0 m c (ix4 ⟨i.val / 2048, by omega⟩ ⟨i.val % 2048, Nat.mod_lt _ (by decide)⟩ ⟨j.val / 64, by omega⟩ ⟨j.val % 64, Nat.mod_lt _ (by decide)⟩) * ((1 / 8 : ℝ) : EReal) := by
  have h8 : Ideal.ofBits .f32 0x3E000000#32 = ((1 / 8 : ℝ) : EReal) := by
    simp [Ideal.ofBits, Ideal.ieee]
    rw [← EReal.coe_mul]
    norm_num
  rw [← h8]
  dsimp only [V, hostOps0]
  after_results
  pointwise []

theorem V_k (b s : Fin 4) (j : Fin 1024) (r : Fin 512) : (V m c main_v6 : Vec Ideal S4x4x1024x512 .bf16) (ix4 b s j r)
    = A1 m c (ix4 b ⟨s.val * 512 + r.val, by omega⟩ ⟨j.val / 64, by omega⟩ ⟨j.val % 64, Nat.mod_lt _ (by decide)⟩) := by
  dsimp only [V, hostOps0]
  after_results
  pointwise []

theorem V_v (b s : Fin 4) (j : Fin 1024) (r : Fin 512) : (V m c main_v9 : Vec Ideal S4x4x1024x512 .bf16) (ix4 b s j r)
    = A2 m c (ix4 b ⟨s.val * 512 + r.val, by omega⟩ ⟨j.val / 64, by omega⟩ ⟨j.val % 64, Nat.mod_lt _ (by decide)⟩) := by
  dsimp only [V, hostOps0]
  after_results
  pointwise []

theorem lt128 (t : Fin cfg0.N) : t.val < 128 := lt_of_lt_of_eq t.isLt N_0

theorem blk0 (t : Fin cfg0.N) : (iblk m c 0 t : Vec Ideal S16 .f32) = A3 m c := by
  funext y
  blk_simp [iblk]
  rw [V_main_arg3]
  congr 1
  blk_ext [idx0]

theorem blk1 (t : Fin cfg0.N) (r : Fin 512) (l : Fin 128) : (iblk m c 1 t : Vec Ideal S512x128 .bf16) (ix2 r l)
    = A0 m c (ix4 ⟨t.val / 32, by have := lt128 t; omega⟩ ⟨512 * (t.val % 4) + r.val, by omega⟩ ⟨2 * (t.val / 4 % 8) + l.val / 64, by omega⟩
        ⟨l.val % 64, Nat.mod_lt _ (by decide)⟩) * ((1 / 8 : ℝ) : EReal) := by
  have ht := lt128 t
  have e : ((win0_1.blk t).view.emb (ix2 r l) : S8192x1024.Idx)
      = ix2 ⟨(t.val / 32 * 4 + t.val % 4) * 512 + r.val, by omega⟩ ⟨t.val / 4 % 8 * 128 + l.val, by omega⟩ := by
    blk_ext [idx1]
  blk_simp [iblk]
  refine ((congrArg (V m c main_v3 : Vec Ideal S8192x1024 .bf16) e).trans (V_q m c _ _)).trans ?_
  congr 3 <;> exact Fin.ext (by dsimp only; omega)

theorem blk2 (t : Fin cfg0.N) (s : Fin 4) (l : Fin 128) (k : Fin 512) : (iblk m c 2 t : Vec Ideal S1x4x128x512 .bf16) (ix4 0 s l k)
    = A1 m c (ix4 ⟨t.val / 32, by have := lt128 t; omega⟩ ⟨s.val * 512 + k.val, by omega⟩ ⟨2 * (t.val / 4 % 8) + l.val / 64, by omega⟩
        ⟨l.val % 64, Nat.mod_lt _ (by decide)⟩) := by
  have ht := lt128 t
  have e : ((win0_2.blk t).view.emb (ix4 0 s l k) : S4x4x1024x512.Idx)
      = ix4 ⟨t.val / 32, by omega⟩ s ⟨t.val / 4 % 8 * 128 + l.val, by omega⟩ k := by
    blk_ext [idx2]
  blk_simp [iblk]
  refine ((congrArg (V m c main_v6 : Vec Ideal S4x4x1024x512 .bf16) e).trans (V_k m c _ _ _ _)).trans ?_
  congr 2 <;> exact Fin.ext (by dsimp only; omega)

theorem blk3 (t : Fin cfg0.N) (s : Fin 4) (l : Fin 128) (k : Fin 512) : (iblk m c 3 t : Vec Ideal S1x4x128x512 .bf16) (ix4 0 s l k)
    = A2 m c (ix4 ⟨t.val / 32, by have := lt128 t; omega⟩ ⟨s.val * 512 + k.val, by omega⟩ ⟨2 * (t.val / 4 % 8) + l.val / 64, by omega⟩
        ⟨l.val % 64, Nat.mod_lt _ (by decide)⟩) := by
  have ht := lt128 t
  have e : ((win0_3.blk t).view.emb (ix4 0 s l k) : S4x4x1024x512.Idx)
      = ix4 ⟨t.val / 32, by omega⟩ s ⟨t.val / 4 % 8 * 128 + l.val, by omega⟩ k := by
    blk_ext [idx3]
  blk_simp [iblk]
  refine ((congrArg (V m c main_v9 : Vec Ideal S4x4x1024x512 .bf16) e).trans (V_v m c _ _ _ _)).trans ?_
  congr 2 <;> exact Fin.ext (by dsimp only; omega)

/-- A grid point leaves its tile, whichever case runs. -/
theorem outs_eq (t : Fin cfg0.N) : (outsAt0 m c t.val t.isLt : Vec Ideal S512x128 .bf16)
    = tile (t.val % 4) (iblk m c 1 t) (bias0 (grid0.coords t) (iblk m c 0 t)) (bias1 (grid0.coords t) (iblk m c 0 t)) (slab (iblk m c 2 t)) (slab (iblk m c 3 t)) := by
  obtain h | h | h | h : t.val % 4 = 0 ∨ t.val % 4 = 1 ∨ t.val % 4 = 2 ∨ t.val % 4 = 3 := by omega
  · rw [outsAt0_A m c t h (by omega) (by omega) (by omega), out_A, h]
  · rw [outsAt0_B m c t (by omega) h (by omega) (by omega), out_B, h]
  · rw [outsAt0_C m c t (by omega) (by omega) h (by omega), out_C, h]
  · rw [outsAt0_D m c t (by omega) (by omega) (by omega) h, out_D, h]

/-- A tile's element, from the arguments. -/
theorem tile_eq (t : Fin cfg0.N) (h0 : ∀ i, A0 m c i = (EReal.toReal (A0 m c i) : EReal)) (h1 : ∀ i, A1 m c i = (EReal.toReal (A1 m c i) : EReal))
    (h3 : ∀ i, A3 m c i = (EReal.toReal (A3 m c i) : EReal)) (r : Fin 512) (l : Fin 128) :
    (outsAt0 m c t.val t.isLt : Vec Ideal S512x128 .bf16) (ix2 r l)
      = attAt (A0 m c) (A1 m c) (A2 m c) (A3 m c) ⟨t.val / 32, by have := lt128 t; omega⟩ ⟨512 * (t.val % 4) + r.val, by omega⟩
          ⟨2 * (t.val / 4 % 8) + l.val / 64, by omega⟩ ⟨l.val % 64, Nat.mod_lt _ (by decide)⟩ := by
  have ht := lt128 t
  rw [outs_eq, attAt]
  refine tile_apply _ (by omega) _ _ _ _ _ r l _ _ (fun k hk s => ?_) (fun k hk s => ?_)
  · have hc := coord1 t
    rw [scores_real (iblk m c 1 t) _ _ (slab (iblk m c 2 t) k) r s (l.val / 64) (by omega)
      (fun l' => EReal.toReal (A0 m c (ix4 ⟨t.val / 32, by omega⟩ ⟨512 * (t.val % 4) + r.val, by omega⟩ ⟨(2 * (t.val / 4 % 8) + l' / 64) % 16, Nat.mod_lt _ (by decide)⟩
        ⟨l' % 64, Nat.mod_lt _ (by decide)⟩)) * (1 / 8))
      (fun l' => EReal.toReal (A1 m c (ix4 ⟨t.val / 32, by omega⟩ ⟨k * 512 + s.val, by omega⟩ ⟨(2 * (t.val / 4 % 8) + l' / 64) % 16, Nat.mod_lt _ (by decide)⟩
        ⟨l' % 64, Nat.mod_lt _ (by decide)⟩)))
      (EReal.toReal (A3 m c (ix1 ⟨2 * (t.val / 4 % 8) + l.val / 64, by omega⟩)))]
    · congr 1
      unfold zOf
      congr 1
      rw [Finset.sum_mul]
      refine Finset.sum_congr rfl fun d _ => ?_
      have e1 : (2 * (t.val / 4 % 8) + (64 * (l.val / 64) + d.val) / 64) % 16 = 2 * (t.val / 4 % 8) + l.val / 64 := by omega
      have e2 : (64 * (l.val / 64) + d.val) % 64 = d.val := by omega
      have e3 : k * 512 + s.val = (512 * k + s.val) % 2048 := by omega
      simp only [e1, e2, e3]
      ring
    · intro l'
      have e1 : (2 * (t.val / 4 % 8) + l'.val / 64) % 16 = 2 * (t.val / 4 % 8) + l'.val / 64 := by omega
      rw [blk1, h0, ← EReal.coe_mul]
      simp only [e1]
    · intro l'
      have e1 : (2 * (t.val / 4 % 8) + l'.val / 64) % 16 = 2 * (t.val / 4 % 8) + l'.val / 64 := by omega
      rw [slab_apply _ ⟨k, by omega⟩, blk2, h1]
      simp only [e1]
    · rw [blk0, bias0_eq _ _ (by omega), bias1_eq _ _ (by omega), ← h3]
      split_ifs with he
      · congr 2; exact Fin.ext (by dsimp only; omega)
      · congr 2; exact Fin.ext (by dsimp only; omega)
  · rw [slab_apply _ ⟨k, by omega⟩, blk3]
    unfold vOf
    have e3 : k * 512 + s.val = (512 * k + s.val) % 2048 := by omega
    simp only [e3]

/-- The result array after the run. -/
theorem final (h0 : ∀ i, A0 m c i = (EReal.toReal (A0 m c i) : EReal)) (h1 : ∀ i, A1 m c i = (EReal.toReal (A1 m c i) : EReal))
    (h3 : ∀ i, A3 m c i = (EReal.toReal (A3 m c i) : EReal)) :
    (dats m 0 c).arrAt 4 cfg0.N = G (A0 m c) (A1 m c) (A2 m c) (A3 m c) := by
  refine (dats m 0 c).arrAt_eq_of_covers 4 _ (by decide +kernel) fun t hf y => ?_
  blk_simp
  rw [after0_4]
  have ht := lt128 t
  have hy : y = ix2 (n0 := 512) (n1 := 128) (y 0) (y 1) := by funext a; match a with | ⟨0, _⟩ => rfl | ⟨1, _⟩ => rfl
  have e : ((win0_4.blk t).view.emb y : S8192x1024.Idx)
      = ix2 ⟨(t.val / 32 * 4 + t.val % 4) * 512 + (y 0).val, by have : (y 0).val < 512 := (y 0).isLt; omega⟩
          ⟨t.val / 4 % 8 * 128 + (y 1).val, by have : (y 1).val < 128 := (y 1).isLt; omega⟩ := by
    blk_ext [idx4]
  refine ((congrArg (outsAt0 m c t.val t.isLt : Vec Ideal S512x128 .bf16) hy).trans (tile_eq m c t h0 h1 h3 (y 0) (y 1))).trans ?_
  refine Eq.trans ?_ (congrArg (G (A0 m c) (A1 m c) (A2 m c) (A3 m c)) e).symm
  have hy0 : (y 0).val < 512 := (y 0).isLt
  have hy1 : (y 1).val < 128 := (y 1).isLt
  rw [G_apply]
  congr 1 <;> exact Fin.ext (by dsimp only; omega)

end Cert.Att

end
-- ==== Proof.RefAt.lean ====
module

public import proofs.«01_k».proof.Proof.Gen.ReferenceIdeal.Read
public import proofs.«01_k».proof.Proof.Kern

@[expose] public section

set_option maxRecDepth 16384

noncomputable section

/-! The reference's result, entry by entry, is the same function of the arguments. -/

namespace Cert.Att.Ref

open Cert.ReferenceIdeal Cert.ReferenceIdeal.Gen Cert.ReferenceIdeal.Read Cert.ReferenceIdeal.Facts Idealize.ShloMosaic Idealize.ShloMosaic.TcCoe Idealize.ShloMosaic.WordCmp Idealize.SL.Sem

/-- A left fold whose every step adds a term is the sum of the terms. -/
theorem foldl_adds {α : Type} (step : EReal → α → EReal) (g : α → EReal) (h : ∀ r n, step r n = r + g n) (l : List α) (v : EReal) :
    l.foldl step v = v + (l.map g).sum := by
  induction l generalizing v with
  | nil => simp
  | cons a l ih => rw [List.foldl_cons, ih, h, List.map_cons, List.sum_cons, add_assoc]

/-- The backward running sum along the last axis, as a window padded after the end. -/
theorem suffix_window {B H T N P : ℕ} (x : (⟨4, ![B, H, T, N]⟩ : Shape).Idx → EReal) {u : Shape} (init : u.Idx → EReal) (hinit : ∀ i, init i = 0)
    (h : (⟨4, ![B, H, T, N]⟩ : Shape).ReduceWindows (![1, 1, 1, N] : Fin 4 → Nat) ![1, 1, 1, 1] ![0, 0, 0, 0] ![0, 0, 0, P] ⟨4, ![B, H, T, N]⟩) (hu : 0 < u.numel)
    (b : Fin B) (n : Fin H) (t : Fin T) (s : Fin N) :
    Host.reduceWindow (· + ·) ![1, 1, 1, N] ![1, 1, 1, 1] ![0, 0, 0, 0] ![0, 0, 0, P] x init h hu (ix4 b n t s)
      = ∑ w : Fin N, if hw : s.val + w.val < N then x (ix4 b n t ⟨s.val + w.val, hw⟩) else 0 := by
  unfold Host.reduceWindow
  dsimp only
  rw [foldl_adds (g := fun k => (fun w : (⟨4, ![1, 1, 1, N]⟩ : Shape).Idx =>
    if hw : s.val + (w 3).val < N then x (ix4 b n t ⟨s.val + (w 3).val, hw⟩) else 0) ((⟨4, ![1, 1, 1, N]⟩ : Shape).rowMajor.symm k))]
  · rw [hinit, zero_add, ← Fin.sum_univ_def]
    refine (Equiv.sum_comp (M := EReal) (⟨4, ![1, 1, 1, N]⟩ : Shape).rowMajor.symm (fun w : (⟨4, ![1, 1, 1, N]⟩ : Shape).Idx =>
      if hw : s.val + (w 3).val < N then x (ix4 b n t ⟨s.val + (w 3).val, hw⟩) else 0)).trans ?_
    rw [sum_idx4]
    simp only [Finset.univ_unique, Finset.sum_singleton, ix4_3]
    rfl
  · intro r k
    let w := (⟨4, ![1, 1, 1, N]⟩ : Shape).rowMajor.symm k
    refine congrArg (r + ·) ?_
    dsimp only
    have w0 : (w 0).val = 0 := Nat.lt_one_iff.mp (w 0).isLt
    have w1 : (w 1).val = 0 := Nat.lt_one_iff.mp (w 1).isLt
    have w2 : (w 2).val = 0 := Nat.lt_one_iff.mp (w 2).isLt
    by_cases hw : s.val + (w 3).val < N
    · rw [dif_pos hw, dif_pos]
      · refine congrArg x (funext fun a => Fin.ext ?_)
        match a with
        | ⟨0, _⟩ => show b.val * 1 + (w 0).val - 0 = b.val; omega
        | ⟨1, _⟩ => show n.val * 1 + (w 1).val - 0 = n.val; omega
        | ⟨2, _⟩ => show t.val * 1 + (w 2).val - 0 = t.val; omega
        | ⟨3, _⟩ => show s.val * 1 + (w 3).val - 0 = s.val + (w 3).val; omega
      · intro a
        match a with
        | ⟨0, _⟩ => show 0 ≤ b.val * 1 + (w 0).val ∧ b.val * 1 + (w 0).val - 0 < B; have := b.isLt; omega
        | ⟨1, _⟩ => show 0 ≤ n.val * 1 + (w 1).val ∧ n.val * 1 + (w 1).val - 0 < H; have := n.isLt; omega
        | ⟨2, _⟩ => show 0 ≤ t.val * 1 + (w 2).val ∧ t.val * 1 + (w 2).val - 0 < T; have := t.isLt; omega
        | ⟨3, _⟩ => show 0 ≤ s.val * 1 + (w 3).val ∧ s.val * 1 + (w 3).val - 0 < N; omega
    · rw [dif_neg hw, dif_neg]
      · exact hinit _
      · intro hc
        have h3 : 0 ≤ s.val * 1 + (w 3).val ∧ s.val * 1 + (w 3).val - 0 < N := hc 3
        omega

/-- A sum over a window that runs past the end is the sum to the end. -/
theorem sum_window (N : ℕ) (g : ℕ → EReal) (s : ℕ) :
    ∑ w : Fin N, (if s + w.val < N then g (s + w.val) else 0) = ∑ k ∈ Finset.Ico s N, g k := by
  rw [Fin.sum_univ_eq_sum_range (fun w => if s + w < N then g (s + w) else 0) N, Finset.sum_Ico_eq_sum_range, ← Finset.sum_filter]
  refine Finset.sum_congr (Finset.ext fun k => ?_) fun _ _ => rfl
  rw [Finset.mem_filter, Finset.mem_range, Finset.mem_range]
  omega

/-- The soft plus as it is printed. -/
theorem soft_coe (x : ℝ) :
    Scalar.select (Ideal.cmp .une ((x : EReal) - 0) ((x : EReal) - 0)) ((x : EReal) + 0)
      (max (x : EReal) 0 + Ideal.log1p (Ideal.exp (-(max ((x : EReal) - 0) (-((x : EReal) - 0)))))) = (sp x : EReal) := by
  have e : Ideal.cmp .une ((x : EReal) - 0) ((x : EReal) - 0) = BitVec.ofBool (decide False) := by
    show BitVec.ofBool (decide _) = _
    simp
  rw [e, select_ofBool, if_neg not_false, sub_zero, ← drop_coe x, zero_sub]
  rfl

variable {x0 x1 : Vec Ideal S4x2048x16x64 .f32} {x3 : Vec Ideal S16 .f32}
  (h0 : ∀ i, x0 i = (EReal.toReal (x0 i) : EReal)) (h1 : ∀ i, x1 i = (EReal.toReal (x1 i) : EReal))
  (h3 : ∀ i, x3 i = (EReal.toReal (x3 i) : EReal))

include h0 h1 h3

/-- The scores. -/
theorem score_at (b : Fin 4) (h : Fin 16) (t s : Fin 2048) :
    val_main_v6 (F := Ideal) x0 x1 x3 (ix4 b h t s) = (zOf x0 x1 x3 b t h s.val : EReal) := by
  rw [val_main_v6_apply, val_main_v3_apply, val_main_v1_apply, val_main_v2_apply, val_main_cst_apply, val_main_v5_apply, val_main_v4_apply]
  have el : ∀ k : Fin 64, lidx_main_v1 (ix4 b h t s) k = ix4 b t h k := fun k => eq_ix4 _
  have er : ∀ k : Fin 64, ridx_main_v1 (ix4 b h t s) k = ix4 b s h k := fun k => eq_ix4 _
  have eb : idx_main_v4 (idx_main_v5 (ix4 b h t s)) = ix1 h := eq_ix1 _
  have ec : (FloatOps.ofBits (F := Ideal) .f32 0x3E000000#32 : EReal) = ((1 / 8 : ℝ) : EReal) := by
    show Ideal.ofBits .f32 0x3E000000#32 = _
    simp [Ideal.ofBits, Ideal.ieee]
    rw [← EReal.coe_mul]; norm_num
  have es : (⟨s.val % 2048, Nat.mod_lt _ (by decide)⟩ : Fin 2048) = s := Fin.ext (Nat.mod_eq_of_lt s.isLt)
  show (∑ k, _) * (FloatOps.ofBits (F := Ideal) .f32 0x3E000000#32 : EReal) + _ = _
  unfold zOf
  rw [ec, eb, es, EReal.coe_add, EReal.coe_mul, coe_sum, ← h3]
  simp only [el, er, EReal.coe_mul, ← h0, ← h1]

theorem keep_at (b : Fin 4) (h : Fin 16) (t s : Fin 2048) :
    val_main_v13 (F := Ideal) x0 x1 x3 (ix4 b h t s) = ((-sp (zOf x0 x1 x3 b t h s.val) : ℝ) : EReal) := by
  have e := soft_coe (zOf x0 x1 x3 b t h s.val)
  rw [← score_at h0 h1 h3 b h t s] at e
  rw [EReal.coe_neg, ← e, val_main_v13_apply, val_main_call0_v1_apply, val_main_call0_call0_v4_apply, val_main_call0_call0_v6_apply, val_main_call0_call0_v11_apply,
    val_main_call0_call0_v10_apply, val_main_call0_call0_v9_apply, val_main_call0_call0_v8_apply, val_main_call0_call0_v7_apply, val_main_call0_call0_v3_apply, val_main_call0_call0_v1_apply,
    val_main_call0_call0_v0_apply, val_main_call0_call0_v2_apply, val_main_call0_call0_v5_apply, val_main_call0_v0_apply, val_main_v12_apply]
  simp only [val_main_call0_call0_cst_apply]
  generalize val_main_v6 (F := Ideal) x0 x1 x3 (ix4 b h t s) = z
  have ez : (FloatOps.ofBits (F := Ideal) .f32 0x00000000#32 : EReal) = 0 := Ideal.ofBits_zero_f32
  have en : (FloatOps.hostNegf (F := Ideal) (φ := .f32) (FloatOps.hostNegf (F := Ideal) (φ := .f32) z) : EReal) = z := neg_neg z
  rw [ez, en]
  rfl

theorem take_at (b : Fin 4) (h : Fin 16) (t s : Fin 2048) :
    val_main_v17 (F := Ideal) x0 x1 x3 (ix4 b h t s) = ((-sp (-zOf x0 x1 x3 b t h s.val) : ℝ) : EReal) := by
  have e := soft_coe (-zOf x0 x1 x3 b t h s.val)
  rw [EReal.coe_neg, ← score_at h0 h1 h3 b h t s] at e
  rw [EReal.coe_neg, ← e, val_main_v17_apply, val_main_call3_v1_apply, val_main_call3_call0_v4_apply, val_main_call3_call0_v6_apply, val_main_call3_call0_v11_apply,
    val_main_call3_call0_v10_apply, val_main_call3_call0_v9_apply, val_main_call3_call0_v8_apply, val_main_call3_call0_v7_apply, val_main_call3_call0_v3_apply, val_main_call3_call0_v1_apply,
    val_main_call3_call0_v0_apply, val_main_call3_call0_v2_apply, val_main_call3_call0_v5_apply, val_main_call3_v0_apply]
  simp only [val_main_call3_call0_cst_apply]
  generalize val_main_v6 (F := Ideal) x0 x1 x3 (ix4 b h t s) = z
  have ez : (FloatOps.ofBits (F := Ideal) .f32 0x00000000#32 : EReal) = 0 := Ideal.ofBits_zero_f32
  rw [ez]
  rfl

omit h0 h1 h3 in
theorem mask_at (t s : Fin 2048) : val_main_v11 (F := Ideal) (ix2 t s) = BitVec.ofBool (decide (s.val < t.val)) := by
  rw [val_main_v11_apply, val_main_v9_apply, val_main_v10_apply, val_main_v7_apply, val_main_v8_apply]
  have h : ∀ a : Fin 2048, a.val < 2 ^ 31 := fun a => by omega
  exact cmpi_slt_ofNat (a := s.val) (b := t.val) (h s) (h t)

theorem drop_at (b : Fin 4) (h : Fin 16) (t s : Fin 2048) :
    val_main_v14 (F := Ideal) x0 x1 x3 (ix4 b h t s) = ((-dlt t.val (zOf x0 x1 x3 b t h) s.val : ℝ) : EReal) := by
  have em : val_main_call1_v1 (F := Ideal) (ix4 b h t s) = BitVec.ofBool (decide (s.val < t.val)) := by
    rw [val_main_call1_v1_apply, ← mask_at]
    exact congrArg _ (eq_ix2 _)
  have ez : val_main_call1_v2 (F := Ideal) (ix4 b h t s) = 0 := by
    rw [val_main_call1_v2_apply]; exact Ideal.ofBits_zero_f32
  rw [val_main_v14_apply, em, select_ofBool, keep_at h0 h1 h3, ez, dlt]
  split_ifs
  · rfl
  · simp

theorem tail_at (b : Fin 4) (h : Fin 16) (t s : Fin 2048) :
    val_main_v15 (F := Ideal) x0 x1 x3 (ix4 b h t s)
      = ((-∑ k ∈ Finset.Ico s.val 2048, dlt t.val (zOf x0 x1 x3 b t h) k : ℝ) : EReal) := by
  have e := suffix_window (val_main_v14 (F := Ideal) x0 x1 x3) (fun _ : (⟨0, ![]⟩ : Shape).Idx => val_main_call2_v0 (F := Ideal) (Shape.Idx.first h_S_))
    (fun _ => by rw [val_main_call2_v0_apply]; exact Ideal.ofBits_zero_f32) reduceWindows_S4x16x2048x2048_S4x16x2048x2048_w1s1p0_0_w1s1p0_0_w1s1p0_0_w2048s1p0_2047 (by decide) b h t s
  refine Eq.trans ?_ (e.trans ?_)
  · unfold val_main_v15 Host.reduceWindowAdd
    rw [Ideal.hostReduceWindowAdd_def]
    unfold Ideal.hostReduceWindowAdd
    with_reducible rfl
  · refine Eq.trans (Finset.sum_congr rfl ?_) ((sum_window 2048 (fun k : ℕ => ((-dlt t.val (zOf x0 x1 x3 b t h) k : ℝ) : EReal)) s.val).trans ?_)
    swap
    · rw [← coe_sum, Finset.sum_neg_distrib]
    intro w _
    split_ifs with hw
    · exact drop_at h0 h1 h3 b h t ⟨_, hw⟩
    · rfl

omit h0 h1 h3 in
theorem sp_neg (x : ℝ) : sp (-x) = sp x - x := by
  rw [← sp_eq, ← sp_eq x, abs_neg]
  rcases le_total 0 x with h | h
  · rw [max_eq_left h, max_eq_right (by linarith)]; ring
  · rw [max_eq_right h, max_eq_left (by linarith)]; ring

theorem weight_at (b : Fin 4) (h : Fin 16) (t s : Fin 2048) :
    val_main_v20 (F := Ideal) x0 x1 x3 (ix4 b h t s) = wgt t.val 2048 (zOf x0 x1 x3 b t h) s.val := by
  have em : val_main_call4_v1 (F := Ideal) (ix4 b h t s) = BitVec.ofBool (decide (s.val < t.val)) := by
    rw [val_main_call4_v1_apply, ← mask_at]
    exact congrArg _ (eq_ix2 _)
  have ez : val_main_call4_v2 (F := Ideal) (ix4 b h t s) = 0 := by
    rw [val_main_call4_v2_apply]; exact Ideal.ofBits_zero_f32
  rw [val_main_v20_apply, em, select_ofBool, ez, val_main_v19_apply, val_main_v18_apply, val_main_v16_apply, tail_at h0 h1 h3, drop_at h0 h1 h3, take_at h0 h1 h3]
  unfold wgt
  split_ifs with hs
  · show Ideal.exp (((_ : ℝ) : EReal) + (((_ : ℝ) : EReal) - ((_ : ℝ) : EReal))) = _
    rw [← EReal.coe_sub, ← EReal.coe_add, Ideal.exp_coe, sp_neg, dlt, if_pos hs]
    congr 2
    ring
  · rfl

theorem att_at (x2 : Vec Ideal S4x2048x16x64 .f32) (b : Fin 4) (h : Fin 16) (d : Fin 64) (t : Fin 2048) :
    val_main_v21 (F := Ideal) x0 x1 x2 x3 (ix4 b h d t) = attAt x0 x1 x2 x3 b t h d := by
  rw [val_main_v21_apply]
  unfold attAt att
  rw [← Fin.sum_univ_eq_sum_range (fun k => wgt t.val 2048 (zOf x0 x1 x3 b t h) k * vOf x2 b h d k) 2048]
  refine Finset.sum_congr rfl fun k _ => ?_
  have el : lidx_main_v21 (ix4 b h d t) k = ix4 b k h d := eq_ix4 _
  have er : ridx_main_v21 (ix4 b h d t) k = ix4 b h t k := eq_ix4 _
  have ek : (⟨k.val % 2048, Nat.mod_lt _ (by decide)⟩ : Fin 2048) = k := Fin.ext (Nat.mod_eq_of_lt k.isLt)
  rw [el, er, weight_at h0 h1 h3, vOf, ek, mul_comm]

/-- The reference's result is the kernel's function of the arguments. -/
theorem result (x2 : Vec Ideal S4x2048x16x64 .f32) : val_main_v24 (F := Ideal) x0 x1 x2 x3 = G x0 x1 x2 x3 := by
  funext i
  rw [val_main_v24_apply, val_main_v23_apply, val_main_v22_apply]
  show val_main_v21 (F := Ideal) x0 x1 x2 x3 _ = _
  refine Eq.trans (congrArg (val_main_v21 (F := Ideal) x0 x1 x2 x3) (eq_ix4 _)) ((att_at h0 h1 h3 x2 _ _ _ _).trans ?_)
  have hi : (i 0).val < 8192 := (i 0).isLt
  have hj : (i 1).val < 1024 := (i 1).isLt
  unfold G
  congr 1 <;> exact Fin.ext (by dsimp only; omega)

end Cert.Att.Ref

end
-- ==== Proof.Alg.lean ====
module

public import proofs.«01_k».proof.Defs
public import proofs.«01_k».proof.Proof.Gen.ReferenceIdeal.Run
public import proofs.«01_k».proof.Proof.RefAt
public import Idealize.ShloMosaic.Lib.Claim

@[expose] public section

set_option maxRecDepth 16384

noncomputable section

/-! The attention's claims from its kernel's run and its reference's. -/

namespace Cert.Att

open Idealize.ShloMosaic Idealize.ShloMosaic.TcCoe Idealize.SL.Sem

theorem preFacts : Cert.Pre_finite.Facts := ⟨by decide, by decide, by decide, by decide⟩

/-- A number whose absolute value is below infinity is a real number. -/
theorem real_of_abs_lt {x : EReal} (h : max x (-x) < ⊤) : x = (EReal.toReal x : EReal) := by
  induction x with
  | bot => simp at h
  | top => simp at h
  | coe a => rfl

theorem real_of_cmp {x : EReal} (h : Ideal.cmp .olt (max x (-x)) (Ideal.ofBits .f32 0x7F800000#32) = 1#1) : x = (EReal.toReal x : EReal) := by
  have e : Ideal.ofBits .f32 0x7F800000#32 = ⊤ := by simp [Ideal.ofBits, Ideal.ieee]
  rw [e] at h
  refine real_of_abs_lt ?_
  by_contra hn
  have : Ideal.cmp .olt (max x (-x)) ⊤ = BitVec.ofBool (decide False) := congrArg BitVec.ofBool (decide_eq_decide.mpr (iff_false_intro hn))
  rw [this] at h
  exact absurd h (by decide)

theorem and_one {a b : BitVec 1} (h : IntOp.andi a b = 1#1) : a = 1#1 ∧ b = 1#1 := by
  revert h; revert a b; decide

/-- What the precondition says of the three arrays. -/
theorem reals (hP : Cert.Pre_finite.Facts) (a0 a1 a2 : FVec Ideal Cert.Pre_finite.S4x2048x16x64 .f32) (a3 : FVec Ideal Cert.Pre_finite.S16 .f32)
    (h : Cert.Pre_finite.fn (F := Ideal) a0 a1 a2 a3 = fun _ => 1#1) :
    (∀ i, a0 i = (EReal.toReal (a0 i) : EReal)) ∧ (∀ i, a1 i = (EReal.toReal (a1 i) : EReal)) ∧ ∀ i, a3 i = (EReal.toReal (a3 i) : EReal) := by
  unfold Cert.Pre_finite.fn at h
  dsimp only at h
  have hc := fun i => and_one (congrFun h i)
  refine ⟨fun i => real_of_cmp (and_one (hc i).1).1, fun i => real_of_cmp (and_one (hc i).1).2, fun i => ?_⟩
  refine real_of_cmp (Eq.trans ?_ (hc (ix4 0 0 ⟨(i 0).val, (i 0).isLt⟩ 0)).2)
  have e1 := broadcastInDim_apply (![2] : Fin 1 → Fin 4) Cert.Pre_finite.Facts.bcast_S16_S1x1x16x1_2
    (cmpf .olt (Host.absf a3) (broadcastInDim Cert.Pre_finite.S16 ![] Cert.Pre_finite.Facts.bcast_S_S16 (constant (F := Ideal) Cert.Pre_finite.S_ .f32 0x7F800000#32)))
    (ix4 0 0 ⟨(i 0).val, (i 0).isLt⟩ 0) i (fun a => match a with | ⟨0, _⟩ => rfl)
  have e2 := broadcastInDim_apply (![0, 1, 2, 3] : Fin 4 → Fin 4) Cert.Pre_finite.Facts.bcast_S1x1x16x1_S4x2048x16x64_0_1_2_3
    (broadcastInDim Cert.Pre_finite.S1x1x16x1 ![2] Cert.Pre_finite.Facts.bcast_S16_S1x1x16x1_2
      (cmpf .olt (Host.absf a3) (broadcastInDim Cert.Pre_finite.S16 ![] Cert.Pre_finite.Facts.bcast_S_S16 (constant (F := Ideal) Cert.Pre_finite.S_ .f32 0x7F800000#32))))
    (ix4 0 0 ⟨(i 0).val, (i 0).isLt⟩ 0) (ix4 0 0 ⟨(i 0).val, (i 0).isLt⟩ 0)
    (fun a => match a with | ⟨0, _⟩ => rfl | ⟨1, _⟩ => rfl | ⟨2, _⟩ => rfl | ⟨3, _⟩ => rfl)
  exact (e2.trans e1).symm

theorem ref_frame : Cert.quiescent_ReferenceIdeal (hReferenceIdeal := Cert.ReferenceIdeal.Gen.facts) := fun m ρ _ =>
  θ_run_mono (Cert.ReferenceIdeal.Value.run (F := Ideal) m ρ) fun r h => ⟨fun c => (h c).2, sem_eq_zero_of_no_sems (by decide) r.2⟩

theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  have hr := fun c => reals preFacts _ _ _ _ (hpre c)
  refine ⟨fun c => G (A0 m c) (A1 m c) (A2 m c) (A3 m c), ?_, ?_⟩
  · refine θ_run_mono (Cert.KernelIdeal.Value.run_blocks (F := Ideal) m g) fun r h c => ⟨?_, (h c).2⟩
    exact (h c).1.trans (final m c (hr c).1 (hr c).2.1 (hr c).2.2)
  · refine θ_run_mono (Cert.ReferenceIdeal.Value.run (F := Ideal) m' g') fun r h c => ⟨?_, (h c).2⟩
    obtain ⟨e0, e1, e2, e3⟩ := hargs c
    refine (h c).1.trans ?_
    rw [Cert.ReferenceIdeal.Read.val_main_v24_eq, e0, e1, e2, e3]
    exact Ref.result (hr c).1 (hr c).2.1 (hr c).2.2 _

end Cert.Att

end
-- ==== Proof.Norm.lean ====
module

public import Idealize.ShloMosaic.Lib.Pointwise
public import Idealize.ShloMosaic.Lib.ValueIdx

@[expose] public section

noncomputable section

/-! The mean-square normalization of a row of 2048 numbers, and the token a row belongs to. -/

namespace Cert.Norm

open Idealize.ShloMosaic

/-- Entry `k` of a row divided by its root mean square (the mean moved by the programs' small constant), times a gain. -/
def rms (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- Token `i`'s row of an array of four sequences of 2048 tokens. -/
def row {n : ℕ} (a : (⟨3, ![4, 2048, n]⟩ : Shape).Idx → EReal) (i : Fin 8192) (k : Fin n) : EReal :=
  a (ix3 ⟨i.val / 2048, by omega⟩ ⟨i.val % 2048, Nat.mod_lt _ (by decide)⟩ k)

theorem one_f32 : Ideal.ofBits .f32 0x3F800000#32 = 1 := by
  simp [Ideal.ofBits, Ideal.ieee]
  rw [← EReal.coe_mul]
  norm_num

end Cert.Norm

end
-- ==== Proof.Ffn.lean ====
module

public import proofs.«01_k».proof.Proof.Norm
public import proofs.«01_k».proof.Proof.Gen.Kernel2Ideal.Value
public import Idealize.ShloMosaic.Lib.Pipeline.ValueKit.Geometry
public import Idealize.ShloMosaic.Lib.Pipeline.ValueKit.Acc

@[expose] public section

set_option maxRecDepth 16384

noncomputable section

/-! The half-step FFN's result array as one function of its five arguments: what one grid point computes, the sum the points
of a row tile leave in the accumulator, and the tile the last of them writes. -/

namespace Cert.Ffn

open Cert.Kernel2Ideal Cert.Kernel2Ideal.Gen Cert.Kernel2Ideal.Value Cert.Kernel2Ideal.Facts Idealize.ShloMosaic Idealize.ShloMosaic.TcCoe Idealize.SL.Sem

/-! ## The body's vectors at an index -/

theorem pay1_apply (x : Vec Ideal S512x2048 .f32) (g : Vec Ideal S1x1x2048 .f32) (r : Fin 512) (k : Fin 2048) :
    k0_pay1 x g (ix2 r k) = Norm.rms (fun j => x (ix2 r j)) (fun j => g (ix3 0 0 j)) k := by
  unfold Norm.rms
  pointwise [k0_pay1]

/-- A tile of the gated product. -/
def act (u : Vec Ideal S512x2048 .bf16) (wg wu : Vec Ideal S1x2048x512 .bf16) (r f : Fin 512) : EReal :=
  ((∑ j : Fin 2048, u (ix2 r j) * wg (ix3 0 j f)) * Ideal.logistic (∑ j : Fin 2048, u (ix2 r j) * wg (ix3 0 j f)))
    * ∑ j : Fin 2048, u (ix2 r j) * wu (ix3 0 j f)

theorem pay3_apply (u : Vec Ideal S512x2048 .bf16) (wg wu : Vec Ideal S1x2048x512 .bf16) (a : Vec Ideal S512x2048 .f32)
    (wd : Vec Ideal S1x512x2048 .bf16) (r : Fin 512) (k : Fin 2048) :
    k0_pay3 u wg wu a wd (ix2 r k) = a (ix2 r k) + ∑ f : Fin 512, act u wg wu r f * wd (ix3 0 f k) := by
  unfold act
  pointwise [k0_pay3]

theorem pay4_apply (x a : Vec Ideal S512x2048 .f32) (g : Vec Ideal S1x1x2048 .f32) (r : Fin 512) (k : Fin 2048) :
    k0_pay4 x a g (ix2 r k)
      = x (ix2 r k) + Ideal.ofBits .f32 0x3F000000#32 * Norm.rms (fun j => a (ix2 r j)) (fun j => g (ix3 0 0 j)) k := by
  unfold Norm.rms
  pointwise [k0_pay4]

/-! ## The result as a function of the arguments -/

section
variable (a0 : Vec Ideal S4x2048x2048 .f32) (a1 : Vec Ideal S4x2048 .f32) (a2 : Vec Ideal S4x2048x11264 .f32)
  (a3 : Vec Ideal S4x5632x2048 .f32) (a4 : Vec Ideal S4x2048 .f32)

/-- Token `i`'s normalization before the FFN. -/
def pre (i : Fin 8192) (k : Fin 2048) : EReal := Norm.rms (Norm.row a0 i) (fun j => a1 (ix2 3 j)) k

/-- Its product with a column of the gate and up weights. -/
def gu (i : Fin 8192) (f : Fin 11264) : EReal := ∑ j : Fin 2048, pre a0 a1 i j * a2 (ix3 3 j f)

/-- The gated product at a hidden unit. -/
def hid (i : Fin 8192) (f : Fin 5632) : EReal :=
  (gu a0 a1 a2 i ⟨f.val, by omega⟩ * Ideal.logistic (gu a0 a1 a2 i ⟨f.val, by omega⟩)) * gu a0 a1 a2 i ⟨5632 + f.val, by omega⟩

/-- The FFN's output before its normalization. -/
def down (i : Fin 8192) (k : Fin 2048) : EReal := ∑ f : Fin 5632, hid a0 a1 a2 i f * a3 (ix3 3 f k)

/-- The result at a token and a lane. -/
def out (i : Fin 8192) (k : Fin 2048) : EReal :=
  Norm.row a0 i k + Ideal.ofBits .f32 0x3F000000#32 * Norm.rms (down a0 a1 a2 a3 i) (fun j => a4 (ix2 3 j)) k

/-- The result array. -/
def G : Vec Ideal S8192x2048 .f32 := fun i => out a0 a1 a2 a3 a4 ⟨(i 0).val, (i 0).isLt⟩ ⟨(i 1).val, (i 1).isLt⟩

theorem G_apply (i : Fin 8192) (k : Fin 2048) : G a0 a1 a2 a3 a4 (ix2 i k) = out a0 a1 a2 a3 a4 i k := rfl

end

/-- A sum over the hidden units by tiles of 512. -/
theorem sum_tiles (f : Fin 5632 → EReal) :
    ∑ s : Fin 11, ∑ j : Fin 512, f ⟨512 * s.val + j.val, by omega⟩ = ∑ k : Fin 5632, f k := by
  rw [← Fintype.sum_prod_type' (f := fun (s : Fin 11) (j : Fin 512) => f ⟨512 * s.val + j.val, by omega⟩)]
  refine Fintype.sum_equiv (finProdFinEquiv : Fin 11 × Fin 512 ≃ Fin 5632) _ _ fun x => congrArg f (Fin.ext ?_)
  show 512 * x.1.val + x.2.val = x.2.val + 512 * x.1.val
  omega

theorem idx0 : ∀ t : Fin cfg0.N, win0_0.index t = ![t.val / 11, 0] := (by decide +kernel : ∀ t : Fin grid0.N, _)
theorem idx1 : ∀ t : Fin cfg0.N, win0_1.index t = ![3, 0, 0] := (by decide +kernel : ∀ t : Fin grid0.N, _)
theorem idx2 : ∀ t : Fin cfg0.N, win0_2.index t = ![3, 0, t.val % 11] := (by decide +kernel : ∀ t : Fin grid0.N, _)
theorem idx3 : ∀ t : Fin cfg0.N, win0_3.index t = ![3, 0, t.val % 11 + 11] := (by decide +kernel : ∀ t : Fin grid0.N, _)
theorem idx4 : ∀ t : Fin cfg0.N, win0_4.index t = ![3, t.val % 11, 0] := (by decide +kernel : ∀ t : Fin grid0.N, _)
theorem idx5 : ∀ t : Fin cfg0.N, win0_5.index t = ![3, 0, 0] := (by decide +kernel : ∀ t : Fin grid0.N, _)
theorem idx6 : ∀ t : Fin cfg0.N, win0_6.index t = ![t.val / 11, 0] := (by decide +kernel : ∀ t : Fin grid0.N, _)

variable (m : (ℓ : Loc nD τ sig) → Buf (Elt Ideal) ℓ) (c : Dev nD)

/-- The five arguments as the program is launched on them. -/
abbrev A0 : Vec Ideal S4x2048x2048 .f32 := m ((c : Thread nD τ).loc main_arg0)
abbrev A1 : Vec Ideal S4x2048 .f32 := m ((c : Thread nD τ).loc main_arg1)
abbrev A2 : Vec Ideal S4x2048x11264 .f32 := m ((c : Thread nD τ).loc main_arg2)
abbrev A3 : Vec Ideal S4x5632x2048 .f32 := m ((c : Thread nD τ).loc main_arg3)
abbrev A4 : Vec Ideal S4x2048 .f32 := m ((c : Thread nD τ).loc main_arg4)

theorem V_h (i : Fin 8192) (k : Fin 2048) : (V m c main_v0 : Vec Ideal S8192x2048 .f32) (ix2 i k) = Norm.row (A0 m c) i k := by
  unfold Norm.row
  dsimp only [V, hostOps0]
  after_results
  pointwise []

theorem V_pre (l : Fin 4) (k : Fin 2048) : (V m c main_v1 : Vec Ideal S4x1x2048 .f32) (ix3 l 0 k) = A1 m c (ix2 l k) := by
  dsimp only [V, hostOps0]
  after_results
  pointwise []

theorem V_gu (l : Fin 4) (j : Fin 2048) (f : Fin 11264) : (V m c main_v2 : Vec Ideal S4x2048x11264 .bf16) (ix3 l j f) = A2 m c (ix3 l j f) := by
  dsimp only [V, hostOps0]
  after_results
  pointwise []

theorem V_down (l : Fin 4) (f : Fin 5632) (k : Fin 2048) : (V m c main_v3 : Vec Ideal S4x5632x2048 .bf16) (ix3 l f k) = A3 m c (ix3 l f k) := by
  dsimp only [V, hostOps0]
  after_results
  pointwise []

theorem V_post (l : Fin 4) (k : Fin 2048) : (V m c main_v4 : Vec Ideal S4x1x2048 .f32) (ix3 l 0 k) = A4 m c (ix2 l k) := by
  dsimp only [V, hostOps0]
  after_results
  pointwise []

theorem lt176 (t : Fin cfg0.N) : t.val < 176 := lt_of_lt_of_eq t.isLt N_0

/-- The token of a point's row. -/
def tok (t : Fin cfg0.N) (r : Fin 512) : Fin 8192 := ⟨512 * (t.val / 11) + r.val, by have := lt176 t; omega⟩

/-- The hidden unit of a point's column. -/
def unit (t : Fin cfg0.N) (f : Fin 512) : Fin 5632 := ⟨512 * (t.val % 11) + f.val, by omega⟩

theorem blk0 (t : Fin cfg0.N) (r : Fin 512) (k : Fin 2048) : (iblk m c 0 t : Vec Ideal S512x2048 .f32) (ix2 r k) = Norm.row (A0 m c) (tok t r) k := by
  have ht := lt176 t
  have e : ((win0_0.blk t).view.emb (ix2 r k) : S8192x2048.Idx) = ix2 (tok t r) k := by
    unfold tok
    blk_ext [idx0]
  blk_simp [iblk]
  exact (congrArg (V m c main_v0 : Vec Ideal S8192x2048 .f32) e).trans (V_h m c _ _)

theorem blk1 (t : Fin cfg0.N) (k : Fin 2048) : (iblk m c 1 t : Vec Ideal S1x1x2048 .f32) (ix3 0 0 k) = A1 m c (ix2 3 k) := by
  have e : ((win0_1.blk t).view.emb (ix3 0 0 k) : S4x1x2048.Idx) = ix3 3 0 k := by
    blk_ext [idx1]
  blk_simp [iblk]
  exact (congrArg (V m c main_v1 : Vec Ideal S4x1x2048 .f32) e).trans (V_pre m c _ _)

theorem blk2 (t : Fin cfg0.N) (j : Fin 2048) (f : Fin 512) : (iblk m c 2 t : Vec Ideal S1x2048x512 .bf16) (ix3 0 j f)
    = A2 m c (ix3 3 j ⟨(unit t f).val, by have := (unit t f).isLt; omega⟩) := by
  have e : ((win0_2.blk t).view.emb (ix3 0 j f) : S4x2048x11264.Idx) = ix3 3 j ⟨(unit t f).val, by have := (unit t f).isLt; omega⟩ := by
    unfold unit
    blk_ext [idx2]
  blk_simp [iblk]
  exact (congrArg (V m c main_v2 : Vec Ideal S4x2048x11264 .bf16) e).trans (V_gu m c _ _ _)

theorem blk3 (t : Fin cfg0.N) (j : Fin 2048) (f : Fin 512) : (iblk m c 3 t : Vec Ideal S1x2048x512 .bf16) (ix3 0 j f)
    = A2 m c (ix3 3 j ⟨5632 + (unit t f).val, by have := (unit t f).isLt; omega⟩) := by
  have e : ((win0_3.blk t).view.emb (ix3 0 j f) : S4x2048x11264.Idx) = ix3 3 j ⟨5632 + (unit t f).val, by have := (unit t f).isLt; omega⟩ := by
    unfold unit
    blk_ext [idx3]
  blk_simp [iblk]
  exact (congrArg (V m c main_v2 : Vec Ideal S4x2048x11264 .bf16) e).trans (V_gu m c _ _ _)

theorem blk4 (t : Fin cfg0.N) (f : Fin 512) (k : Fin 2048) : (iblk m c 4 t : Vec Ideal S1x512x2048 .bf16) (ix3 0 f k) = A3 m c (ix3 3 (unit t f) k) := by
  have e : ((win0_4.blk t).view.emb (ix3 0 f k) : S4x5632x2048.Idx) = ix3 3 (unit t f) k := by
    unfold unit
    blk_ext [idx4]
  blk_simp [iblk]
  exact (congrArg (V m c main_v3 : Vec Ideal S4x5632x2048 .bf16) e).trans (V_down m c _ _ _)

theorem blk5 (t : Fin cfg0.N) (k : Fin 2048) : (iblk m c 5 t : Vec Ideal S1x1x2048 .f32) (ix3 0 0 k) = A4 m c (ix2 3 k) := by
  have e : ((win0_5.blk t).view.emb (ix3 0 0 k) : S4x1x2048.Idx) = ix3 3 0 k := by
    blk_ext [idx5]
  blk_simp [iblk]
  exact (congrArg (V m c main_v4 : Vec Ideal S4x1x2048 .f32) e).trans (V_post m c _ _)

/-! ## What the points leave -/

theorem norm_first (t : Fin cfg0.N) (h : t.val % 11 = 0) : (outsAt0 m c t.val t.isLt).2.1 = k0_pay1 (iblk m c 0 t) (iblk m c 1 t) := by
  rw [outsAt0_A m c t h (by omega)]
  frame_out

theorem norm_next (t : Fin cfg0.N) (h : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h h1]
    rfl
  · rw [outsAt0_B m c t h h1]
    rfl

/-- The normalized row tile, at every point of its run. -/
theorem norm_eq : ∀ (n : ℕ) (hn : n < cfg0.N) (r : Fin 512) (k : Fin 2048),
    ((outsAt0 m c n hn).2.1 : Vec Ideal S512x2048 .bf16) (ix2 r k) = pre (A0 m c) (A1 m c) (tok ⟨n, hn⟩ r) k := by
  intro n
  induction n with
  | zero =>
    intro hn r k
    rw [norm_first m c ⟨0, hn⟩ rfl, pay1_apply, pre]
    simp only [blk0, blk1]
  | succ n ih =>
    intro hn r k
    by_cases h : (n + 1) % 11 = 0
    · rw [norm_first m c ⟨n + 1, hn⟩ h, pay1_apply, pre]
      simp only [blk0, blk1]
    · rw [norm_next m c ⟨n + 1, hn⟩ h]
      refine (ih (Nat.lt_of_succ_lt hn) r k).trans (congrArg (fun i => pre (A0 m c) (A1 m c) i k) (Fin.ext ?_))
      show 512 * (n / 11) + r.val = 512 * ((n + 1) / 11) + r.val
      omega

/-- A point's term of the accumulator. -/
def term (t : Fin cfg0.N) (x : Fin 512 × Fin 2048) : EReal :=
  ∑ f : Fin 512, hid (A0 m c) (A1 m c) (A2 m c) (tok t x.1) (unit t f) * A3 m c (ix3 3 (unit t f) x.2)

theorem act_eq (t : Fin cfg0.N) (u : Vec Ideal S512x2048 .bf16) (r f : Fin 512)
    (hu : ∀ k, u (ix2 r k) = pre (A0 m c) (A1 m c) (tok t r) k) :
    act u (iblk m c 2 t) (iblk m c 3 t) r f = hid (A0 m c) (A1 m c) (A2 m c) (tok t r) (unit t f) := by
  unfold act hid gu
  simp only [hu, blk2, blk3]

theorem acc_first (t : Fin cfg0.N) (h : t.val % 11 = 0) (x : Fin 512 × Fin 2048) :
    ((outsAt0 m c t.val t.isLt).2.2 : Vec Ideal S512x2048 .f32) (ix2 x.1 x.2) = 0 + term m c t x := by
  have e : (outsAt0 m c t.val t.isLt).2.2 = k0_pay3 (k0_pay1 (iblk m c 0 t) (iblk m c 1 t)) (iblk m c 2 t) (iblk m c 3 t) (k0_pay2 (F := Ideal)) (iblk m c 4 t) := by
    rw [outsAt0_A m c t h (by omega)]
    frame_out
  rw [e, pay3_apply, term]
  have z : (k0_pay2 (F := Ideal)) (ix2 x.1 x.2) = 0 := by
    pointwise [k0_pay2]
  rw [z]
  refine congrArg _ (Finset.sum_congr rfl fun f _ => ?_)
  rw [act_eq m c t _ x.1 f fun k => by rw [← norm_first m c t h, norm_eq], blk4]

theorem acc_next (t : Fin cfg0.N) (h : ¬t.val % 11 = 0) (x : Fin 512 × Fin 2048) :
    ((outsAt0 m c t.val t.isLt).2.2 : Vec Ideal S512x2048 .f32) (ix2 x.1 x.2)
      = ((outsAt0 m c (t.val - 1) (Nat.lt_of_le_of_lt (Nat.sub_le _ _) t.isLt)).2.2 : Vec Ideal S512x2048 .f32) (ix2 x.1 x.2) + term m c t x := by
  have e : (outsAt0 m c t.val t.isLt).2.2
      = k0_pay3 (outsAt0 m c (t.val - 1) (Nat.lt_of_le_of_lt (Nat.sub_le _ _) t.isLt)).2.1 (iblk m c 2 t) (iblk m c 3 t)
          (outsAt0 m c (t.val - 1) (Nat.lt_of_le_of_lt (Nat.sub_le _ _) t.isLt)).2.2 (iblk m c 4 t) := by
    by_cases h1 : t.val % 11 = 10
    · rw [outsAt0_C m c t h h1]
      frame_out
      exact congrArg₂ (fun u a => k0_pay3 u (iblk m c 2 t) (iblk m c 3 t) a (iblk m c 4 t))
        ((Memref.isWhole_whole _).read_unread _) ((Memref.isWhole_whole _).read_unread _)
    · rw [outsAt0_B m c t h h1]
      frame_out
      exact congrArg₂ (fun u a => k0_pay3 u (iblk m c 2 t) (iblk m c 3 t) a (iblk m c 4 t))
        ((Memref.isWhole_whole _).read_unread _) ((Memref.isWhole_whole _).read_unread _)
  rw [e, pay3_apply, term]
  refine congrArg _ (Finset.sum_congr rfl fun f _ => ?_)
  rw [act_eq m c t _ x.1 f fun k => by rw [← norm_next m c t h, norm_eq], blk4]

/-- The accumulator at the last point of a run. -/
theorem acc_last (t : Fin cfg0.N) (h : t.val % 11 = 10) (r : Fin 512) (k : Fin 2048) :
    ((outsAt0 m c t.val t.isLt).2.2 : Vec Ideal S512x2048 .f32) (ix2 r k) = down (A0 m c) (A1 m c) (A2 m c) (A3 m c) (tok t r) k := by
  have ht := lt176 t
  have e := Pipeline.eq_sum_fin_of_reset_step_apply_of_flush
    (fun n hn (x : Fin 512 × Fin 2048) => ((outsAt0 m c n hn).2.2 : Vec Ideal S512x2048 .f32) (ix2 x.1 x.2)) 11 (fun _ => 0) (term m c)
    (acc_first m c) (acc_next m c) t h (r, k)
  refine e.trans ?_
  rw [zero_add, down, ← sum_tiles]
  refine Finset.sum_congr rfl fun s _ => Finset.sum_congr rfl fun f _ => ?_
  have e1 : tok ⟨11 * (t.val / 11) + s.val, Pipeline.run_point_lt_of_flush t h s⟩ r = tok t r := Fin.ext (by show 512 * ((11 * (t.val / 11) + s.val) / 11) + r.val = 512 * (t.val / 11) + r.val; omega)
  have e2 : unit ⟨11 * (t.val / 11) + s.val, Pipeline.run_point_lt_of_flush t h s⟩ f = ⟨512 * s.val + f.val, by omega⟩ := Fin.ext (by show 512 * ((11 * (t.val / 11) + s.val) % 11) + f.val = 512 * s.val + f.val; omega)
  rw [e1, e2]

/-- The tile the last point writes. -/
theorem out_last (t : Fin cfg0.N) (h : t.val % 11 = 10) (r : Fin 512) (k : Fin 2048) :
    ((outsAt0 m c t.val t.isLt).1 : Vec Ideal S512x2048 .f32) (ix2 r k)
      = out (A0 m c) (A1 m c) (A2 m c) (A3 m c) (A4 m c) (tok t r) k := by
  have e : (outsAt0 m c t.val t.isLt).1 = k0_pay4 (iblk m c 0 t) (outsAt0 m c t.val t.isLt).2.2 (iblk m c 5 t) := by
    rw [outsAt0_C m c t (by omega) h]
    frame_out
  rw [e, pay4_apply, out]
  simp only [acc_last m c t h, blk0, blk5]

/-- The result array after the run. -/
theorem final : (dats m 0 c).arrAt 6 cfg0.N = G (A0 m c) (A1 m c) (A2 m c) (A3 m c) (A4 m c) := by
  refine (dats m 0 c).arrAt_eq_of_covers 6 _ (by decide +kernel) fun t hf y => ?_
  have h := (flush0_6 t).mp hf
  blk_simp
  rw [after0_6]
  have ht := lt176 t
  have hy : y = ix2 (n0 := 512) (n1 := 2048) (y 0) (y 1) := by funext a; match a with | ⟨0, _⟩ => rfl | ⟨1, _⟩ => rfl
  have e : ((win0_6.blk t).view.emb y : S8192x2048.Idx) = ix2 (tok t (y 0)) (y 1) := by
    unfold tok
    blk_ext [idx6]
  refine ((congrArg (outsAt0 m c t.val t.isLt).1 hy).trans (out_last m c t h (y 0) (y 1))).trans ?_
  exact (congrArg (G (A0 m c) (A1 m c) (A2 m c) (A3 m c) (A4 m c)) e).symm

end Cert.Ffn

end
-- ==== Proof.FfnAlg.lean ====
module

public import proofs.«01_k».proof.Proof.Gen.Reference2Ideal.Read
public import proofs.«01_k».proof.Proof.Gen.Reference2Ideal.Run
public import proofs.«01_k».proof.Proof.Ffn
public import proofs.«01_k».proof.Defs
public import Idealize.ShloMosaic.Lib.Claim
public import Idealize.ShloMosaic.Lib.Pipeline.ValueKit.Geometry

@[expose] public section

set_option maxRecDepth 16384

noncomputable section

/-! The half-step FFN's reference gives the same function of the arguments, and the claims that follow. -/

namespace Cert.Ffn.Ref

open Cert.Reference2Ideal Cert.Reference2Ideal.Gen Cert.Reference2Ideal.Read Cert.Reference2Ideal.Facts Idealize.ShloMosaic Idealize.ShloMosaic.TcCoe Idealize.SL.Sem

variable (x0 : Vec Ideal S4x2048x2048 .f32) (x1 : Vec Ideal S4x2048 .f32) (x2 : Vec Ideal S4x2048x11264 .f32)
  (x3 : Vec Ideal S4x5632x2048 .f32) (x4 : Vec Ideal S4x2048 .f32)

theorem row_at (i : Fin 8192) (k : Fin 2048) : val_main_v0 (F := Ideal) x0 (ix2 i k) = Norm.row x0 i k := by
  unfold Norm.row
  pointwise [val_main_v0]

theorem pre_at (i : Fin 8192) (k : Fin 2048) : val_main_v15 (F := Ideal) x0 x1 (ix2 i k) = Norm.rms (Norm.row x0 i) (fun j => x1 (ix2 3 j)) k := by
  unfold Norm.rms
  simp only [← row_at]
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]

theorem gu_at (i : Fin 8192) (f : Fin 11264) : val_main_v18 (F := Ideal) x0 x1 x2 (ix2 i f) = ∑ j : Fin 2048, val_main_v15 (F := Ideal) x0 x1 (ix2 i j) * x2 (ix3 3 j f) := by
  pointwise [val_main_v18, val_main_v17, val_main_v16]

theorem hid_at (i : Fin 8192) (f : Fin 5632) : val_main_v22 (F := Ideal) x0 x1 x2 (ix2 i f)
    = (val_main_v18 (F := Ideal) x0 x1 x2 (ix2 i ⟨f.val, by omega⟩) * Ideal.logistic (val_main_v18 (F := Ideal) x0 x1 x2 (ix2 i ⟨f.val, by omega⟩)))
      * val_main_v18 (F := Ideal) x0 x1 x2 (ix2 i ⟨5632 + f.val, by omega⟩) := by
  unfold Ideal.logistic
  simp only [← Norm.one_f32]
  pointwise [val_main_v22, val_main_v21, val_main_v20, val_main_v19, val_main_call0_v5, val_main_call0_v4, val_main_call0_v3, val_main_call0_v2, val_main_call0_v1, val_main_call0_v0, val_main_call0_cst, val_main_call0_cst_0]

theorem down_at (i : Fin 8192) (k : Fin 2048) : val_main_v25 (F := Ideal) x0 x1 x2 x3 (ix2 i k) = ∑ f : Fin 5632, val_main_v22 (F := Ideal) x0 x1 x2 (ix2 i f) * x3 (ix3 3 f k) := by
  pointwise [val_main_v25, val_main_v24, val_main_v23]

theorem post_at (i : Fin 8192) (k : Fin 2048) : val_main_v43 (F := Ideal) x0 x1 x2 x3 x4 (ix2 i k)
    = val_main_v0 (F := Ideal) x0 (ix2 i k)
      + Ideal.ofBits .f32 0x3F000000#32 * Norm.rms (fun j => val_main_v25 (F := Ideal) x0 x1 x2 x3 (ix2 i j)) (fun j => x4 (ix2 3 j)) k := by
  unfold Norm.rms
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_cst_2, val_main_cst_3, val_main_cst_4, val_main_cst_5]

theorem pre_eq (i : Fin 8192) (k : Fin 2048) : val_main_v15 (F := Ideal) x0 x1 (ix2 i k) = pre x0 x1 i k := pre_at x0 x1 i k

theorem gu_eq (i : Fin 8192) (f : Fin 11264) : val_main_v18 (F := Ideal) x0 x1 x2 (ix2 i f) = gu x0 x1 x2 i f := by
  rw [gu_at, gu]
  simp only [pre_eq]

theorem result : val_main_v43 (F := Ideal) x0 x1 x2 x3 x4 = G x0 x1 x2 x3 x4 := by
  have h : ∀ (i : Fin 8192) (k : Fin 2048), val_main_v43 (F := Ideal) x0 x1 x2 x3 x4 (ix2 i k) = out x0 x1 x2 x3 x4 i k := fun i k => by
    rw [post_at, out, row_at]
    refine congrArg (Norm.row x0 i k + Ideal.ofBits .f32 0x3F000000#32 * ·) (congrArg (fun y => Norm.rms y (fun j => x4 (ix2 3 j)) k) (funext fun j => ?_))
    rw [down_at, down]
    refine Finset.sum_congr rfl fun f _ => congrArg (· * x3 (ix3 3 f j)) ?_
    rw [hid_at, hid]
    simp only [gu_eq]
  exact funext fun i => (congrArg (val_main_v43 (F := Ideal) x0 x1 x2 x3 x4)
    (funext fun a => match a with | ⟨0, _⟩ => rfl | ⟨1, _⟩ => rfl : i = ix2 (n0 := 8192) (n1 := 2048) (i 0) (i 1))).trans (h _ _)

end Cert.Ffn.Ref

namespace Cert.Ffn

open Idealize.ShloMosaic Idealize.ShloMosaic.TcCoe Idealize.SL.Sem

theorem ref_frame : Cert.quiescent_Reference2Ideal (hReference2Ideal := Cert.Reference2Ideal.Gen.facts) := fun m ρ _ =>
  θ_run_mono (Cert.Reference2Ideal.Value.run (F := Ideal) m ρ) fun r h => ⟨fun c => (h c).2, sem_eq_zero_of_no_sems (by decide) r.2⟩

theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => G (A0 m c) (A1 m c) (A2 m c) (A3 m c) (A4 m c), ?_, ?_⟩
  · exact θ_run_mono (Cert.Kernel2Ideal.Value.run_blocks (F := Ideal) m g) fun r h c => ⟨(h c).1.trans (final m c), (h c).2⟩
  · refine θ_run_mono (Cert.Reference2Ideal.Value.run (F := Ideal) m' g') fun r h c => ⟨?_, (h c).2⟩
    obtain ⟨e0, e1, e2, e3, e4⟩ := hargs c
    refine (h c).1.trans ?_
    rw [Cert.Reference2Ideal.Read.val_main_v43_eq, e0, e1, e2, e3, e4]
    exact Ref.result _ _ _ _ _

end Cert.Ffn

end
-- ==== Proof.Ple.lean ====
module

public import proofs.«01_k».proof.Defs
public import proofs.«01_k».proof.Proof.Norm
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim
public import Idealize.ShloMosaic.Lib.Pipeline.ValueKit.Geometry
public import Idealize.ShloMosaic.Lib.Pipeline.ValueKit.Acc

@[expose] public section

set_option maxRecDepth 16384

noncomputable section

/-! The gated embeddings' result array as one function of its five arguments, from the kernel's run and from the reference's. -/

namespace Cert.Ple

open Cert.Kernel3Ideal Cert.Kernel3Ideal.Gen Cert.Kernel3Ideal.Value Cert.Kernel3Ideal.Facts Idealize.ShloMosaic Idealize.ShloMosaic.TcCoe Idealize.SL.Sem

/-! ## The result as a function of the arguments -/

section
variable (a0 : Vec Ideal S4x2048x2048 .f32) (a1 : Vec Ideal S4x4x2048x256 .f32) (a2 : Vec Ideal S4x2048 .f32)
  (a3 : Vec Ideal S4x2048x2048 .f32) (a4 : Vec Ideal S4x256x2048 .f32)

/-- A token's embedding. -/
def emb (i : Fin 8192) (j : Fin 256) : EReal := a1 (ix4 3 ⟨i.val / 2048, by omega⟩ ⟨i.val % 2048, Nat.mod_lt _ (by decide)⟩ j)

/-- The result at a token and a lane. -/
def out (i : Fin 8192) (k : Fin 2048) : EReal :=
  Norm.row a0 i k + Ideal.logistic (∑ j : Fin 2048, Norm.rms (Norm.row a0 i) (fun j => a2 (ix2 3 j)) j * a3 (ix3 3 j k))
    * ∑ j : Fin 256, emb a1 i j * a4 (ix3 3 j k)

/-- The result array. -/
def G : Vec Ideal S8192x2048 .f32 := fun i => out a0 a1 a2 a3 a4 ⟨(i 0).val, (i 0).isLt⟩ ⟨(i 1).val, (i 1).isLt⟩

end

/-! ## The kernel -/

theorem pay_apply (x : Vec Ideal S256x2048 .f32) (g : Vec Ideal S1x1x2048 .f32) (w : Vec Ideal S1x2048x2048 .bf16) (p : Vec Ideal S1x256x256 .f32)
    (wp : Vec Ideal S1x256x2048 .bf16) (r : Fin 256) (k : Fin 2048) :
    k0_pay1 x g w p wp (ix2 r k)
      = x (ix2 r k) + Ideal.logistic (∑ j : Fin 2048, Norm.rms (fun j => x (ix2 r j)) (fun j => g (ix3 0 0 j)) j * w (ix3 0 j k))
        * ∑ j : Fin 256, p (ix3 0 r j) * wp (ix3 0 j k) := by
  unfold Norm.rms
  pointwise [k0_pay1]

theorem idx0 : ∀ t : Fin cfg0.N, win0_0.index t = ![t.val, 0] := (by decide +kernel : ∀ t : Fin grid0.N, _)
theorem idx1 : ∀ t : Fin cfg0.N, win0_1.index t = ![3, t.val, 0] := (by decide +kernel : ∀ t : Fin grid0.N, _)
theorem idx2 : ∀ t : Fin cfg0.N, win0_2.index t = ![3, 0, 0] := (by decide +kernel : ∀ t : Fin grid0.N, _)
theorem idx3 : ∀ t : Fin cfg0.N, win0_3.index t = ![3, 0, 0] := (by decide +kernel : ∀ t : Fin grid0.N, _)
theorem idx4 : ∀ t : Fin cfg0.N, win0_4.index t = ![3, 0, 0] := (by decide +kernel : ∀ t : Fin grid0.N, _)
theorem idx5 : ∀ t : Fin cfg0.N, win0_5.index t = ![t.val, 0] := (by decide +kernel : ∀ t : Fin grid0.N, _)

section
variable (m : (ℓ : Loc nD τ sig) → Buf (Elt Ideal) ℓ) (c : Dev nD)

/-- The five arguments as the program is launched on them. -/
abbrev A0 : Vec Ideal S4x2048x2048 .f32 := m ((c : Thread nD τ).loc main_arg0)
abbrev A1 : Vec Ideal S4x4x2048x256 .f32 := m ((c : Thread nD τ).loc main_arg1)
abbrev A2 : Vec Ideal S4x2048 .f32 := m ((c : Thread nD τ).loc main_arg2)
abbrev A3 : Vec Ideal S4x2048x2048 .f32 := m ((c : Thread nD τ).loc main_arg3)
abbrev A4 : Vec Ideal S4x256x2048 .f32 := m ((c : Thread nD τ).loc main_arg4)

theorem V_x (i : Fin 8192) (k : Fin 2048) : (V m c main_v0 : Vec Ideal S8192x2048 .f32) (ix2 i k) = Norm.row (A0 m c) i k := by
  unfold Norm.row
  dsimp only [V, hostOps0]
  after_results
  pointwise []

theorem V_p (i : Fin 8192) (j : Fin 256) : (V m c main_v1 : Vec Ideal S4x8192x256 .f32) (ix3 3 i j) = emb (A1 m c) i j := by
  unfold emb
  dsimp only [V, hostOps0]
  after_results
  pointwise []

theorem V_g (l : Fin 4) (k : Fin 2048) : (V m c main_v2 : Vec Ideal S4x1x2048 .f32) (ix3 l 0 k) = A2 m c (ix2 l k) := by
  dsimp only [V, hostOps0]
  after_results
  pointwise []

theorem V_w (l : Fin 4) (j k : Fin 2048) : (V m c main_v3 : Vec Ideal S4x2048x2048 .bf16) (ix3 l j k) = A3 m c (ix3 l j k) := by
  dsimp only [V, hostOps0]
  after_results
  pointwise []

theorem V_wp (l : Fin 4) (j : Fin 256) (k : Fin 2048) : (V m c main_v4 : Vec Ideal S4x256x2048 .bf16) (ix3 l j k) = A4 m c (ix3 l j k) := by
  dsimp only [V, hostOps0]
  after_results
  pointwise []

theorem lt32 (t : Fin cfg0.N) : t.val < 32 := lt_of_lt_of_eq t.isLt N_0

/-- The token of a point's row. -/
def tok (t : Fin cfg0.N) (r : Fin 256) : Fin 8192 := ⟨256 * t.val + r.val, by have := lt32 t; omega⟩

theorem blk0 (t : Fin cfg0.N) (r : Fin 256) (k : Fin 2048) : (iblk m c 0 t : Vec Ideal S256x2048 .f32) (ix2 r k) = Norm.row (A0 m c) (tok t r) k := by
  have ht := lt32 t
  have e : ((win0_0.blk t).view.emb (ix2 r k) : S8192x2048.Idx) = ix2 (tok t r) k := by
    unfold tok
    blk_ext [idx0]
  blk_simp [iblk]
  exact (congrArg (V m c main_v0 : Vec Ideal S8192x2048 .f32) e).trans (V_x m c _ _)

theorem blk1 (t : Fin cfg0.N) (r j : Fin 256) : (iblk m c 1 t : Vec Ideal S1x256x256 .f32) (ix3 0 r j) = emb (A1 m c) (tok t r) j := by
  have ht := lt32 t
  have e : ((win0_1.blk t).view.emb (ix3 0 r j) : S4x8192x256.Idx) = ix3 3 (tok t r) j := by
    unfold tok
    blk_ext [idx1]
  blk_simp [iblk]
  exact (congrArg (V m c main_v1 : Vec Ideal S4x8192x256 .f32) e).trans (V_p m c _ _)

theorem blk2 (t : Fin cfg0.N) (k : Fin 2048) : (iblk m c 2 t : Vec Ideal S1x1x2048 .f32) (ix3 0 0 k) = A2 m c (ix2 3 k) := by
  have e : ((win0_2.blk t).view.emb (ix3 0 0 k) : S4x1x2048.Idx) = ix3 3 0 k := by
    blk_ext [idx2]
  blk_simp [iblk]
  exact (congrArg (V m c main_v2 : Vec Ideal S4x1x2048 .f32) e).trans (V_g m c _ _)

theorem blk3 (t : Fin cfg0.N) (j k : Fin 2048) : (iblk m c 3 t : Vec Ideal S1x2048x2048 .bf16) (ix3 0 j k) = A3 m c (ix3 3 j k) := by
  have e : ((win0_3.blk t).view.emb (ix3 0 j k) : S4x2048x2048.Idx) = ix3 3 j k := by
    blk_ext [idx3]
  blk_simp [iblk]
  exact (congrArg (V m c main_v3 : Vec Ideal S4x2048x2048 .bf16) e).trans (V_w m c _ _ _)

theorem blk4 (t : Fin cfg0.N) (j : Fin 256) (k : Fin 2048) : (iblk m c 4 t : Vec Ideal S1x256x2048 .bf16) (ix3 0 j k) = A4 m c (ix3 3 j k) := by
  have e : ((win0_4.blk t).view.emb (ix3 0 j k) : S4x256x2048.Idx) = ix3 3 j k := by
    blk_ext [idx4]
  blk_simp [iblk]
  exact (congrArg (V m c main_v4 : Vec Ideal S4x256x2048 .bf16) e).trans (V_wp m c _ _ _)

theorem out_eq (x : Vec Ideal S256x2048 .f32) (p : Vec Ideal S1x256x256 .f32) (g : Vec Ideal S1x1x2048 .f32) (w : Vec Ideal S1x2048x2048 .bf16)
    (wp : Vec Ideal S1x256x2048 .bf16) : out0_5 x p g w wp = k0_pay1 x g w p wp := by
  frame_out

/-- The result array after the run. -/
theorem final : (dats m 0 c).arrAt 5 cfg0.N = G (A0 m c) (A1 m c) (A2 m c) (A3 m c) (A4 m c) := by
  refine (dats m 0 c).arrAt_eq_of_covers 5 _ (by decide +kernel) fun t hf y => ?_
  blk_simp
  rw [after0_5, out_eq]
  have ht := lt32 t
  have hy : y = ix2 (n0 := 256) (n1 := 2048) (y 0) (y 1) := by funext a; match a with | ⟨0, _⟩ => rfl | ⟨1, _⟩ => rfl
  have e : ((win0_5.blk t).view.emb y : S8192x2048.Idx) = ix2 (tok t (y 0)) (y 1) := by
    unfold tok
    blk_ext [idx5]
  have h : ∀ (r : Fin 256) (k : Fin 2048), k0_pay1 (iblk m c 0 t) (iblk m c 2 t) (iblk m c 3 t) (iblk m c 1 t) (iblk m c 4 t) (ix2 r k)
      = out (A0 m c) (A1 m c) (A2 m c) (A3 m c) (A4 m c) (tok t r) k := fun r k => by
    rw [pay_apply, out]
    simp only [blk0, blk1, blk2, blk3, blk4]
  refine ((congrArg (k0_pay1 (iblk m c 0 t) (iblk m c 2 t) (iblk m c 3 t) (iblk m c 1 t) (iblk m c 4 t)) hy).trans (h (y 0) (y 1))).trans ?_
  exact (congrArg (G (A0 m c) (A1 m c) (A2 m c) (A3 m c) (A4 m c)) e).symm

end

end Cert.Ple

/-! ## The reference -/

namespace Cert.Ple.Ref

open Cert.Reference3Ideal Cert.Reference3Ideal.Gen Cert.Reference3Ideal.Read Cert.Reference3Ideal.Facts Idealize.ShloMosaic Idealize.ShloMosaic.TcCoe Idealize.SL.Sem

variable (x0 : Vec Ideal S4x2048x2048 .f32) (x1 : Vec Ideal S4x4x2048x256 .f32) (x2 : Vec Ideal S4x2048 .f32)
  (x3 : Vec Ideal S4x2048x2048 .f32) (x4 : Vec Ideal S4x256x2048 .f32)

theorem norm_at (b : Fin 4) (t k : Fin 2048) :
    val_main_v14 (F := Ideal) x0 x2 (ix3 b t k) = Norm.rms (fun j => x0 (ix3 b t j)) (fun j => x2 (ix2 3 j)) k := by
  unfold Norm.rms
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

theorem gate_at (b : Fin 4) (t k : Fin 2048) :
    val_main_v23 (F := Ideal) x0 x2 x3 (ix3 b t k) = Ideal.logistic (∑ j : Fin 2048, val_main_v14 (F := Ideal) x0 x2 (ix3 b t j) * x3 (ix3 3 j k)) := by
  unfold Ideal.logistic
  rw [← Norm.one_f32]
  pointwise [val_main_v23, val_main_v22, val_main_v21, val_main_v20, val_main_v19, val_main_v18, val_main_v17, val_main_v16, val_main_v15,
    val_main_cst_2, val_main_cst_3]

theorem out_at (i : Fin 8192) (k : Fin 2048) : val_main_v31 (F := Ideal) x0 x1 x2 x3 x4 (ix2 i k) = out x0 x1 x2 x3 x4 i k := by
  have h : out x0 x1 x2 x3 x4 i k = x0 (ix3 ⟨i.val / 2048, by omega⟩ ⟨i.val % 2048, Nat.mod_lt _ (by decide)⟩ k)
      + val_main_v23 (F := Ideal) x0 x2 x3 (ix3 ⟨i.val / 2048, by omega⟩ ⟨i.val % 2048, Nat.mod_lt _ (by decide)⟩ k)
        * ∑ j : Fin 256, x1 (ix4 3 ⟨i.val / 2048, by omega⟩ ⟨i.val % 2048, Nat.mod_lt _ (by decide)⟩ j) * x4 (ix3 3 j k) := by
    rw [gate_at]
    simp only [norm_at]
    rfl
  rw [h]
  pointwise [val_main_v31, val_main_v30, val_main_v29, val_main_v28, val_main_v27, val_main_v26, val_main_v25, val_main_v24]

theorem result : val_main_v31 (F := Ideal) x0 x1 x2 x3 x4 = G x0 x1 x2 x3 x4 :=
  funext fun i => (congrArg (val_main_v31 (F := Ideal) x0 x1 x2 x3 x4)
    (funext fun a => match a with | ⟨0, _⟩ => rfl | ⟨1, _⟩ => rfl : i = ix2 (n0 := 8192) (n1 := 2048) (i 0) (i 1))).trans (out_at x0 x1 x2 x3 x4 _ _)

end Cert.Ple.Ref

/-! ## The claims -/

namespace Cert.Ple

open Idealize.ShloMosaic Idealize.ShloMosaic.TcCoe Idealize.SL.Sem

theorem ref_frame : Cert.quiescent_Reference3Ideal (hReference3Ideal := Cert.Reference3Ideal.Gen.facts) := fun m ρ _ =>
  θ_run_mono (Cert.Reference3Ideal.Value.run (F := Ideal) m ρ) fun r h => ⟨fun c => (h c).2, sem_eq_zero_of_no_sems (by decide) r.2⟩

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => G (A0 m c) (A1 m c) (A2 m c) (A3 m c) (A4 m c), ?_, ?_⟩
  · exact θ_run_mono (Cert.Kernel3Ideal.Value.run_blocks (F := Ideal) m g) fun r h c => ⟨(h c).1.trans (final m c), (h c).2⟩
  · refine θ_run_mono (Cert.Reference3Ideal.Value.run (F := Ideal) m' g') fun r h c => ⟨?_, (h c).2⟩
    obtain ⟨e0, e1, e2, e3, e4⟩ := hargs c
    refine (h c).1.trans ?_
    rw [Cert.Reference3Ideal.Read.val_main_v31_eq, e0, e1, e2, e3, e4]
    exact Ref.result _ _ _ _ _

end Cert.Ple

end
-- ==== Proof.Out.lean ====
module

public import proofs.«01_k».proof.Defs
public import proofs.«01_k».proof.Proof.Norm
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim
public import Idealize.ShloMosaic.Lib.Pipeline.ValueKit.Geometry
public import Idealize.ShloMosaic.Lib.Pipeline.ValueKit.Acc

@[expose] public section

set_option maxRecDepth 16384

noncomputable section

/-! The output projection's result array as one function of its five arguments, from the kernel's run and from the reference's. -/

namespace Cert.Out

open Cert.Kernel4Ideal Cert.Kernel4Ideal.Gen Cert.Kernel4Ideal.Value Cert.Kernel4Ideal.Facts Idealize.ShloMosaic Idealize.ShloMosaic.TcCoe Idealize.SL.Sem

/-! ## The result as a function of the arguments -/

section
variable (a0 : Vec Ideal S4x2048x2048 .f32) (a1 a2 : Vec Ideal S4x2048x1024 .f32) (a3 : Vec Ideal S4x2048x2048 .f32) (a4 : Vec Ideal S4x2048 .f32)

/-- The projected mix of the two mixers' outputs. -/
def mix (i : Fin 8192) (k : Fin 2048) : EReal :=
  ∑ j : Fin 1024, Norm.row a1 i j * a3 (ix3 3 ⟨j.val, by omega⟩ k) + ∑ j : Fin 1024, Norm.row a2 i j * a3 (ix3 3 ⟨1024 + j.val, by omega⟩ k)

/-- The result at a token and a lane. -/
def out (i : Fin 8192) (k : Fin 2048) : EReal := Norm.row a0 i k + Norm.rms (mix a1 a2 a3 i) (fun j => a4 (ix2 3 j)) k

/-- The result array. -/
def G : Vec Ideal S8192x2048 .f32 := fun i => out a0 a1 a2 a3 a4 ⟨(i 0).val, (i 0).isLt⟩ ⟨(i 1).val, (i 1).isLt⟩

end

/-! ## The kernel -/

theorem pay_apply (y : Vec Ideal S256x1024 .bf16) (wy : Vec Ideal S1x1024x2048 .bf16) (o : Vec Ideal S256x1024 .bf16) (wo : Vec Ideal S1x1024x2048 .bf16)
    (x : Vec Ideal S256x2048 .f32) (g : Vec Ideal S1x1x2048 .f32) (r : Fin 256) (k : Fin 2048) :
    k0_pay1 y wy o wo x g (ix2 r k)
      = x (ix2 r k) + Norm.rms (fun k => ∑ j : Fin 1024, y (ix2 r j) * wy (ix3 0 j k) + ∑ j : Fin 1024, o (ix2 r j) * wo (ix3 0 j k)) (fun j => g (ix3 0 0 j)) k := by
  unfold Norm.rms
  pointwise [k0_pay1]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![3, 0, 0] := (by decide +kernel : ∀ t : Fin grid0.N, _)
theorem idx4 : ∀ t : Fin cfg0.N, win0_4.index t = ![3, 1, 0] := (by decide +kernel : ∀ t : Fin grid0.N, _)
theorem idx5 : ∀ t : Fin cfg0.N, win0_5.index t = ![3, 0, 0] := (by decide +kernel : ∀ t : Fin grid0.N, _)
theorem idx6 : ∀ t : Fin cfg0.N, win0_6.index t = ![t.val, 0] := (by decide +kernel : ∀ t : Fin grid0.N, _)

section
variable (m : (ℓ : Loc nD τ sig) → Buf (Elt Ideal) ℓ) (c : Dev nD)

/-- The five arguments as the program is launched on them. -/
abbrev A0 : Vec Ideal S4x2048x2048 .f32 := m ((c : Thread nD τ).loc main_arg0)
abbrev A1 : Vec Ideal S4x2048x1024 .f32 := m ((c : Thread nD τ).loc main_arg1)
abbrev A2 : Vec Ideal S4x2048x1024 .f32 := m ((c : Thread nD τ).loc main_arg2)
abbrev A3 : Vec Ideal S4x2048x2048 .f32 := m ((c : Thread nD τ).loc main_arg3)
abbrev A4 : Vec Ideal S4x2048 .f32 := m ((c : Thread nD τ).loc main_arg4)

theorem V_x (i : Fin 8192) (k : Fin 2048) : (V m c main_v0 : Vec Ideal S8192x2048 .f32) (ix2 i k) = Norm.row (A0 m c) i k := by
  unfold Norm.row
  dsimp only [V, hostOps0]
  after_results
  pointwise []

theorem V_y (i : Fin 8192) (j : Fin 1024) : (V m c main_v2 : Vec Ideal S8192x1024 .bf16) (ix2 i j) = Norm.row (A1 m c) i j := by
  unfold Norm.row
  dsimp only [V, hostOps0]
  after_results
  pointwise []

theorem V_o (i : Fin 8192) (j : Fin 1024) : (V m c main_v4 : Vec Ideal S8192x1024 .bf16) (ix2 i j) = Norm.row (A2 m c) i j := by
  unfold Norm.row
  dsimp only [V, hostOps0]
  after_results
  pointwise []

theorem V_w (l : Fin 4) (j k : Fin 2048) : (V m c main_v5 : Vec Ideal S4x2048x2048 .bf16) (ix3 l j k) = A3 m c (ix3 l j k) := by
  dsimp only [V, hostOps0]
  after_results
  pointwise []

theorem V_g (l : Fin 4) (k : Fin 2048) : (V m c main_v6 : Vec Ideal S4x1x2048 .f32) (ix3 l 0 k) = A4 m c (ix2 l k) := by
  dsimp only [V, hostOps0]
  after_results
  pointwise []

theorem lt32 (t : Fin cfg0.N) : t.val < 32 := lt_of_lt_of_eq t.isLt N_0

/-- The token of a point's row. -/
def tok (t : Fin cfg0.N) (r : Fin 256) : Fin 8192 := ⟨256 * t.val + r.val, by have := lt32 t; omega⟩

theorem blk0 (t : Fin cfg0.N) (r : Fin 256) (k : Fin 2048) : (iblk m c 0 t : Vec Ideal S256x2048 .f32) (ix2 r k) = Norm.row (A0 m c) (tok t r) k := by
  have ht := lt32 t
  have e : ((win0_0.blk t).view.emb (ix2 r k) : S8192x2048.Idx) = ix2 (tok t r) k := by
    unfold tok
    blk_ext [idx0]
  blk_simp [iblk]
  exact (congrArg (V m c main_v0 : Vec Ideal S8192x2048 .f32) e).trans (V_x m c _ _)

theorem blk1 (t : Fin cfg0.N) (r : Fin 256) (j : Fin 1024) : (iblk m c 1 t : Vec Ideal S256x1024 .bf16) (ix2 r j) = Norm.row (A1 m c) (tok t r) j := by
  have ht := lt32 t
  have e : ((win0_1.blk t).view.emb (ix2 r j) : S8192x1024.Idx) = ix2 (tok t r) j := by
    unfold tok
    blk_ext [idx1]
  blk_simp [iblk]
  exact (congrArg (V m c main_v2 : Vec Ideal S8192x1024 .bf16) e).trans (V_y m c _ _)

theorem blk2 (t : Fin cfg0.N) (r : Fin 256) (j : Fin 1024) : (iblk m c 2 t : Vec Ideal S256x1024 .bf16) (ix2 r j) = Norm.row (A2 m c) (tok t r) j := by
  have ht := lt32 t
  have e : ((win0_2.blk t).view.emb (ix2 r j) : S8192x1024.Idx) = ix2 (tok t r) j := by
    unfold tok
    blk_ext [idx2]
  blk_simp [iblk]
  exact (congrArg (V m c main_v4 : Vec Ideal S8192x1024 .bf16) e).trans (V_o m c _ _)

theorem blk3 (t : Fin cfg0.N) (j : Fin 1024) (k : Fin 2048) : (iblk m c 3 t : Vec Ideal S1x1024x2048 .bf16) (ix3 0 j k) = A3 m c (ix3 3 ⟨j.val, by omega⟩ k) := by
  have e : ((win0_3.blk t).view.emb (ix3 0 j k) : S4x2048x2048.Idx) = ix3 3 ⟨j.val, by omega⟩ k := by
    blk_ext [idx3]
  blk_simp [iblk]
  exact (congrArg (V m c main_v5 : Vec Ideal S4x2048x2048 .bf16) e).trans (V_w m c _ _ _)

theorem blk4 (t : Fin cfg0.N) (j : Fin 1024) (k : Fin 2048) : (iblk m c 4 t : Vec Ideal S1x1024x2048 .bf16) (ix3 0 j k) = A3 m c (ix3 3 ⟨1024 + j.val, by omega⟩ k) := by
  have e : ((win0_4.blk t).view.emb (ix3 0 j k) : S4x2048x2048.Idx) = ix3 3 ⟨1024 + j.val, by omega⟩ k := by
    blk_ext [idx4]
  blk_simp [iblk]
  exact (congrArg (V m c main_v5 : Vec Ideal S4x2048x2048 .bf16) e).trans (V_w m c _ _ _)

theorem blk5 (t : Fin cfg0.N) (k : Fin 2048) : (iblk m c 5 t : Vec Ideal S1x1x2048 .f32) (ix3 0 0 k) = A4 m c (ix2 3 k) := by
  have e : ((win0_5.blk t).view.emb (ix3 0 0 k) : S4x1x2048.Idx) = ix3 3 0 k := by
    blk_ext [idx5]
  blk_simp [iblk]
  exact (congrArg (V m c main_v6 : Vec Ideal S4x1x2048 .f32) e).trans (V_g m c _ _)

theorem out_eq (x : Vec Ideal S256x2048 .f32) (y o : Vec Ideal S256x1024 .bf16) (wy wo : Vec Ideal S1x1024x2048 .bf16) (g : Vec Ideal S1x1x2048 .f32) :
    out0_6 x y o wy wo g = k0_pay1 y wy o wo x g := by
  frame_out

/-- The result array after the run. -/
theorem final : (dats m 0 c).arrAt 6 cfg0.N = G (A0 m c) (A1 m c) (A2 m c) (A3 m c) (A4 m c) := by
  refine (dats m 0 c).arrAt_eq_of_covers 6 _ (by decide +kernel) fun t hf y => ?_
  blk_simp
  rw [after0_6, out_eq]
  have ht := lt32 t
  have hy : y = ix2 (n0 := 256) (n1 := 2048) (y 0) (y 1) := by funext a; match a with | ⟨0, _⟩ => rfl | ⟨1, _⟩ => rfl
  have e : ((win0_6.blk t).view.emb y : S8192x2048.Idx) = ix2 (tok t (y 0)) (y 1) := by
    unfold tok
    blk_ext [idx6]
  have h : ∀ (r : Fin 256) (k : Fin 2048), k0_pay1 (iblk m c 1 t) (iblk m c 3 t) (iblk m c 2 t) (iblk m c 4 t) (iblk m c 0 t) (iblk m c 5 t) (ix2 r k)
      = out (A0 m c) (A1 m c) (A2 m c) (A3 m c) (A4 m c) (tok t r) k := fun r k => by
    rw [pay_apply, out]
    simp only [blk0, blk1, blk2, blk3, blk4, blk5]
    rfl
  refine ((congrArg (k0_pay1 (iblk m c 1 t) (iblk m c 3 t) (iblk m c 2 t) (iblk m c 4 t) (iblk m c 0 t) (iblk m c 5 t)) hy).trans (h (y 0) (y 1))).trans ?_
  exact (congrArg (G (A0 m c) (A1 m c) (A2 m c) (A3 m c) (A4 m c)) e).symm

end

end Cert.Out

/-! ## The reference -/

namespace Cert.Out.Ref

open Cert.Reference4Ideal Cert.Reference4Ideal.Gen Cert.Reference4Ideal.Read Cert.Reference4Ideal.Facts Idealize.ShloMosaic Idealize.ShloMosaic.TcCoe Idealize.SL.Sem

variable (x0 : Vec Ideal S4x2048x2048 .f32) (x1 x2 : Vec Ideal S4x2048x1024 .f32)
  (x3 : Vec Ideal S4x2048x2048 .f32) (x4 : Vec Ideal S4x2048 .f32)

theorem left_at (b : Fin 4) (t : Fin 2048) (j : Fin 1024) : val_main_v0 (F := Ideal) x1 x2 (ix3 b t ⟨j.val, by omega⟩) = x1 (ix3 b t j) := by
  pointwise [val_main_v0]

theorem right_at (b : Fin 4) (t : Fin 2048) (j : Fin 1024) : val_main_v0 (F := Ideal) x1 x2 (ix3 b t ⟨1024 + j.val, by omega⟩) = x2 (ix3 b t j) := by
  pointwise [val_main_v0]

theorem mix_at (b : Fin 4) (t k : Fin 2048) :
    val_main_v3 (F := Ideal) x1 x2 x3 (ix3 b t k)
      = ∑ j : Fin 1024, x1 (ix3 b t j) * x3 (ix3 3 ⟨j.val, by omega⟩ k) + ∑ j : Fin 1024, x2 (ix3 b t j) * x3 (ix3 3 ⟨1024 + j.val, by omega⟩ k) := by
  have h : val_main_v3 (F := Ideal) x1 x2 x3 (ix3 b t k) = ∑ j : Fin 2048, val_main_v0 (F := Ideal) x1 x2 (ix3 b t j) * x3 (ix3 3 j k) := by
    pointwise [val_main_v3, val_main_v2, val_main_v1]
  rw [h]
  refine (Fin.sum_univ_add (M := EReal) (a := 1024) (b := 1024) fun j => val_main_v0 (F := Ideal) x1 x2 (ix3 b t j) * x3 (ix3 3 j k)).trans ?_
  refine congrArg₂ (· + ·) (Finset.sum_congr rfl fun j _ => ?_) (Finset.sum_congr rfl fun j _ => ?_)
  · exact congrArg (· * _) (left_at x1 x2 b t j)
  · exact congrArg (· * _) (right_at x1 x2 b t j)

theorem out_at (i : Fin 8192) (k : Fin 2048) : val_main_v20 (F := Ideal) x0 x1 x2 x3 x4 (ix2 i k) = out x0 x1 x2 x3 x4 i k := by
  have h : out x0 x1 x2 x3 x4 i k = x0 (ix3 ⟨i.val / 2048, by omega⟩ ⟨i.val % 2048, Nat.mod_lt _ (by decide)⟩ k)
      + Norm.rms (fun k => val_main_v3 (F := Ideal) x1 x2 x3 (ix3 ⟨i.val / 2048, by omega⟩ ⟨i.val % 2048, Nat.mod_lt _ (by decide)⟩ k)) (fun j => x4 (ix2 3 j)) k := by
    simp only [mix_at]
    rfl
  rw [h]
  unfold Norm.rms
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_cst, val_main_cst_0, val_main_cst_1]

theorem result : val_main_v20 (F := Ideal) x0 x1 x2 x3 x4 = G x0 x1 x2 x3 x4 :=
  funext fun i => (congrArg (val_main_v20 (F := Ideal) x0 x1 x2 x3 x4)
    (funext fun a => match a with | ⟨0, _⟩ => rfl | ⟨1, _⟩ => rfl : i = ix2 (n0 := 8192) (n1 := 2048) (i 0) (i 1))).trans (out_at x0 x1 x2 x3 x4 _ _)

end Cert.Out.Ref

/-! ## The claims -/

namespace Cert.Out

open Idealize.ShloMosaic Idealize.ShloMosaic.TcCoe Idealize.SL.Sem

theorem ref_frame : Cert.quiescent_Reference4Ideal (hReference4Ideal := Cert.Reference4Ideal.Gen.facts) := fun m ρ _ =>
  θ_run_mono (Cert.Reference4Ideal.Value.run (F := Ideal) m ρ) fun r h => ⟨fun c => (h c).2, sem_eq_zero_of_no_sems (by decide) r.2⟩

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => G (A0 m c) (A1 m c) (A2 m c) (A3 m c) (A4 m c), ?_, ?_⟩
  · exact θ_run_mono (Cert.Kernel4Ideal.Value.run_blocks (F := Ideal) m g) fun r h c => ⟨(h c).1.trans (final m c), (h c).2⟩
  · refine θ_run_mono (Cert.Reference4Ideal.Value.run (F := Ideal) m' g') fun r h c => ⟨?_, (h c).2⟩
    obtain ⟨e0, e1, e2, e3, e4⟩ := hargs c
    refine (h c).1.trans ?_
    rw [Cert.Reference4Ideal.Read.val_main_v20_eq, e0, e1, e2, e3, e4]
    exact Ref.result _ _ _ _ _

end Cert.Out

end
-- ==== Proof.ProjRun.lean ====
module

public import proofs.«01_k».proof.Proof.Gen.Kernel5Ideal.Frame
public import proofs.«01_k».proof.Proof.Gen.Kernel5Ideal.Skeleton
public import Idealize.ShloMosaic.Lib.Claim
public import Idealize.ShloMosaic.Lib.VecWindow
public import Idealize.ShloMosaic.Lib.Pipeline.TableIdle

/-! One grid point of the projection kernel. The row block's five points share the normalized rows: the first point
    computes them, and each point stores its own column segment's results and leaves the other outputs alone. -/

@[expose] public section

set_option maxRecDepth 16384

noncomputable section

namespace Cert.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The new contents at the column segment that stores them, the old ones elsewhere. -/
def held {α : Type} (j k : ℕ) (new old : α) : α := if j = k then new else old

theorem held_at {α : Type} {j k : ℕ} (h : j = k) (new old : α) : held j k new old = new := if_pos h
theorem held_off {α : Type} {j k : ℕ} (h : ¬j = k) (new old : α) : held j k new old = old := if_neg h

/-- Which column segment each branch of the body belongs to. -/
theorem branch_at (i : grid0.Coords) :
    (k0_cond1 i = 1#1 ↔ (i 1).val = 0) ∧ (k0_cond4 i = 1#1 ↔ (i 1).val = 0) ∧ (k0_cond5 i = 1#1 ↔ (i 1).val = 1)
      ∧ (k0_cond6 i = 1#1 ↔ (i 1).val = 2) ∧ (k0_cond2 i = 1#1 ↔ (i 1).val = 3) ∧ (k0_cond3 i = 1#1 ↔ (i 1).val = 4) := by
  have hi : (i 1).val < 5 := (i 1).isLt
  unfold k0_cond1 k0_cond2 k0_cond3 k0_cond4 k0_cond5 k0_cond6
  generalize (i 1).val = n at hi
  obtain rfl | rfl | rfl | rfl | rfl : n = 0 ∨ n = 1 ∨ n = 2 ∨ n = 3 ∨ n = 4 := by omega
  all_goals decide

set_option maxHeartbeats 4000000 in
/-- The body at any point, from any contents: every buffer ends at its new contents if the point stores it. -/
theorem run (c : Dev nD) (i : grid0.Coords) (a2 : Memref sig .tc .vmem S512x2048 .f32) (h2 : a2.IsWhole) (a3 : Memref sig .tc .vmem S1x1x2048 .f32) (h3 : a3.IsWhole) (a4 : Memref sig .tc .vmem S1x2048x1024 .bf16) (h4 : a4.IsWhole) (a5 : Memref sig .tc .vmem S1x2048x640 .bf16) (h5 : a5.IsWhole) (a6 : Memref sig .tc .vmem S512x1024 .bf16) (h6 : a6.IsWhole) (a7 : Memref sig .tc .vmem S1x1024x512 .f32) (h7 : a7.IsWhole) (a8 : Memref sig .tc .vmem S1x1024x512 .f32) (h8 : a8.IsWhole) (a9 : Memref sig .tc .vmem S1x1x1024x512 .bf16) (h9 : a9.IsWhole) (a10 : Memref sig .tc .vmem S1x1x1024x512 .bf16) (h10 : a10.IsWhole) (a11 : Memref sig .tc .vmem S512x1024 .f32) (h11 : a11.IsWhole) (a12 : Memref sig .tc .vmem S512x1024 .f32) (h12 : a12.IsWhole) (a13 : Memref sig .tc .vmem S512x512 .f32) (h13 : a13.IsWhole) (a14 : Memref sig .tc .vmem S512x128 .f32) (h14 : a14.IsWhole) (a15 : Memref sig .tc .vmem S512x2048 .bf16) (h15 : a15.IsWhole)
    (x2 : Vec F S512x2048 .f32) (x3 : Vec F S1x1x2048 .f32) (x4 : Vec F S1x2048x1024 .bf16) (x5 : Vec F S1x2048x640 .bf16) (x6 : Vec F S512x1024 .bf16) (x7 : Vec F S1x1024x512 .f32) (x8 : Vec F S1x1024x512 .f32) (x9 : Vec F S1x1x1024x512 .bf16) (x10 : Vec F S1x1x1024x512 .bf16) (x11 : Vec F S512x1024 .f32) (x12 : Vec F S512x1024 .f32) (x13 : Vec F S512x512 .f32) (x14 : Vec F S512x128 .f32) (x15 : Vec F S512x2048 .bf16) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (held (i 1).val 0 (k0_pay10 (held (i 1).val 0 (k0_pay5 x2 x3) x15) x4) x6) ∗ owns (c : Thread nD τ) a7 fullShare (held (i 1).val 1 (k0_pay12 (held (i 1).val 0 (k0_pay5 x2 x3) x15) x4) x7) ∗ owns (c : Thread nD τ) a8 fullShare (held (i 1).val 2 (k0_pay2 (k0_pay9 (held (i 1).val 0 (k0_pay5 x2 x3) x15) x4)) x8) ∗ owns (c : Thread nD τ) a9 fullShare (held (i 1).val 1 (k0_pay13 (held (i 1).val 0 (k0_pay5 x2 x3) x15) x4) x9) ∗ owns (c : Thread nD τ) a10 fullShare (held (i 1).val 2 (k0_pay3 (k0_pay9 (held (i 1).val 0 (k0_pay5 x2 x3) x15) x4)) x10) ∗ owns (c : Thread nD τ) a11 fullShare (held (i 1).val 3 (k0_pay9 (held (i 1).val 0 (k0_pay5 x2 x3) x15) x4) x11) ∗ owns (c : Thread nD τ) a12 fullShare (held (i 1).val 4 (k0_pay9 (held (i 1).val 0 (k0_pay5 x2 x3) x15) x4) x12) ∗ owns (c : Thread nD τ) a13 fullShare (held (i 1).val 0 (k0_pay7 x2 x3 x5) x13) ∗ owns (c : Thread nD τ) a14 fullShare (held (i 1).val 0 (k0_pay8 x2 x3 x5) x14) ∗ owns (c : Thread nD τ) a15 fullShare (held (i 1).val 0 (k0_pay5 x2 x3) x15)) -∗ K ⟨⟩))
      ⊢ wp frame (wpE (defs₀ (F := F)) Variants.none c none) Set.univ (cc0_proj_cols i a2 h2 a3 h3 a4 h4 a5 h5 a6 h6 a7 h7 a8 h8 a9 h9 a10 h10 a11 h11 a12 h12 a13 h13 a14 h14 a15 h15) K := by
  obtain ⟨b1, b4, b5, b6, b2, b3⟩ := branch_at i
  have hi : (i 1).val < 5 := (i 1).isLt
  simp only [cc0_proj_cols_eq_skeleton]; unfold cc0_proj_cols_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15
  have hj : (i 1).val = 0 ∨ (i 1).val = 1 ∨ (i 1).val = 2 ∨ (i 1).val = 3 ∨ (i 1).val = 4 := by omega
  generalize (i 1).val = j at *
  rcases hj with rfl | rfl | rfl | rfl | rfl
  all_goals
    sl_exec (disch := first | sl_exact (b1.mpr rfl) | sl_exact (fun e => absurd (b1.mp e) (by decide)) | sl_exact (b2.mpr rfl) | sl_exact (fun e => absurd (b2.mp e) (by decide)) | sl_exact (b3.mpr rfl) | sl_exact (fun e => absurd (b3.mp e) (by decide)) | sl_exact (b4.mpr rfl) | sl_exact (fun e => absurd (b4.mp e) (by decide)) | sl_exact (b5.mpr rfl) | sl_exact (fun e => absurd (b5.mp e) (by decide)) | sl_exact (b6.mpr rfl) | sl_exact (fun e => absurd (b6.mp e) (by decide)))
    sl_step
    iapply Hk
    have r2 : View.readAt (Elt F) a2.view (Rect.unit ![0, 0] ![512, 2048] inb_S512x2048_S512x2048_0_0).toLoadRect (h2.unread x2) = x2 := (View.readAt_full _ _ _).trans (h2.read_unread _)
    have r3 : View.readAt (Elt F) a3.view (Rect.unit ![0, 0, 0] ![1, 1, 2048] inb_S1x1x2048_S1x1x2048_0_0_0).toLoadRect (h3.unread x3) = x3 := (View.readAt_full _ _ _).trans (h3.read_unread _)
    have r4 : View.readAt (Elt F) a4.view (Rect.unit ![0, 0, 0] ![1, 2048, 1024] inb_S1x2048x1024_S1x2048x1024_0_0_0).toLoadRect (h4.unread x4) = x4 := (View.readAt_full _ _ _).trans (h4.read_unread _)
    have r5 : View.readAt (Elt F) a5.view (Rect.unit ![0, 0, 0] ![1, 2048, 640] inb_S1x2048x640_S1x2048x640_0_0_0).toLoadRect (h5.unread x5) = x5 := (View.readAt_full _ _ _).trans (h5.read_unread _)
    have r15 : View.readAt (Elt F) a15.view (Rect.unit ![0, 0] ![512, 2048] inb_S512x2048_S512x2048_0_0).toLoadRect (h15.unread x15) = x15 := (View.readAt_full _ _ _).trans (h15.read_unread _)
    have rv : ∀ w : S512x2048.Idx → Elt F .bf16, View.readCov a15.view [⟨Rect.unit ![0, 0] ![512, 2048] inb_S512x2048_S512x2048_0_0, w⟩] (Rect.unit ![0, 0] ![512, 2048] inb_S512x2048_S512x2048_0_0).toLoadRect = w := fun w => View.readCov_full _ _ _ _ _
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; (try delta run.sl.v3); (try delta run.sl.H15_1); simp only [held, Nat.reduceEqDiff, reduceIte, one_ne_zero, zero_ne_one, OfNat.ofNat_ne_zero, OfNat.zero_ne_ofNat, OfNat.one_ne_ofNat, OfNat.ofNat_ne_one, r2, r3, r4, r5, r15, rv]; first | done | exact View.read_writes_full _ _ _ _ _ | exact Memref.IsWhole.read_unread (by assumption) _
    isplitl [H7]
    · iexists _; isplitr; swap; · iexact H7
      ipureintro; (try delta run.sl.v3); (try delta run.sl.H15_1); simp only [held, Nat.reduceEqDiff, reduceIte, one_ne_zero, zero_ne_one, OfNat.ofNat_ne_zero, OfNat.zero_ne_ofNat, OfNat.one_ne_ofNat, OfNat.ofNat_ne_one, r2, r3, r4, r5, r15, rv]; first | done | exact View.read_writes_full _ _ _ _ _ | exact Memref.IsWhole.read_unread (by assumption) _
    isplitl [H8]
    · iexists _; isplitr; swap; · iexact H8
      ipureintro; (try delta run.sl.v3); (try delta run.sl.H15_1); simp only [held, Nat.reduceEqDiff, reduceIte, one_ne_zero, zero_ne_one, OfNat.ofNat_ne_zero, OfNat.zero_ne_ofNat, OfNat.one_ne_ofNat, OfNat.ofNat_ne_one, r2, r3, r4, r5, r15, rv]; first | done | exact View.read_writes_full _ _ _ _ _ | exact Memref.IsWhole.read_unread (by assumption) _
    isplitl [H9]
    · iexists _; isplitr; swap; · iexact H9
      ipureintro; (try delta run.sl.v3); (try delta run.sl.H15_1); simp only [held, Nat.reduceEqDiff, reduceIte, one_ne_zero, zero_ne_one, OfNat.ofNat_ne_zero, OfNat.zero_ne_ofNat, OfNat.one_ne_ofNat, OfNat.ofNat_ne_one, r2, r3, r4, r5, r15, rv]; first | done | exact View.read_writes_full _ _ _ _ _ | exact Memref.IsWhole.read_unread (by assumption) _
    isplitl [H10]
    · iexists _; isplitr; swap; · iexact H10
      ipureintro; (try delta run.sl.v3); (try delta run.sl.H15_1); simp only [held, Nat.reduceEqDiff, reduceIte, one_ne_zero, zero_ne_one, OfNat.ofNat_ne_zero, OfNat.zero_ne_ofNat, OfNat.one_ne_ofNat, OfNat.ofNat_ne_one, r2, r3, r4, r5, r15, rv]; first | done | exact View.read_writes_full _ _ _ _ _ | exact Memref.IsWhole.read_unread (by assumption) _
    isplitl [H11]
    · iexists _; isplitr; swap; · iexact H11
      ipureintro; (try delta run.sl.v3); (try delta run.sl.H15_1); simp only [held, Nat.reduceEqDiff, reduceIte, one_ne_zero, zero_ne_one, OfNat.ofNat_ne_zero, OfNat.zero_ne_ofNat, OfNat.one_ne_ofNat, OfNat.ofNat_ne_one, r2, r3, r4, r5, r15, rv]; first | done | exact View.read_writes_full _ _ _ _ _ | exact Memref.IsWhole.read_unread (by assumption) _
    isplitl [H12]
    · iexists _; isplitr; swap; · iexact H12
      ipureintro; (try delta run.sl.v3); (try delta run.sl.H15_1); simp only [held, Nat.reduceEqDiff, reduceIte, one_ne_zero, zero_ne_one, OfNat.ofNat_ne_zero, OfNat.zero_ne_ofNat, OfNat.one_ne_ofNat, OfNat.ofNat_ne_one, r2, r3, r4, r5, r15, rv]; first | done | exact View.read_writes_full _ _ _ _ _ | exact Memref.IsWhole.read_unread (by assumption) _
    isplitl [H13]
    · iexists _; isplitr; swap; · iexact H13
      ipureintro; (try delta run.sl.v3); (try delta run.sl.H15_1); simp only [held, Nat.reduceEqDiff, reduceIte, one_ne_zero, zero_ne_one, OfNat.ofNat_ne_zero, OfNat.zero_ne_ofNat, OfNat.one_ne_ofNat, OfNat.ofNat_ne_one, r2, r3, r4, r5, r15, rv]; first | done | exact View.read_writes_full _ _ _ _ _ | exact Memref.IsWhole.read_unread (by assumption) _
    isplitl [H14]
    · iexists _; isplitr; swap; · iexact H14
      ipureintro; (try delta run.sl.v3); (try delta run.sl.H15_1); simp only [held, Nat.reduceEqDiff, reduceIte, one_ne_zero, zero_ne_one, OfNat.ofNat_ne_zero, OfNat.zero_ne_ofNat, OfNat.one_ne_ofNat, OfNat.ofNat_ne_one, r2, r3, r4, r5, r15, rv]; first | done | exact View.read_writes_full _ _ _ _ _ | exact Memref.IsWhole.read_unread (by assumption) _
    iexists _; isplitr; swap; · iexact H15
    ipureintro; (try delta run.sl.v3); (try delta run.sl.H15_1); simp only [held, Nat.reduceEqDiff, reduceIte, one_ne_zero, zero_ne_one, OfNat.ofNat_ne_zero, OfNat.zero_ne_ofNat, OfNat.one_ne_ofNat, OfNat.ofNat_ne_one, r2, r3, r4, r5, r15, rv]; first | done | exact View.read_writes_full _ _ _ _ _ | exact Memref.IsWhole.read_unread (by assumption) _

end Cert.Proj
end
-- ==== Proof.ProjFrame.lean ====
module

public import proofs.«01_k».proof.Proof.ProjRun
public import Idealize.ShloMosaic.Lib.Claim
public import Idealize.ShloMosaic.Lib.VecWindow
public import Idealize.ShloMosaic.Lib.Pipeline.TableIdle

/-! The projection kernel's run: what each staging buffer holds after each grid point, the body at every point, and the
    launch. The points 5i … 5i + 4 work on row block i; an output's buffer holds that row block's result from the point that
    stores it to the point that writes it back. -/

@[expose] public section

set_option maxRecDepth 16384

noncomputable section

namespace Cert.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The same contents are held if they agree at the column segment that stores them. -/
theorem held_congr {α : Type} {j k : ℕ} {a b : α} (h : j = k → a = b) (o : α) : held j k a o = held j k b o := by
  unfold held; by_cases e : j = k
  · rw [if_pos e, if_pos e, h e]
  · rw [if_neg e, if_neg e]

/-- The kernel's scratch: the normalized rows. -/
abbrev scr : Memref sig .tc .vmem S512x2048 .bf16 := Memref.whole cc0_scratch0

/-- The point of row block `b` and column segment `j`. -/
def pt (b j : ℕ) : Fin cfg0.N := ⟨(5 * b + j) % 80, lt_of_lt_of_eq (Nat.mod_lt _ (by omega)) (show cfg0.N = 80 from N_0).symm⟩

theorem pt_self (t : Fin cfg0.N) {j : ℕ} (h : t.val % 5 = j) : pt (t.val / 5) j = t := by
  have hN : t.val < 80 := lt_of_lt_of_eq t.isLt (show cfg0.N = 80 from N_0)
  refine Fin.ext ?_
  show (5 * (t.val / 5) + j) % 80 = t.val
  omega

/-- A point's column segment is its number modulo 5. -/
theorem col_at : ∀ t : Fin cfg0.N, (grid0.coords t 1).val = t.val % 5 :=
  (by decide +kernel : ∀ t : Fin grid0.N, (grid0.coords t 1).val = t.val % 5)

/-- The normalized rows of row block `b`. -/
def rows (c : Dev nD) (b : ℕ) : Vec F S512x2048 .bf16 := k0_pay5 (iblk m c 0 (pt b 0)) (iblk m c 1 (pt b 0))
/-- Row block `b`'s result in output window 4: the scaled queries. -/
def fin4 (c : Dev nD) (b : ℕ) : Vec F S512x1024 .bf16 := k0_pay10 (rows m c b) (iblk m c 2 (pt b 0))
/-- Row block `b`'s result in output window 5: the keys. -/
def fin5 (c : Dev nD) (b : ℕ) : Vec F S1x1024x512 .f32 := k0_pay12 (rows m c b) (iblk m c 2 (pt b 1))
/-- Row block `b`'s result in output window 6: the values. -/
def fin6 (c : Dev nD) (b : ℕ) : Vec F S1x1024x512 .f32 := k0_pay2 (k0_pay9 (rows m c b) (iblk m c 2 (pt b 2)))
/-- Row block `b`'s result in output window 7: the keys' slab. -/
def fin7 (c : Dev nD) (b : ℕ) : Vec F S1x1x1024x512 .bf16 := k0_pay13 (rows m c b) (iblk m c 2 (pt b 1))
/-- Row block `b`'s result in output window 8: the values' slab. -/
def fin8 (c : Dev nD) (b : ℕ) : Vec F S1x1x1024x512 .bf16 := k0_pay3 (k0_pay9 (rows m c b) (iblk m c 2 (pt b 2)))
/-- Row block `b`'s result in output window 9: the gates. -/
def fin9 (c : Dev nD) (b : ℕ) : Vec F S512x1024 .f32 := k0_pay9 (rows m c b) (iblk m c 2 (pt b 3))
/-- Row block `b`'s result in output window 10: the state inputs. -/
def fin10 (c : Dev nD) (b : ℕ) : Vec F S512x1024 .f32 := k0_pay9 (rows m c b) (iblk m c 2 (pt b 4))
/-- Row block `b`'s result in output window 11: the B and C columns. -/
def fin11 (c : Dev nD) (b : ℕ) : Vec F S512x512 .f32 := k0_pay7 (iblk m c 0 (pt b 0)) (iblk m c 1 (pt b 0)) (iblk m c 3 (pt b 0))
/-- Row block `b`'s result in output window 12: the step sizes. -/
def fin12 (c : Dev nD) (b : ℕ) : Vec F S512x128 .f32 := k0_pay8 (iblk m c 0 (pt b 0)) (iblk m c 1 (pt b 0)) (iblk m c 3 (pt b 0))

/-- What is known between the points: at a row block's start nothing, inside it the scratch holds the block's normalized
    rows; the generator register is at some state. -/
def PhiS (c : Dev nD) (n : ℕ) : sProp 𝕄 :=
  if n % 5 = 0 then Pipeline.ΦA spec0 c else iprop(owns (c : Thread nD τ) scr fullShare (rows m c (n / 5)) ∗ (∃ r, prngReg c r))

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fin4 m c (t.val / 5)
    | ⟨5, _⟩ => fin5 m c (t.val / 5)
    | ⟨6, _⟩ => fin6 m c (t.val / 5)
    | ⟨7, _⟩ => fin7 m c (t.val / 5)
    | ⟨8, _⟩ => fin8 m c (t.val / 5)
    | ⟨9, _⟩ => fin9 m c (t.val / 5)
    | ⟨10, _⟩ => fin10 m c (t.val / 5)
    | ⟨11, _⟩ => fin11 m c (t.val / 5)
    | ⟨12, _⟩ => fin12 m c (t.val / 5)
  Φ t := PhiS m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = fin4 m c (t.val / 5) := by dsimp only [dats]
theorem after_5 (c : Dev nD) (t : Fin cfg0.N) : (dats m 0 c).after 5 t = fin5 m c (t.val / 5) := by dsimp only [dats]
theorem after_6 (c : Dev nD) (t : Fin cfg0.N) : (dats m 0 c).after 6 t = fin6 m c (t.val / 5) := by dsimp only [dats]
theorem after_7 (c : Dev nD) (t : Fin cfg0.N) : (dats m 0 c).after 7 t = fin7 m c (t.val / 5) := by dsimp only [dats]
theorem after_8 (c : Dev nD) (t : Fin cfg0.N) : (dats m 0 c).after 8 t = fin8 m c (t.val / 5) := by dsimp only [dats]
theorem after_9 (c : Dev nD) (t : Fin cfg0.N) : (dats m 0 c).after 9 t = fin9 m c (t.val / 5) := by dsimp only [dats]
theorem after_10 (c : Dev nD) (t : Fin cfg0.N) : (dats m 0 c).after 10 t = fin10 m c (t.val / 5) := by dsimp only [dats]
theorem after_11 (c : Dev nD) (t : Fin cfg0.N) : (dats m 0 c).after 11 t = fin11 m c (t.val / 5) := by dsimp only [dats]
theorem after_12 (c : Dev nD) (t : Fin cfg0.N) : (dats m 0 c).after 12 t = fin12 m c (t.val / 5) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The scratch and the generator register at anything are what the launch hands the region. -/
theorem PhiA_eq (c : Dev nD) : (Pipeline.ΦA spec0 c : sProp 𝕄)
    = iprop((∃ d, owns (c : Thread nD τ) scr fullShare d) ∗ (∃ r, prngReg c r)) := by
  unfold Pipeline.ΦA; rw [scopedRest0_eq]; simp only [scr, owns_whole]; try rfl

/-- Before a point the scratch holds something that the point makes its row block's normalized rows. -/
theorem Phi_pre (c : Dev nD) (t : Fin cfg0.N) : PhiS m c t.val
    ⊢ iprop(∃ x, ⌜held (t.val % 5) 0 (k0_pay5 (iblk m c 0 t) (iblk m c 1 t)) x = rows m c (t.val / 5)⌝
        ∗ owns (c : Thread nD τ) scr fullShare x ∗ (∃ r, prngReg c r)) := by
  unfold PhiS
  by_cases h : t.val % 5 = 0
  · rw [if_pos h, PhiA_eq]
    iintro ⟨⟨%d, H⟩, Hg⟩
    iexists d
    isplitr
    · ipureintro
      rw [held_at h]; unfold rows; rw [pt_self t h]
    isplitl [H]; · iexact H
    iexact Hg
  · rw [if_neg h]
    iintro ⟨H, Hg⟩
    iexists _
    isplitr
    swap
    · isplitl [H]; · iexact H
      iexact Hg
    ipureintro; exact held_off h _ _

/-- After a point the scratch holds its row block's normalized rows, as long as the block lasts. -/
theorem Phi_post (c : Dev nD) (t : Fin cfg0.N) :
    iprop(owns (c : Thread nD τ) scr fullShare (rows m c (t.val / 5)) ∗ (∃ r, prngReg c r)) ⊢ PhiS m c (t.val + 1) := by
  unfold PhiS
  by_cases h : (t.val + 1) % 5 = 0
  · rw [if_pos h, PhiA_eq]
    iintro ⟨H, Hg⟩
    isplitl [H]
    · iexists _; iexact H
    iexact Hg
  · rw [if_neg h, show (t.val + 1) / 5 = t.val / 5 by omega]
    try exact Idealize.SL.BI.Entails.refl _

/-- Such an output's buffer holds nothing of the row block's up to and including the point that stores it. -/
theorem fresh_of (w : Fin cfg0.W) (k : ℕ) (hk : k ≤ 4)
    (hidle : ∀ t : Fin cfg0.N, cfg0.idle w (cfg0.grid.coords t) = !decide (t.val % 5 = k))
    (hflush : ∀ t : Fin cfg0.N, (cfg0.win w).flush t = true ↔ t.val % 5 = 4) (t : Fin cfg0.N) :
    cfg0.fresh w t.val = decide (t.val % 5 ≤ k) := by
  refine cfg0.fresh_tab w (fun n => decide (n % 5 ≤ k)) (by simp) (fun s => ?_) t.val (le_of_lt t.isLt)
  rw [hidle s]
  by_cases e : s.val % 5 = 4
  · rw [(hflush s).mpr e, Bool.true_or]; exact decide_eq_true (by omega)
  · rw [show (cfg0.win w).flush s = false from Bool.eq_false_iff.mpr (fun f => e ((hflush s).mp f)), Bool.false_or]
    by_cases e' : s.val % 5 = k
    · rw [decide_eq_true e', Bool.not_true, Bool.false_and]; exact decide_eq_false (by omega)
    · rw [decide_eq_false e', Bool.not_false, Bool.true_and]
      exact decide_eq_decide.mpr (by omega)

/-- An output that column segment `k` stores, whose result depends on the row block only: what the body leaves there is what
    the obligation asks, at the points that store it, write it back, or do neither. -/
theorem leaves_of {c : Dev nD} (dat : Dat τ (Elt F) Unit ℕ (UR sig nD τ) ℕ cfg0 c) (w : Fin cfg0.W) (k : ℕ) (hk : k ≤ 4)
    (hw : (cfg0.win w).isOut = true) (hclip : ∀ (i : cfg0.grid.Coords) a, (cfg0.win w).clip i a = none)
    (hidle : ∀ t : Fin cfg0.N, cfg0.idle w (cfg0.grid.coords t) = !decide (t.val % 5 = k))
    (hflush : ∀ t : Fin cfg0.N, (cfg0.win w).flush t = true ↔ t.val % 5 = 4)
    (hafter : ∀ t t' : Fin cfg0.N, t.val / 5 = t'.val / 5 → dat.after w t = dat.after w t') (t : Fin cfg0.N) (d) :
    owns (c : Thread nD τ) ((cfg0.win w).stage (cfg0.slots t w)) fullShare (held (t.val % 5) k (dat.after w t) (dat.before w t d))
      ⊢ dat.leavesExact w t := by
  have hN : t.val < 80 := lt_of_lt_of_eq t.isLt (show cfg0.N = 80 from N_0)
  by_cases h : t.val % 5 = k
  · have hi : cfg0.idle w (cfg0.grid.coords t) = false := by rw [hidle t, decide_eq_true h]; rfl
    rw [held_at h]; unfold Dat.leavesExact; rw [hi]
    try exact Idealize.SL.BI.Entails.refl _
  · have hi : cfg0.idle w (cfg0.grid.coords t) = true := by rw [hidle t, decide_eq_false h]; rfl
    rw [held_off h]
    by_cases h4 : t.val % 5 = 4
    · have hfr : cfg0.fresh w t.val = false := by
        rw [fresh_of w k hk hidle hflush t]; exact decide_eq_false (by omega)
      have hc : ∀ (s : Fin cfg0.N) (_ : s.val ≠ 0), cfg0.idle w (cfg0.grid.coords s) = true → cfg0.fresh w s.val = false →
          dat.after w s = dat.after w ⟨s.val - 1, by omega⟩ := fun s hs _ hf => by
        rw [fresh_of w k hk hidle hflush s] at hf
        have := of_decide_eq_false hf
        exact hafter _ _ (by show s.val / 5 = (s.val - 1) / 5; omega)
      rw [dat.before_out_traj w hw hclip hc t.val t rfl d, hfr, if_neg Bool.false_ne_true]
      unfold Dat.leavesExact; rw [hi, (hflush t).mpr h4]
      rw [hafter ⟨t.val - 1, by omega⟩ t (by show (t.val - 1) / 5 = t.val / 5; omega)]
      try exact Idealize.SL.BI.Entails.refl _
    · rw [Dat.leavesExact_idle dat w t hi (Bool.eq_false_iff.mpr (fun f => h4 ((hflush t).mp f)))]
      iintro H; iexists d; iexact H

theorem leaves_4 (c : Dev nD) (t : Fin cfg0.N) (d) :
    owns (c : Thread nD τ) (st0_4 t) fullShare (held (t.val % 5) 0 (fin4 m c (t.val / 5)) ((dats m 0 c).before 4 t d)) ⊢ (dats m 0 c).leavesExact 4 t :=
  leaves_of (dats m 0 c) 4 0 (by omega) rfl (fun _ _ => rfl)
    (by decide +kernel : ∀ t : Fin grid0.N, idle0 4 (grid0.coords t) = !decide (t.val % 5 = 0)) flush0_4
    (fun t t' h => by rw [after_4, after_4, h]) t d
theorem leaves_5 (c : Dev nD) (t : Fin cfg0.N) (d) :
    owns (c : Thread nD τ) (st0_5 t) fullShare (held (t.val % 5) 1 (fin5 m c (t.val / 5)) ((dats m 0 c).before 5 t d)) ⊢ (dats m 0 c).leavesExact 5 t :=
  leaves_of (dats m 0 c) 5 1 (by omega) rfl (fun _ _ => rfl)
    (by decide +kernel : ∀ t : Fin grid0.N, idle0 5 (grid0.coords t) = !decide (t.val % 5 = 1)) flush0_5
    (fun t t' h => by rw [after_5, after_5, h]) t d
theorem leaves_6 (c : Dev nD) (t : Fin cfg0.N) (d) :
    owns (c : Thread nD τ) (st0_6 t) fullShare (held (t.val % 5) 2 (fin6 m c (t.val / 5)) ((dats m 0 c).before 6 t d)) ⊢ (dats m 0 c).leavesExact 6 t :=
  leaves_of (dats m 0 c) 6 2 (by omega) rfl (fun _ _ => rfl)
    (by decide +kernel : ∀ t : Fin grid0.N, idle0 6 (grid0.coords t) = !decide (t.val % 5 = 2)) flush0_6
    (fun t t' h => by rw [after_6, after_6, h]) t d
theorem leaves_7 (c : Dev nD) (t : Fin cfg0.N) (d) :
    owns (c : Thread nD τ) (st0_7 t) fullShare (held (t.val % 5) 1 (fin7 m c (t.val / 5)) ((dats m 0 c).before 7 t d)) ⊢ (dats m 0 c).leavesExact 7 t :=
  leaves_of (dats m 0 c) 7 1 (by omega) rfl (fun _ _ => rfl)
    (by decide +kernel : ∀ t : Fin grid0.N, idle0 7 (grid0.coords t) = !decide (t.val % 5 = 1)) flush0_7
    (fun t t' h => by rw [after_7, after_7, h]) t d
theorem leaves_8 (c : Dev nD) (t : Fin cfg0.N) (d) :
    owns (c : Thread nD τ) (st0_8 t) fullShare (held (t.val % 5) 2 (fin8 m c (t.val / 5)) ((dats m 0 c).before 8 t d)) ⊢ (dats m 0 c).leavesExact 8 t :=
  leaves_of (dats m 0 c) 8 2 (by omega) rfl (fun _ _ => rfl)
    (by decide +kernel : ∀ t : Fin grid0.N, idle0 8 (grid0.coords t) = !decide (t.val % 5 = 2)) flush0_8
    (fun t t' h => by rw [after_8, after_8, h]) t d
theorem leaves_9 (c : Dev nD) (t : Fin cfg0.N) (d) :
    owns (c : Thread nD τ) (st0_9 t) fullShare (held (t.val % 5) 3 (fin9 m c (t.val / 5)) ((dats m 0 c).before 9 t d)) ⊢ (dats m 0 c).leavesExact 9 t :=
  leaves_of (dats m 0 c) 9 3 (by omega) rfl (fun _ _ => rfl)
    (by decide +kernel : ∀ t : Fin grid0.N, idle0 9 (grid0.coords t) = !decide (t.val % 5 = 3)) flush0_9
    (fun t t' h => by rw [after_9, after_9, h]) t d
theorem leaves_10 (c : Dev nD) (t : Fin cfg0.N) (d) :
    owns (c : Thread nD τ) (st0_10 t) fullShare (held (t.val % 5) 4 (fin10 m c (t.val / 5)) ((dats m 0 c).before 10 t d)) ⊢ (dats m 0 c).leavesExact 10 t :=
  leaves_of (dats m 0 c) 10 4 (by omega) rfl (fun _ _ => rfl)
    (by decide +kernel : ∀ t : Fin grid0.N, idle0 10 (grid0.coords t) = !decide (t.val % 5 = 4)) flush0_10
    (fun t t' h => by rw [after_10, after_10, h]) t d
theorem leaves_11 (c : Dev nD) (t : Fin cfg0.N) (d) :
    owns (c : Thread nD τ) (st0_11 t) fullShare (held (t.val % 5) 0 (fin11 m c (t.val / 5)) ((dats m 0 c).before 11 t d)) ⊢ (dats m 0 c).leavesExact 11 t :=
  leaves_of (dats m 0 c) 11 0 (by omega) rfl (fun _ _ => rfl)
    (by decide +kernel : ∀ t : Fin grid0.N, idle0 11 (grid0.coords t) = !decide (t.val % 5 = 0)) flush0_11
    (fun t t' h => by rw [after_11, after_11, h]) t d
theorem leaves_12 (c : Dev nD) (t : Fin cfg0.N) (d) :
    owns (c : Thread nD τ) (st0_12 t) fullShare (held (t.val % 5) 0 (fin12 m c (t.val / 5)) ((dats m 0 c).before 12 t d)) ⊢ (dats m 0 c).leavesExact 12 t :=
  leaves_of (dats m 0 c) 12 0 (by omega) rfl (fun _ _ => rfl)
    (by decide +kernel : ∀ t : Fin grid0.N, idle0 12 (grid0.coords t) = !decide (t.val % 5 = 0)) flush0_12
    (fun t t' h => by rw [after_12, after_12, h]) t d
theorem leaves_0 (c : Dev nD) (t : Fin cfg0.N) : (dats m 0 c).leavesExact 0 t = owns (c : Thread nD τ) (st0_0 t) fullShare (iblk m c 0 t) := by
  rw [← after_0]
theorem leaves_1 (c : Dev nD) (t : Fin cfg0.N) : (dats m 0 c).leavesExact 1 t = owns (c : Thread nD τ) (st0_1 t) fullShare (iblk m c 1 t) := by
  rw [← after_1]
theorem leaves_2 (c : Dev nD) (t : Fin cfg0.N) : (dats m 0 c).leavesExact 2 t = owns (c : Thread nD τ) (st0_2 t) fullShare (iblk m c 2 t) := by
  rw [← after_2]
theorem leaves_3 (c : Dev nD) (t : Fin cfg0.N) : (dats m 0 c).leavesExact 3 t = owns (c : Thread nD τ) (st0_3 t) fullShare (iblk m c 3 t) := by
  rw [← after_3]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    leaves_0, leaves_1, leaves_2, leaves_3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HP := (Phi_pre m c t) $$ HΦ
  icases HP with ⟨%x, %hx, HS, Hg⟩
  iapply (run c (grid0.coords t) _ _ _ _ _ _ _ _ _ _ _ _ _ _ _ _ _ _ _ _ _ _ _ _ _ _ _ _ (iblk m c 0 t) (iblk m c 1 t) (iblk m c 2 t) (iblk m c 3 t) ((dats m 0 c).before 4 t d4) ((dats m 0 c).before 5 t d5) ((dats m 0 c).before 6 t d6) ((dats m 0 c).before 7 t d7) ((dats m 0 c).before 8 t d8) ((dats m 0 c).before 9 t d9) ((dats m 0 c).before 10 t d10) ((dats m 0 c).before 11 t d11) ((dats m 0 c).before 12 t d12) x _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  rw [col_at t, hx]
  rw [held_congr (fun h => (by unfold fin4; rw [pt_self t h] : k0_pay10 (rows m c (t.val / 5)) (iblk m c 2 t) = fin4 m c (t.val / 5))) ((dats m 0 c).before 4 t d4)]
  rw [held_congr (fun h => (by unfold fin5; rw [pt_self t h] : k0_pay12 (rows m c (t.val / 5)) (iblk m c 2 t) = fin5 m c (t.val / 5))) ((dats m 0 c).before 5 t d5)]
  rw [held_congr (fun h => (by unfold fin6; rw [pt_self t h] : k0_pay2 (k0_pay9 (rows m c (t.val / 5)) (iblk m c 2 t)) = fin6 m c (t.val / 5))) ((dats m 0 c).before 6 t d6)]
  rw [held_congr (fun h => (by unfold fin7; rw [pt_self t h] : k0_pay13 (rows m c (t.val / 5)) (iblk m c 2 t) = fin7 m c (t.val / 5))) ((dats m 0 c).before 7 t d7)]
  rw [held_congr (fun h => (by unfold fin8; rw [pt_self t h] : k0_pay3 (k0_pay9 (rows m c (t.val / 5)) (iblk m c 2 t)) = fin8 m c (t.val / 5))) ((dats m 0 c).before 8 t d8)]
  rw [held_congr (fun h => (by unfold fin9; rw [pt_self t h] : k0_pay9 (rows m c (t.val / 5)) (iblk m c 2 t) = fin9 m c (t.val / 5))) ((dats m 0 c).before 9 t d9)]
  rw [held_congr (fun h => (by unfold fin10; rw [pt_self t h] : k0_pay9 (rows m c (t.val / 5)) (iblk m c 2 t) = fin10 m c (t.val / 5))) ((dats m 0 c).before 10 t d10)]
  rw [held_congr (fun h => (by unfold fin11; rw [pt_self t h] : k0_pay7 (iblk m c 0 t) (iblk m c 1 t) (iblk m c 3 t) = fin11 m c (t.val / 5))) ((dats m 0 c).before 11 t d11)]
  rw [held_congr (fun h => (by unfold fin12; rw [pt_self t h] : k0_pay8 (iblk m c 0 t) (iblk m c 1 t) (iblk m c 3 t) = fin12 m c (t.val / 5))) ((dats m 0 c).before 12 t d12)]
  iintro ⟨H0, H1, H2, H3, H4, H5, H6, H7, H8, H9, H10, H11, H12, HS⟩
  isplitl [HS Hg]
  · iapply (Phi_post m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iapply (leaves_4 m c t d4); iexact H4
  isplitl [H5]; · iapply (leaves_5 m c t d5); iexact H5
  isplitl [H6]; · iapply (leaves_6 m c t d6); iexact H6
  isplitl [H7]; · iapply (leaves_7 m c t d7); iexact H7
  isplitl [H8]; · iapply (leaves_8 m c t d8); iexact H8
  isplitl [H9]; · iapply (leaves_9 m c t d9); iexact H9
  isplitl [H10]; · iapply (leaves_10 m c t d10); iexact H10
  isplitl [H11]; · iapply (leaves_11 m c t d11); iexact H11
  iapply (leaves_12 m c t d12); iexact H12

/-- The table's row at a point is the body there. -/
theorem row_at (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row_at]
  exact triple_restated (sound_body m c t) rfl .rfl fun _ => .rfl

theorem hin (c : Dev nD) : Pipeline.ΦA spec0 c ⊢ (dats m 0 c).Φ 0 := by
  rw [show (dats m 0 c).Φ 0 = PhiS m c 0 from rfl]; unfold PhiS; rw [if_pos rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c 80 from congrArg (PhiS m c) (show cfg0.N = 80 from N_0)]; unfold PhiS; rw [if_pos rfl]
  try exact Idealize.SL.BI.Entails.refl _

set_option backward.isDefEq.respectTransparency.types false in
/-- The launch: every execution ends with every array at what the points wrote and all counters at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_ok m c).loose) (hshare := fun c w => (by unfold Dat.share; split <;> rfl))
    (howed := fun _ _ => rfl) (V₀ := V0 m) (opss := [hostOps1]) (hsub := sfx_sub) (hfresh := sfx_fresh) (hkeep := sfx_keeps)
    (hmain := hmain m Variants.none) (hA := A_eq m) (hin := hin m) (hout := hout m) (hQ' := fun _ h => h)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The idealized program's frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proj
end
-- ==== Proof.ProjVals.lean ====
module

public import proofs.«01_k».proof.Defs
public import proofs.«01_k».proof.Proof.Norm
public import proofs.«01_k».proof.Proof.ProjFrame
public import proofs.«01_k».proof.Proof.Gen.Reference5Ideal.Run
public import proofs.«01_k».proof.Proof.Gen.Reference5Ideal.Read
public import Idealize.ShloMosaic.Lib.Claim
public import Idealize.ShloMosaic.Lib.Pipeline.ValueKit.Geometry
public import Idealize.ShloMosaic.Lib.Pipeline.ValueKit.Acc

@[expose] public section

set_option maxRecDepth 16384

noncomputable section

/-! The input projection's nine result arrays as functions of its three arguments, from the reference's run, and the values the
    kernel's blocks and payloads have. -/

namespace Cert.Proj

open Cert.Kernel5Ideal Cert.Kernel5Ideal.Gen Cert.Kernel5Ideal.Facts Idealize.ShloMosaic Idealize.ShloMosaic.TcCoe Idealize.SL.Sem

/-! ## Arrays read by their coordinates -/

/-- The array whose entry at two coordinates is `f`'s value there; likewise for three and four coordinates. -/
def arr2 {a b : ℕ} (f : Fin a → Fin b → EReal) : (⟨2, ![a, b]⟩ : Shape).Idx → EReal := fun i => f (i 0) (i 1)
def arr3 {a b d : ℕ} (f : Fin a → Fin b → Fin d → EReal) : (⟨3, ![a, b, d]⟩ : Shape).Idx → EReal := fun i => f (i 0) (i 1) (i 2)
def arr4 {a b d e : ℕ} (f : Fin a → Fin b → Fin d → Fin e → EReal) : (⟨4, ![a, b, d, e]⟩ : Shape).Idx → EReal :=
  fun i => f (i 0) (i 1) (i 2) (i 3)

theorem ix2_self {a b : ℕ} (i : (⟨2, ![a, b]⟩ : Shape).Idx) : i = ix2 (n0 := a) (n1 := b) (i 0) (i 1) :=
  funext fun a => match a with | ⟨0, _⟩ => rfl | ⟨1, _⟩ => rfl
theorem ix3_self {a b d : ℕ} (i : (⟨3, ![a, b, d]⟩ : Shape).Idx) : i = ix3 (n0 := a) (n1 := b) (n2 := d) (i 0) (i 1) (i 2) :=
  funext fun a => match a with | ⟨0, _⟩ => rfl | ⟨1, _⟩ => rfl | ⟨2, _⟩ => rfl
theorem ix4_self {a b d e : ℕ} (i : (⟨4, ![a, b, d, e]⟩ : Shape).Idx) :
    i = ix4 (n0 := a) (n1 := b) (n2 := d) (n3 := e) (i 0) (i 1) (i 2) (i 3) :=
  funext fun a => match a with | ⟨0, _⟩ => rfl | ⟨1, _⟩ => rfl | ⟨2, _⟩ => rfl | ⟨3, _⟩ => rfl

theorem eq_arr2 {a b : ℕ} (v : (⟨2, ![a, b]⟩ : Shape).Idx → EReal) (f : Fin a → Fin b → EReal) (h : ∀ i j, v (ix2 i j) = f i j) : v = arr2 f :=
  funext fun i => (congrArg v (ix2_self i)).trans (h _ _)
theorem eq_arr4 {a b d e : ℕ} (v : (⟨4, ![a, b, d, e]⟩ : Shape).Idx → EReal) (f : Fin a → Fin b → Fin d → Fin e → EReal)
    (h : ∀ i j k l, v (ix4 i j k l) = f i j k l) : v = arr4 f :=
  funext fun i => (congrArg v (ix4_self i)).trans (h _ _ _ _)

/-! ## The results as functions of the arguments -/

section
variable (a0 : Vec Ideal S4x2048x2048 .f32) (a1 : Vec Ideal S4x2048 .f32) (a2 : Vec Ideal S4x2048x5648 .f32)

/-- A token's normalized row times a column of the weights. -/
def P (i : Fin 8192) (n : Fin 5648) : EReal :=
  ∑ j : Fin 2048, Norm.rms (Norm.row a0 i) (fun j => a1 (ix2 3 j)) j * a2 (ix3 3 j n)

/-- The queries, scaled. -/
def gq (i : Fin 8192) (k : Fin 1024) : EReal := P a0 a1 a2 i ⟨2576 + k.val, by omega⟩ * Ideal.ofBits .f32 0x3E000000#32
/-- The keys and the values by sequence, token, head and lane. -/
def gk (b : Fin 4) (t : Fin 2048) (h : Fin 16) (d : Fin 64) : EReal :=
  P a0 a1 a2 ⟨b.val * 2048 + t.val, by omega⟩ ⟨3600 + (h.val * 64 + d.val), by omega⟩
def gv (b : Fin 4) (t : Fin 2048) (h : Fin 16) (d : Fin 64) : EReal :=
  P a0 a1 a2 ⟨b.val * 2048 + t.val, by omega⟩ ⟨4624 + (h.val * 64 + d.val), by omega⟩
/-- The keys and the values by sequence, block of 512 tokens, column and token in the block. -/
def gks (b s : Fin 4) (n : Fin 1024) (r : Fin 512) : EReal :=
  P a0 a1 a2 ⟨b.val * 2048 + s.val * 512 + r.val, by omega⟩ ⟨3600 + n.val, by omega⟩
def gvs (b s : Fin 4) (n : Fin 1024) (r : Fin 512) : EReal :=
  P a0 a1 a2 ⟨b.val * 2048 + s.val * 512 + r.val, by omega⟩ ⟨4624 + n.val, by omega⟩
/-- The gate, the state-space input, its two coefficient rows, and the time steps padded with zeros. -/
def gz (i : Fin 8192) (k : Fin 1024) : EReal := P a0 a1 a2 i ⟨k.val, by omega⟩
def gx (i : Fin 8192) (k : Fin 1024) : EReal := P a0 a1 a2 i ⟨1024 + k.val, by omega⟩
def gbc (i : Fin 8192) (k : Fin 512) : EReal := P a0 a1 a2 i ⟨2048 + k.val, by omega⟩
def gdt (i : Fin 8192) (k : Fin 128) : EReal := if h : k.val < 16 then P a0 a1 a2 i ⟨2560 + k.val, by omega⟩ else 0

end

/-! ## The kernel's payloads -/

theorem pay5_apply (x : Vec Ideal S512x2048 .f32) (g : Vec Ideal S1x1x2048 .f32) (r : Fin 512) (k : Fin 2048) :
    k0_pay5 x g (ix2 r k) = Norm.rms (fun j => x (ix2 r j)) (fun j => g (ix3 0 0 j)) k := by
  unfold Norm.rms
  pointwise [k0_pay5, k0_pay4]

theorem pay7_apply (x : Vec Ideal S512x2048 .f32) (g : Vec Ideal S1x1x2048 .f32) (w : Vec Ideal S1x2048x640 .bf16) (r k : Fin 512) :
    k0_pay7 x g w (ix2 r k) = ∑ j : Fin 2048, Norm.rms (fun j => x (ix2 r j)) (fun j => g (ix3 0 0 j)) j * w (ix3 0 j ⟨k.val, by omega⟩) := by
  unfold Norm.rms
  pointwise [k0_pay7, k0_pay6, k0_pay4]

theorem pay8_apply (x : Vec Ideal S512x2048 .f32) (g : Vec Ideal S1x1x2048 .f32) (w : Vec Ideal S1x2048x640 .bf16) (r : Fin 512) (k : Fin 128) :
    k0_pay8 x g w (ix2 r k) = ∑ j : Fin 2048, Norm.rms (fun j => x (ix2 r j)) (fun j => g (ix3 0 0 j)) j * w (ix3 0 j ⟨512 + k.val, by omega⟩) := by
  unfold Norm.rms
  pointwise [k0_pay8, k0_pay6, k0_pay4]

theorem pay9_apply (u : Vec Ideal S512x2048 .bf16) (w : Vec Ideal S1x2048x1024 .bf16) (r : Fin 512) (k : Fin 1024) :
    k0_pay9 (F := Ideal) u w (ix2 r k) = ∑ j : Fin 2048, u (ix2 r j) * w (ix3 0 j k) := by
  pointwise [k0_pay9]

theorem pay10_apply (u : Vec Ideal S512x2048 .bf16) (w : Vec Ideal S1x2048x1024 .bf16) (r : Fin 512) (k : Fin 1024) :
    k0_pay10 (F := Ideal) u w (ix2 r k) = (∑ j : Fin 2048, u (ix2 r j) * w (ix3 0 j k)) * Ideal.ofBits .f32 0x3E000000#32 := by
  pointwise [k0_pay10, k0_pay9]

theorem pay12_apply (u : Vec Ideal S512x2048 .bf16) (w : Vec Ideal S1x2048x1024 .bf16) (k : Fin 1024) (r : Fin 512) :
    k0_pay12 (F := Ideal) u w (ix3 0 k r) = ∑ j : Fin 2048, u (ix2 r j) * w (ix3 0 j k) := by
  pointwise [k0_pay12, k0_pay11, k0_pay9]

theorem pay13_apply (u : Vec Ideal S512x2048 .bf16) (w : Vec Ideal S1x2048x1024 .bf16) (k : Fin 1024) (r : Fin 512) :
    k0_pay13 (F := Ideal) u w (ix4 0 0 k r) = ∑ j : Fin 2048, u (ix2 r j) * w (ix3 0 j k) := by
  pointwise [k0_pay13, k0_pay11, k0_pay9]

theorem pay2_apply (v : Vec Ideal S512x1024 .f32) (k : Fin 1024) (r : Fin 512) : k0_pay2 (F := Ideal) v (ix3 0 k r) = v (ix2 r k) := by
  pointwise [k0_pay2, k0_pay1]

theorem pay3_apply (v : Vec Ideal S512x1024 .f32) (k : Fin 1024) (r : Fin 512) : k0_pay3 (F := Ideal) v (ix4 0 0 k r) = v (ix2 r k) := by
  pointwise [k0_pay3, k0_pay1]

/-! ## The arrays the launch reads -/

section
variable (m : (ℓ : Loc nD τ sig) → Buf (Elt Ideal) ℓ) (c : Dev nD)

/-- The three arguments as the program is launched on them. -/
abbrev A0 : Vec Ideal S4x2048x2048 .f32 := m ((c : Thread nD τ).loc main_arg0)
abbrev A1 : Vec Ideal S4x2048 .f32 := m ((c : Thread nD τ).loc main_arg1)
abbrev A2 : Vec Ideal S4x2048x5648 .f32 := m ((c : Thread nD τ).loc main_arg2)

theorem V_x (i : Fin 8192) (k : Fin 2048) : (V m c main_v8 : Vec Ideal S8192x2048 .f32) (ix2 i k) = Norm.row (A0 m c) i k := by
  unfold Norm.row
  dsimp only [V, V0, hostOps0, hostOps0_1, hostOps0_2, List.flatten_cons, List.flatten_nil, List.append_nil, List.cons_append, List.nil_append]
  after_results
  pointwise []

theorem V_g (l : Fin 4) (k : Fin 2048) : (V m c main_v9 : Vec Ideal S4x1x2048 .f32) (ix3 l 0 k) = A1 m c (ix2 l k) := by
  dsimp only [V, V0, hostOps0, hostOps0_1, hostOps0_2, List.flatten_cons, List.flatten_nil, List.append_nil, List.cons_append, List.nil_append]
  after_results
  pointwise []

/-- The wide weights: the columns of the queries, the keys and the values, then the gate's, then the state-space input's. -/
def wide (w : Vec Ideal S4x2048x5648 .f32) : Vec Ideal S4x2048x5120 .bf16 := truncf (F := Ideal) .bf16 (concatenate S4x2048x5120 2
    [⟨S4x2048x3072, extractStridedSlice S4x2048x3072 ![0, 0, 2576] w slices_S4x2048x5648_S4x2048x3072_0_0_2576⟩,
      ⟨S4x2048x1024, extractStridedSlice S4x2048x1024 ![0, 0, 0] w slices_S4x2048x5648_S4x2048x1024_0_0_0⟩,
      ⟨S4x2048x1024, extractStridedSlice S4x2048x1024 ![0, 0, 1024] w slices_S4x2048x5648_S4x2048x1024_0_0_1024⟩]
    concatenates_S4x2048x3072_S4x2048x1024_S4x2048x1024_S4x2048x5120_d2) bitsLt_bf16_f32

theorem V_cat : (V m c main_v4 : Vec Ideal S4x2048x5120 .bf16) = wide (A2 m c) := by
  dsimp only [V, V0, hostOps0, hostOps0_1, hostOps0_2, List.flatten_cons, List.flatten_nil, List.append_nil, List.cons_append, List.nil_append]
  after_results
  rfl

/-- A column of the wide weights is a column of the argument's. -/
theorem wide_at (w : Vec Ideal S4x2048x5648 .f32) (l : Fin 4) (j : Fin 2048) (n : Fin 5120) :
    wide w (ix3 l j n) = w (ix3 l j ⟨if n.val < 3072 then 2576 + n.val else n.val - 3072, by split <;> omega⟩) := by
  pointwise [wide]
  by_cases h1 : n.val < 3072
  · simp only [dif_pos h1, if_pos h1]
  · simp only [dif_neg h1, if_neg h1]
    by_cases h2 : n.val - 3072 < 1024
    · simp only [dif_pos h2]
      try exact congrArg (fun q => w (ix3 l j q)) (Fin.ext (by simp only; omega))
    · simp only [dif_neg h2]
      exact congrArg (fun q => w (ix3 l j q)) (Fin.ext (by simp only; omega))

theorem V_w (l : Fin 4) (j : Fin 2048) (n : Fin 5120) : (V m c main_v4 : Vec Ideal S4x2048x5120 .bf16) (ix3 l j n)
    = A2 m c (ix3 l j ⟨if n.val < 3072 then 2576 + n.val else n.val - 3072, by split <;> omega⟩) := by
  rw [V_cat]
  exact wide_at (A2 m c) l j n

/-- The narrow weights: the columns after the state-space input's, padded with zeros. -/
theorem V_pad : (V m c main_v7 : Vec Ideal S4x2048x640 .bf16) = truncf .bf16 (pad S4x2048x640 ![0, 0, 0] ![0, 0, 112] ![0, 0, 0]
    (extractStridedSlice S4x2048x528 ![0, 0, 2048] (A2 m c) slices_S4x2048x5648_S4x2048x528_0_0_2048)
    (sitofp (F := Ideal) .f32 (constantI S_ 32 0#32)) pads_S4x2048x528_S4x2048x640_000_000_01120 h_S_) bitsLt_bf16_f32 := by
  dsimp only [V, V0, hostOps0, hostOps0_1, hostOps0_2, List.flatten_cons, List.flatten_nil, List.append_nil, List.cons_append, List.nil_append]
  after_results
  rfl

theorem zero_int : FloatOps.sitofp (F := Ideal) .f32 0#32 = (0 : EReal) := by
  simp [FloatOps.sitofp]

theorem V_e (l : Fin 4) (j : Fin 2048) (n : Fin 640) : (V m c main_v7 : Vec Ideal S4x2048x640 .bf16) (ix3 l j n)
    = if h : n.val < 528 then A2 m c (ix3 l j ⟨2048 + n.val, by omega⟩) else (0 : EReal) := by
  rw [V_pad, ← zero_int]
  pointwise []

end

end Cert.Proj

/-! ## The reference -/

namespace Cert.Proj.Ref

open Cert.Reference5Ideal Cert.Reference5Ideal.Gen Cert.Reference5Ideal.Read Cert.Reference5Ideal.Facts Idealize.ShloMosaic Idealize.ShloMosaic.TcCoe Idealize.SL.Sem

variable (x0 : Vec Ideal S4x2048x2048 .f32) (x1 : Vec Ideal S4x2048 .f32) (x2 : Vec Ideal S4x2048x5648 .f32)

theorem norm_at (i : Fin 8192) (k : Fin 2048) :
    val_main_v15 (F := Ideal) x0 x1 (ix2 i k) = Norm.rms (Norm.row x0 i) (fun j => x1 (ix2 3 j)) k := by
  unfold Norm.rms Norm.row
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem proj_at (i : Fin 8192) (n : Fin 5648) : val_main_v18 (F := Ideal) x0 x1 x2 (ix2 i n) = P x0 x1 x2 i n := by
  have h : P x0 x1 x2 i n = ∑ j : Fin 2048, val_main_v15 (F := Ideal) x0 x1 (ix2 i j) * x2 (ix3 3 j n) := by
    simp only [norm_at]
    rfl
  rw [h]
  pointwise [val_main_v18, val_main_v17, val_main_v16]

theorem q_at (i : Fin 8192) (k : Fin 1024) : val_main_v28 (F := Ideal) x0 x1 x2 (ix2 i k) = gq x0 x1 x2 i k := by
  rw [gq, ← proj_at]
  pointwise [val_main_v28, val_main_v27, val_main_v26, val_main_v23, val_main_cst_2]

theorem k_at (b : Fin 4) (t : Fin 2048) (h : Fin 16) (d : Fin 64) : val_main_v29 (F := Ideal) x0 x1 x2 (ix4 b t h d) = gk x0 x1 x2 b t h d := by
  rw [gk, ← proj_at]
  pointwise [val_main_v29, val_main_v24]

theorem v_at (b : Fin 4) (t : Fin 2048) (h : Fin 16) (d : Fin 64) : val_main_v30 (F := Ideal) x0 x1 x2 (ix4 b t h d) = gv x0 x1 x2 b t h d := by
  rw [gv, ← proj_at]
  pointwise [val_main_v30, val_main_v25]

theorem ks_at (b s : Fin 4) (n : Fin 1024) (r : Fin 512) : val_main_v33 (F := Ideal) x0 x1 x2 (ix4 b s n r) = gks x0 x1 x2 b s n r := by
  rw [gks, ← proj_at]
  pointwise [val_main_v33, val_main_v32, val_main_v31, val_main_v24]

theorem vs_at (b s : Fin 4) (n : Fin 1024) (r : Fin 512) : val_main_v36 (F := Ideal) x0 x1 x2 (ix4 b s n r) = gvs x0 x1 x2 b s n r := by
  rw [gvs, ← proj_at]
  pointwise [val_main_v36, val_main_v35, val_main_v34, val_main_v25]

theorem z_at (i : Fin 8192) (k : Fin 1024) : val_main_v19 (F := Ideal) x0 x1 x2 (ix2 i k) = gz x0 x1 x2 i k := by
  rw [gz, ← proj_at]
  pointwise [val_main_v19]

theorem x_at (i : Fin 8192) (k : Fin 1024) : val_main_v20 (F := Ideal) x0 x1 x2 (ix2 i k) = gx x0 x1 x2 i k := by
  rw [gx, ← proj_at]
  pointwise [val_main_v20]

theorem bc_at (i : Fin 8192) (k : Fin 512) : val_main_v21 (F := Ideal) x0 x1 x2 (ix2 i k) = gbc x0 x1 x2 i k := by
  rw [gbc, ← proj_at]
  pointwise [val_main_v21]

theorem dt_at (i : Fin 8192) (k : Fin 128) : val_main_v37 (F := Ideal) x0 x1 x2 (ix2 i k) = gdt x0 x1 x2 i k := by
  unfold gdt
  simp only [← proj_at]
  rw [← zero_int]
  pointwise [val_main_v37, val_main_v22, val_main_call0_v0, val_main_c]

end Cert.Proj.Ref

end
-- ==== Proof.Proj.lean ====
module

public import proofs.«01_k».proof.Proof.ProjVals

@[expose] public section

set_option maxRecDepth 16384

noncomputable section

/-! The input projection's claims: the nine result arrays after the kernel's run are the functions of the arguments that the
    reference's run leaves. -/

namespace Cert.Proj

open Cert.Kernel5Ideal Cert.Kernel5Ideal.Gen Cert.Kernel5Ideal.Facts Idealize.ShloMosaic Idealize.ShloMosaic.TcCoe Idealize.SL.Sem

/-! ## The blocks a grid point works on -/

theorem idx0 : ∀ t : Fin cfg0.N, win0_0.index t = ![t.val / 5, 0] := (by decide +kernel : ∀ t : Fin grid0.N, _)
theorem idx1 : ∀ t : Fin cfg0.N, win0_1.index t = ![3, 0, 0] := (by decide +kernel : ∀ t : Fin grid0.N, _)
theorem idx2 : ∀ t : Fin cfg0.N, win0_2.index t = ![3, 0, t.val % 5] := (by decide +kernel : ∀ t : Fin grid0.N, _)
theorem idx3 : ∀ t : Fin cfg0.N, win0_3.index t = ![3, 0, 0] := (by decide +kernel : ∀ t : Fin grid0.N, _)
theorem idx4 : ∀ t : Fin cfg0.N, win0_4.index t = ![t.val / 5, 0] := (by decide +kernel : ∀ t : Fin grid0.N, _)
theorem idx5 : ∀ t : Fin cfg0.N, win0_5.index t = ![t.val / 20, 0, t.val / 5 % 4] := (by decide +kernel : ∀ t : Fin grid0.N, _)
theorem idx6 : ∀ t : Fin cfg0.N, win0_6.index t = ![t.val / 20, 0, t.val / 5 % 4] := (by decide +kernel : ∀ t : Fin grid0.N, _)
theorem idx7 : ∀ t : Fin cfg0.N, win0_7.index t = ![t.val / 20, t.val / 5 % 4, 0, 0] := (by decide +kernel : ∀ t : Fin grid0.N, _)
theorem idx8 : ∀ t : Fin cfg0.N, win0_8.index t = ![t.val / 20, t.val / 5 % 4, 0, 0] := (by decide +kernel : ∀ t : Fin grid0.N, _)
theorem idx9 : ∀ t : Fin cfg0.N, win0_9.index t = ![t.val / 5, 0] := (by decide +kernel : ∀ t : Fin grid0.N, _)
theorem idx10 : ∀ t : Fin cfg0.N, win0_10.index t = ![t.val / 5, 0] := (by decide +kernel : ∀ t : Fin grid0.N, _)
theorem idx11 : ∀ t : Fin cfg0.N, win0_11.index t = ![t.val / 5, 0] := (by decide +kernel : ∀ t : Fin grid0.N, _)
theorem idx12 : ∀ t : Fin cfg0.N, win0_12.index t = ![t.val / 5, 0] := (by decide +kernel : ∀ t : Fin grid0.N, _)

theorem lt80 (t : Fin cfg0.N) : t.val < 80 := lt_of_lt_of_eq t.isLt N_0

/-- The token of a row of a row block. -/
def tok (b : Fin 16) (r : Fin 512) : Fin 8192 := ⟨512 * b.val + r.val, by omega⟩

/-- The column of the argument's weights that a column of one of the five wide column blocks is. -/
def col (s : Fin 5) (k : Fin 1024) : Fin 5648 :=
  ⟨if 1024 * s.val + k.val < 3072 then 2576 + (1024 * s.val + k.val) else 1024 * s.val + k.val - 3072, by split <;> omega⟩

theorem col_of (s : Fin 5) (k : Fin 1024) (n : Fin 5648) (h : (s.val < 3 ∧ n.val = 2576 + (1024 * s.val + k.val))
    ∨ (3 ≤ s.val ∧ n.val + 3072 = 1024 * s.val + k.val)) : col s k = n := by
  refine Fin.ext ?_
  show (if 1024 * s.val + k.val < 3072 then 2576 + (1024 * s.val + k.val) else 1024 * s.val + k.val - 3072) = n.val
  split <;> omega

theorem pt_row (b : Fin 16) (s : Fin 5) : (pt b.val s.val).val / 5 = b.val := by
  show (5 * b.val + s.val) % 80 / 5 = b.val
  omega

theorem pt_row0 (b : Fin 16) : (pt b.val 0).val / 5 = b.val := pt_row b 0

theorem pt_col (b : Fin 16) (s : Fin 5) : (pt b.val s.val).val % 5 = s.val := by
  show (5 * b.val + s.val) % 80 % 5 = s.val
  omega

/-- The row block of a point. -/
def blkOf (t : Fin cfg0.N) : Fin 16 := ⟨t.val / 5, by have := lt80 t; omega⟩

section
variable (m : (ℓ : Loc nD τ sig) → Buf (Elt Ideal) ℓ) (c : Dev nD)

theorem blk0 (t : Fin cfg0.N) (b : Fin 16) (h : t.val / 5 = b.val) (r : Fin 512) (k : Fin 2048) :
    (iblk m c 0 t : Vec Ideal S512x2048 .f32) (ix2 r k) = Norm.row (A0 m c) (tok b r) k := by
  have e : ((win0_0.blk t).view.emb (ix2 r k) : S8192x2048.Idx) = ix2 (tok b r) k := by
    unfold tok
    blk_ext [idx0]
  blk_simp [iblk]
  exact (congrArg (V m c main_v8 : Vec Ideal S8192x2048 .f32) e).trans (V_x m c _ _)

theorem blk1 (t : Fin cfg0.N) (k : Fin 2048) : (iblk m c 1 t : Vec Ideal S1x1x2048 .f32) (ix3 0 0 k) = A1 m c (ix2 3 k) := by
  have e : ((win0_1.blk t).view.emb (ix3 0 0 k) : S4x1x2048.Idx) = ix3 3 0 k := by
    blk_ext [idx1]
  blk_simp [iblk]
  exact (congrArg (V m c main_v9 : Vec Ideal S4x1x2048 .f32) e).trans (V_g m c _ _)

theorem blk2 (t : Fin cfg0.N) (s : Fin 5) (h : t.val % 5 = s.val) (j : Fin 2048) (k : Fin 1024) :
    (iblk m c 2 t : Vec Ideal S1x2048x1024 .bf16) (ix3 0 j k) = A2 m c (ix3 3 j (col s k)) := by
  have e : ((win0_2.blk t).view.emb (ix3 0 j k) : S4x2048x5120.Idx) = ix3 3 j ⟨1024 * s.val + k.val, by omega⟩ := by
    blk_ext [idx2]
  blk_simp [iblk]
  exact (congrArg (V m c main_v4 : Vec Ideal S4x2048x5120 .bf16) e).trans (V_w m c _ _ _)

theorem blk3 (t : Fin cfg0.N) (j : Fin 2048) (n : Fin 640) : (iblk m c 3 t : Vec Ideal S1x2048x640 .bf16) (ix3 0 j n)
    = if h : n.val < 528 then A2 m c (ix3 3 j ⟨2048 + n.val, by omega⟩) else (0 : EReal) := by
  have e : ((win0_3.blk t).view.emb (ix3 0 j n) : S4x2048x640.Idx) = ix3 3 j n := by
    blk_ext [idx3]
  blk_simp [iblk]
  exact (congrArg (V m c main_v7 : Vec Ideal S4x2048x640 .bf16) e).trans (V_e m c _ _ _)

theorem rows_at (b : Fin 16) (r : Fin 512) (k : Fin 2048) :
    rows m c b.val (ix2 r k) = Norm.rms (Norm.row (A0 m c) (tok b r)) (fun j => A1 m c (ix2 3 j)) k := by
  unfold rows
  rw [pay5_apply]
  simp only [blk0 m c _ b (pt_row0 b), blk1]

/-- One column block's product. -/
theorem prod_at (b : Fin 16) (s : Fin 5) (r : Fin 512) (k : Fin 1024) :
    ∑ j : Fin 2048, rows m c b.val (ix2 r j) * (iblk m c 2 (pt b.val s.val) : Vec Ideal S1x2048x1024 .bf16) (ix3 0 j k)
      = P (A0 m c) (A1 m c) (A2 m c) (tok b r) (col s k) := by
  simp only [rows_at, blk2 m c _ s (pt_col b s)]
  rfl

theorem fin4_at (b : Fin 16) (r : Fin 512) (k : Fin 1024) : fin4 m c b.val (ix2 r k) = gq (A0 m c) (A1 m c) (A2 m c) (tok b r) k := by
  have hc : col 0 k = ⟨2576 + k.val, by omega⟩ := col_of 0 k _ (.inl ⟨by decide, by show 2576 + k.val = 2576 + (1024 * 0 + k.val); omega⟩)
  unfold fin4 gq
  rw [pay10_apply, ← hc, ← prod_at m c b 0 r k]
  rfl

theorem fin5_at (b : Fin 16) (k : Fin 1024) (r : Fin 512) :
    fin5 m c b.val (ix3 0 k r) = P (A0 m c) (A1 m c) (A2 m c) (tok b r) ⟨3600 + k.val, by omega⟩ := by
  have hc : col 1 k = ⟨3600 + k.val, by omega⟩ := col_of 1 k _ (.inl ⟨by decide, by show 3600 + k.val = 2576 + (1024 * 1 + k.val); omega⟩)
  unfold fin5
  rw [pay12_apply, ← hc, ← prod_at m c b 1 r k]
  rfl

theorem fin6_at (b : Fin 16) (k : Fin 1024) (r : Fin 512) :
    fin6 m c b.val (ix3 0 k r) = P (A0 m c) (A1 m c) (A2 m c) (tok b r) ⟨4624 + k.val, by omega⟩ := by
  have hc : col 2 k = ⟨4624 + k.val, by omega⟩ := col_of 2 k _ (.inl ⟨by decide, by show 4624 + k.val = 2576 + (1024 * 2 + k.val); omega⟩)
  unfold fin6
  rw [pay2_apply, pay9_apply, ← hc, ← prod_at m c b 2 r k]
  rfl

theorem fin7_at (b : Fin 16) (k : Fin 1024) (r : Fin 512) :
    fin7 m c b.val (ix4 0 0 k r) = P (A0 m c) (A1 m c) (A2 m c) (tok b r) ⟨3600 + k.val, by omega⟩ := by
  have hc : col 1 k = ⟨3600 + k.val, by omega⟩ := col_of 1 k _ (.inl ⟨by decide, by show 3600 + k.val = 2576 + (1024 * 1 + k.val); omega⟩)
  unfold fin7
  rw [pay13_apply, ← hc, ← prod_at m c b 1 r k]
  rfl

theorem fin8_at (b : Fin 16) (k : Fin 1024) (r : Fin 512) :
    fin8 m c b.val (ix4 0 0 k r) = P (A0 m c) (A1 m c) (A2 m c) (tok b r) ⟨4624 + k.val, by omega⟩ := by
  have hc : col 2 k = ⟨4624 + k.val, by omega⟩ := col_of 2 k _ (.inl ⟨by decide, by show 4624 + k.val = 2576 + (1024 * 2 + k.val); omega⟩)
  unfold fin8
  rw [pay3_apply, pay9_apply, ← hc, ← prod_at m c b 2 r k]
  rfl

theorem fin9_at (b : Fin 16) (r : Fin 512) (k : Fin 1024) : fin9 m c b.val (ix2 r k) = gz (A0 m c) (A1 m c) (A2 m c) (tok b r) k := by
  have hc : col 3 k = ⟨k.val, by omega⟩ := col_of 3 k _ (.inr ⟨by decide, by show k.val + 3072 = 1024 * 3 + k.val; omega⟩)
  unfold fin9 gz
  rw [pay9_apply, ← hc, ← prod_at m c b 3 r k]
  rfl

theorem fin10_at (b : Fin 16) (r : Fin 512) (k : Fin 1024) : fin10 m c b.val (ix2 r k) = gx (A0 m c) (A1 m c) (A2 m c) (tok b r) k := by
  have hc : col 4 k = ⟨1024 + k.val, by omega⟩ := col_of 4 k _ (.inr ⟨by decide, by show 1024 + k.val + 3072 = 1024 * 4 + k.val; omega⟩)
  unfold fin10 gx
  rw [pay9_apply, ← hc, ← prod_at m c b 4 r k]
  rfl

theorem fin11_at (b : Fin 16) (r k : Fin 512) : fin11 m c b.val (ix2 r k) = gbc (A0 m c) (A1 m c) (A2 m c) (tok b r) k := by
  unfold fin11 gbc P
  rw [pay7_apply]
  simp only [blk0 m c _ b (pt_row0 b), blk1, blk3]
  refine Finset.sum_congr rfl fun j _ => ?_
  rw [dif_pos (show k.val < 528 by omega)]

theorem fin12_at (b : Fin 16) (r : Fin 512) (k : Fin 128) : fin12 m c b.val (ix2 r k) = gdt (A0 m c) (A1 m c) (A2 m c) (tok b r) k := by
  unfold fin12 gdt P
  rw [pay8_apply]
  simp only [blk0 m c _ b (pt_row0 b), blk1, blk3]
  by_cases h : k.val < 16
  · rw [dif_pos h]
    refine Finset.sum_congr rfl fun j _ => ?_
    rw [dif_pos (show 512 + k.val < 528 by omega)]
    exact congrArg (fun q => _ * A2 m c (ix3 3 j q)) (Fin.ext (by show 2048 + (512 + k.val) = 2560 + k.val; omega))
  · rw [dif_neg h]
    refine Finset.sum_eq_zero fun j _ => ?_
    rw [dif_neg (show ¬ 512 + k.val < 528 by omega), mul_zero]

/-! ## The result arrays -/

theorem final4 : (dats m 0 c).arrAt 4 cfg0.N = arr2 (gq (A0 m c) (A1 m c) (A2 m c)) := by
  refine (dats m 0 c).arrAt_eq_of_covers 4 _ (by decide +kernel) fun t hf y => ?_
  blk_simp
  rw [after_4]
  have ht := lt80 t
  have e : ((win0_4.blk t).view.emb y : S8192x1024.Idx) = ix2 (tok (blkOf t) (y 0)) (y 1) := by
    unfold tok blkOf
    blk_ext [idx4]
  refine ((congrArg (fin4 m c (t.val / 5)) (ix2_self y)).trans (fin4_at m c (blkOf t) (y 0) (y 1))).trans ?_
  exact (congrArg (arr2 (gq (A0 m c) (A1 m c) (A2 m c))) e).symm

theorem final9 : (dats m 0 c).arrAt 9 cfg0.N = arr2 (gz (A0 m c) (A1 m c) (A2 m c)) := by
  refine (dats m 0 c).arrAt_eq_of_covers 9 _ (by decide +kernel) fun t hf y => ?_
  blk_simp
  rw [after_9]
  have ht := lt80 t
  have e : ((win0_9.blk t).view.emb y : S8192x1024.Idx) = ix2 (tok (blkOf t) (y 0)) (y 1) := by
    unfold tok blkOf
    blk_ext [idx9]
  refine ((congrArg (fin9 m c (t.val / 5)) (ix2_self y)).trans (fin9_at m c (blkOf t) (y 0) (y 1))).trans ?_
  exact (congrArg (arr2 (gz (A0 m c) (A1 m c) (A2 m c))) e).symm

theorem final10 : (dats m 0 c).arrAt 10 cfg0.N = arr2 (gx (A0 m c) (A1 m c) (A2 m c)) := by
  refine (dats m 0 c).arrAt_eq_of_covers 10 _ (by decide +kernel) fun t hf y => ?_
  blk_simp
  rw [after_10]
  have ht := lt80 t
  have e : ((win0_10.blk t).view.emb y : S8192x1024.Idx) = ix2 (tok (blkOf t) (y 0)) (y 1) := by
    unfold tok blkOf
    blk_ext [idx10]
  refine ((congrArg (fin10 m c (t.val / 5)) (ix2_self y)).trans (fin10_at m c (blkOf t) (y 0) (y 1))).trans ?_
  exact (congrArg (arr2 (gx (A0 m c) (A1 m c) (A2 m c))) e).symm

theorem final11 : (dats m 0 c).arrAt 11 cfg0.N = arr2 (gbc (A0 m c) (A1 m c) (A2 m c)) := by
  refine (dats m 0 c).arrAt_eq_of_covers 11 _ (by decide +kernel) fun t hf y => ?_
  blk_simp
  rw [after_11]
  have ht := lt80 t
  have e : ((win0_11.blk t).view.emb y : S8192x512.Idx) = ix2 (tok (blkOf t) (y 0)) (y 1) := by
    unfold tok blkOf
    blk_ext [idx11]
  refine ((congrArg (fin11 m c (t.val / 5)) (ix2_self y)).trans (fin11_at m c (blkOf t) (y 0) (y 1))).trans ?_
  exact (congrArg (arr2 (gbc (A0 m c) (A1 m c) (A2 m c))) e).symm

theorem final12 : (dats m 0 c).arrAt 12 cfg0.N = arr2 (gdt (A0 m c) (A1 m c) (A2 m c)) := by
  refine (dats m 0 c).arrAt_eq_of_covers 12 _ (by decide +kernel) fun t hf y => ?_
  blk_simp
  rw [after_12]
  have ht := lt80 t
  have e : ((win0_12.blk t).view.emb y : S8192x128.Idx) = ix2 (tok (blkOf t) (y 0)) (y 1) := by
    unfold tok blkOf
    blk_ext [idx12]
  refine ((congrArg (fin12 m c (t.val / 5)) (ix2_self y)).trans (fin12_at m c (blkOf t) (y 0) (y 1))).trans ?_
  exact (congrArg (arr2 (gdt (A0 m c) (A1 m c) (A2 m c))) e).symm

/-- The keys and the values by sequence, column and token. -/
def gkt (a0 : Vec Ideal S4x2048x2048 .f32) (a1 : Vec Ideal S4x2048 .f32) (a2 : Vec Ideal S4x2048x5648 .f32) (b : Fin 4) (n : Fin 1024) (t : Fin 2048) : EReal :=
  P a0 a1 a2 ⟨b.val * 2048 + t.val, by omega⟩ ⟨3600 + n.val, by omega⟩
def gvt (a0 : Vec Ideal S4x2048x2048 .f32) (a1 : Vec Ideal S4x2048 .f32) (a2 : Vec Ideal S4x2048x5648 .f32) (b : Fin 4) (n : Fin 1024) (t : Fin 2048) : EReal :=
  P a0 a1 a2 ⟨b.val * 2048 + t.val, by omega⟩ ⟨4624 + n.val, by omega⟩

theorem one3 {b d : ℕ} (y : (⟨3, ![1, b, d]⟩ : Shape).Idx) : y = ix3 (n0 := 1) (n1 := b) (n2 := d) 0 (y 1) (y 2) :=
  (ix3_self y).trans (congrArg (fun z => ix3 z (y 1) (y 2)) (Subsingleton.elim (α := Fin 1) _ _))
theorem one4 {b d : ℕ} (y : (⟨4, ![1, 1, b, d]⟩ : Shape).Idx) : y = ix4 (n0 := 1) (n1 := 1) (n2 := b) (n3 := d) 0 0 (y 2) (y 3) :=
  (ix4_self y).trans (congrArg₂ (fun z w => ix4 z w (y 2) (y 3)) (Subsingleton.elim (α := Fin 1) _ _) (Subsingleton.elim (α := Fin 1) _ _))

theorem final5 : (dats m 0 c).arrAt 5 cfg0.N = arr3 (gkt (A0 m c) (A1 m c) (A2 m c)) := by
  refine (dats m 0 c).arrAt_eq_of_covers 5 _ (by decide +kernel) fun t hf y => ?_
  blk_simp
  rw [after_5]
  have ht := lt80 t
  have hr : (y 2).val < 512 := (y 2).isLt
  have e : ((win0_5.blk t).view.emb (ix3 0 (y 1) (y 2)) : S4x1024x2048.Idx)
      = ix3 ⟨t.val / 20, by omega⟩ (y 1) ⟨512 * (t.val / 5 % 4) + (y 2).val, by omega⟩ := by
    blk_ext [idx5]
  have hi : tok (blkOf t) (y 2) = ⟨t.val / 20 * 2048 + (512 * (t.val / 5 % 4) + (y 2).val), by omega⟩ :=
    Fin.ext (by simp only [tok, blkOf]; omega)
  refine ((congrArg (fin5 m c (t.val / 5)) (one3 y)).trans (fin5_at m c (blkOf t) (y 1) (y 2))).trans ?_
  rw [hi]
  exact ((congrArg (fun z => arr3 (gkt (A0 m c) (A1 m c) (A2 m c)) ((win0_5.blk t).view.emb z)) (one3 y)).trans
    (congrArg (arr3 (gkt (A0 m c) (A1 m c) (A2 m c))) e)).symm

theorem final6 : (dats m 0 c).arrAt 6 cfg0.N = arr3 (gvt (A0 m c) (A1 m c) (A2 m c)) := by
  refine (dats m 0 c).arrAt_eq_of_covers 6 _ (by decide +kernel) fun t hf y => ?_
  blk_simp
  rw [after_6]
  have ht := lt80 t
  have hr : (y 2).val < 512 := (y 2).isLt
  have e : ((win0_6.blk t).view.emb (ix3 0 (y 1) (y 2)) : S4x1024x2048.Idx)
      = ix3 ⟨t.val / 20, by omega⟩ (y 1) ⟨512 * (t.val / 5 % 4) + (y 2).val, by omega⟩ := by
    blk_ext [idx6]
  have hi : tok (blkOf t) (y 2) = ⟨t.val / 20 * 2048 + (512 * (t.val / 5 % 4) + (y 2).val), by omega⟩ :=
    Fin.ext (by simp only [tok, blkOf]; omega)
  refine ((congrArg (fin6 m c (t.val / 5)) (one3 y)).trans (fin6_at m c (blkOf t) (y 1) (y 2))).trans ?_
  rw [hi]
  exact ((congrArg (fun z => arr3 (gvt (A0 m c) (A1 m c) (A2 m c)) ((win0_6.blk t).view.emb z)) (one3 y)).trans
    (congrArg (arr3 (gvt (A0 m c) (A1 m c) (A2 m c))) e)).symm

theorem final7 : (dats m 0 c).arrAt 7 cfg0.N = arr4 (gks (A0 m c) (A1 m c) (A2 m c)) := by
  refine (dats m 0 c).arrAt_eq_of_covers 7 _ (by decide +kernel) fun t hf y => ?_
  blk_simp
  rw [after_7]
  have ht := lt80 t
  have hr : (y 3).val < 512 := (y 3).isLt
  have e : ((win0_7.blk t).view.emb (ix4 0 0 (y 2) (y 3)) : S4x4x1024x512.Idx)
      = ix4 ⟨t.val / 20, by omega⟩ ⟨t.val / 5 % 4, by omega⟩ (y 2) (y 3) := by
    blk_ext [idx7]
  have hi : tok (blkOf t) (y 3) = ⟨t.val / 20 * 2048 + t.val / 5 % 4 * 512 + (y 3).val, by omega⟩ :=
    Fin.ext (by simp only [tok, blkOf]; omega)
  refine ((congrArg (fin7 m c (t.val / 5)) (one4 y)).trans (fin7_at m c (blkOf t) (y 2) (y 3))).trans ?_
  rw [hi]
  exact ((congrArg (fun z => arr4 (gks (A0 m c) (A1 m c) (A2 m c)) ((win0_7.blk t).view.emb z)) (one4 y)).trans
    (congrArg (arr4 (gks (A0 m c) (A1 m c) (A2 m c))) e)).symm

theorem final8 : (dats m 0 c).arrAt 8 cfg0.N = arr4 (gvs (A0 m c) (A1 m c) (A2 m c)) := by
  refine (dats m 0 c).arrAt_eq_of_covers 8 _ (by decide +kernel) fun t hf y => ?_
  blk_simp
  rw [after_8]
  have ht := lt80 t
  have hr : (y 3).val < 512 := (y 3).isLt
  have e : ((win0_8.blk t).view.emb (ix4 0 0 (y 2) (y 3)) : S4x4x1024x512.Idx)
      = ix4 ⟨t.val / 20, by omega⟩ ⟨t.val / 5 % 4, by omega⟩ (y 2) (y 3) := by
    blk_ext [idx8]
  have hi : tok (blkOf t) (y 3) = ⟨t.val / 20 * 2048 + t.val / 5 % 4 * 512 + (y 3).val, by omega⟩ :=
    Fin.ext (by simp only [tok, blkOf]; omega)
  refine ((congrArg (fin8 m c (t.val / 5)) (one4 y)).trans (fin8_at m c (blkOf t) (y 2) (y 3))).trans ?_
  rw [hi]
  exact ((congrArg (fun z => arr4 (gvs (A0 m c) (A1 m c) (A2 m c)) ((win0_8.blk t).view.emb z)) (one4 y)).trans
    (congrArg (arr4 (gvs (A0 m c) (A1 m c) (A2 m c))) e)).symm

theorem tail12 : (Pipeline.afterTail₀ cfgs (dats m) 0 (V0 m) [hostOps1] c main_v12 : Vec Ideal S4x2048x16x64 .f32)
    = arr4 (gk (A0 m c) (A1 m c) (A2 m c)) := by
  have e : (Pipeline.withArrays spec0 c (V0 m c) (fun w => (dats m 0 c).arrAt w cfg0.N) (Proc.devRef .tc main_v10_1) : Vec Ideal S4x1024x2048 .f32)
      = arr3 (gkt (A0 m c) (A1 m c) (A2 m c)) := (Pipeline.withArrays_arr spec0 (by decide) c _ _ 5).trans (final5 m c)
  refine eq_arr4 _ _ fun b t h d => ?_
  unfold Pipeline.afterTail₀
  dsimp only [hostOps1, List.flatten_cons, List.flatten_nil, List.append_nil, List.cons_append, List.nil_append]
  after_results
  refine (congrArg (fun u : Vec Ideal S4x1024x2048 .f32 => transpose S4x2048x16x64 [0, 3, 1, 2]
    (shapeCast S4x16x64x2048 u shapeCasts_S4x1024x2048_S4x16x64x2048 : Vec Ideal S4x16x64x2048 .f32) transposes_S4x16x64x2048_S4x2048x16x64_0_3_1_2 (ix4 b t h d)) e).trans ?_
  pointwise [arr3, gk, gkt]

theorem tail14 : (Pipeline.afterTail₀ cfgs (dats m) 0 (V0 m) [hostOps1] c main_v14 : Vec Ideal S4x2048x16x64 .f32)
    = arr4 (gv (A0 m c) (A1 m c) (A2 m c)) := by
  have e : (Pipeline.withArrays spec0 c (V0 m c) (fun w => (dats m 0 c).arrAt w cfg0.N) (Proc.devRef .tc main_v10_2) : Vec Ideal S4x1024x2048 .f32)
      = arr3 (gvt (A0 m c) (A1 m c) (A2 m c)) := (Pipeline.withArrays_arr spec0 (by decide) c _ _ 6).trans (final6 m c)
  refine eq_arr4 _ _ fun b t h d => ?_
  unfold Pipeline.afterTail₀
  dsimp only [hostOps1, List.flatten_cons, List.flatten_nil, List.append_nil, List.cons_append, List.nil_append]
  after_results
  refine (congrArg (fun u : Vec Ideal S4x1024x2048 .f32 => transpose S4x2048x16x64 [0, 3, 1, 2]
    (shapeCast S4x16x64x2048 u shapeCasts_S4x1024x2048_S4x16x64x2048 : Vec Ideal S4x16x64x2048 .f32) transposes_S4x16x64x2048_S4x2048x16x64_0_3_1_2 (ix4 b t h d)) e).trans ?_
  pointwise [arr3, gv, gvt]

end

/-! ## The claims -/

/-- The kernel's run, each result named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10_0) = arr2 (gq (A0 m c) (A1 m c) (A2 m c))
      ∧ r.2.mem ((c.tc : Thread nD τ).loc main_v12) = arr4 (gk (A0 m c) (A1 m c) (A2 m c))
      ∧ r.2.mem ((c.tc : Thread nD τ).loc main_v14) = arr4 (gv (A0 m c) (A1 m c) (A2 m c))
      ∧ r.2.mem ((c.tc : Thread nD τ).loc main_v10_3) = arr4 (gks (A0 m c) (A1 m c) (A2 m c))
      ∧ r.2.mem ((c.tc : Thread nD τ).loc main_v10_4) = arr4 (gvs (A0 m c) (A1 m c) (A2 m c))
      ∧ r.2.mem ((c.tc : Thread nD τ).loc main_v10_5) = arr2 (gz (A0 m c) (A1 m c) (A2 m c))
      ∧ r.2.mem ((c.tc : Thread nD τ).loc main_v10_6) = arr2 (gx (A0 m c) (A1 m c) (A2 m c))
      ∧ r.2.mem ((c.tc : Thread nD τ).loc main_v10_7) = arr2 (gbc (A0 m c) (A1 m c) (A2 m c))
      ∧ r.2.mem ((c.tc : Thread nD τ).loc main_v10_8) = arr2 (gdt (A0 m c) (A1 m c) (A2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (run_main m ρ) (frame m ρ)) fun r h c =>
    ⟨((h.1 c).1 4).trans (final4 m c),
     ((h.1 c).2 main_v12 (Pipeline.mem_restRefs_of main_v12 (by decide) (by decide))).trans (tail12 m c),
     ((h.1 c).2 main_v14 (Pipeline.mem_restRefs_of main_v14 (by decide) (by decide))).trans (tail14 m c),
     ((h.1 c).1 7).trans (final7 m c), ((h.1 c).1 8).trans (final8 m c), ((h.1 c).1 9).trans (final9 m c),
     ((h.1 c).1 10).trans (final10 m c), ((h.1 c).1 11).trans (final11 m c), ((h.1 c).1 12).trans (final12 m c), h.2.1 c⟩

theorem ref_frame : Cert.quiescent_Reference5Ideal (hReference5Ideal := Cert.Reference5Ideal.Gen.facts) := fun m ρ _ =>
  θ_run_mono (Cert.Reference5Ideal.Value.run (F := Ideal) m ρ) fun r h =>
    ⟨fun c => (h c).2.2.2.2.2.2.2.2.2, sem_eq_zero_of_no_sems (by decide) r.2⟩

theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => arr2 (gq (A0 m c) (A1 m c) (A2 m c)), fun c => arr4 (gk (A0 m c) (A1 m c) (A2 m c)),
    fun c => arr4 (gv (A0 m c) (A1 m c) (A2 m c)), fun c => arr4 (gks (A0 m c) (A1 m c) (A2 m c)),
    fun c => arr4 (gvs (A0 m c) (A1 m c) (A2 m c)), fun c => arr2 (gz (A0 m c) (A1 m c) (A2 m c)),
    fun c => arr2 (gx (A0 m c) (A1 m c) (A2 m c)), fun c => arr2 (gbc (A0 m c) (A1 m c) (A2 m c)),
    fun c => arr2 (gdt (A0 m c) (A1 m c) (A2 m c)), run_results m g, ?_⟩
  refine θ_run_mono (Cert.Reference5Ideal.Value.run (F := Ideal) m' g') fun r h c => ?_
  obtain ⟨e0, e1, e2⟩ := hargs c
  obtain ⟨h0, h1, h2, h3, h4, h5, h6, h7, h8, h9⟩ := h c
  refine ⟨h0.trans ?_, h1.trans ?_, h2.trans ?_, h3.trans ?_, h4.trans ?_, h5.trans ?_, h6.trans ?_, h7.trans ?_, h8.trans ?_, h9⟩
  · rw [Cert.Reference5Ideal.Read.val_main_v28_eq, e0, e1, e2]
    exact eq_arr2 _ _ (Ref.q_at _ _ _)
  · rw [Cert.Reference5Ideal.Read.val_main_v29_eq, e0, e1, e2]
    exact eq_arr4 _ _ (Ref.k_at _ _ _)
  · rw [Cert.Reference5Ideal.Read.val_main_v30_eq, e0, e1, e2]
    exact eq_arr4 _ _ (Ref.v_at _ _ _)
  · rw [Cert.Reference5Ideal.Read.val_main_v33_eq, e0, e1, e2]
    exact eq_arr4 _ _ (Ref.ks_at _ _ _)
  · rw [Cert.Reference5Ideal.Read.val_main_v36_eq, e0, e1, e2]
    exact eq_arr4 _ _ (Ref.vs_at _ _ _)
  · rw [Cert.Reference5Ideal.Read.val_main_v19_eq, e0, e1, e2]
    exact eq_arr2 _ _ (Ref.z_at _ _ _)
  · rw [Cert.Reference5Ideal.Read.val_main_v20_eq, e0, e1, e2]
    exact eq_arr2 _ _ (Ref.x_at _ _ _)
  · rw [Cert.Reference5Ideal.Read.val_main_v21_eq, e0, e1, e2]
    exact eq_arr2 _ _ (Ref.bc_at _ _ _)
  · rw [Cert.Reference5Ideal.Read.val_main_v37_eq, e0, e1, e2]
    exact eq_arr2 _ _ (Ref.dt_at _ _ _)

end Cert.Proj

end
-- ==== Proof.ProjBits.lean ====
module

public import proofs.«01_k».proof.Defs
public import proofs.«01_k».proof.Proof.ProjFrame
public import proofs.«01_k».proof.Proof.Gen.Kernel5

/-! The frame of the input projection's program as printed. Its idealized copy has the same text, so the run proved of that copy
    at any values is this program's run too. -/

@[expose] public section

set_option maxRecDepth 65536

noncomputable section

namespace Cert.Proj

open Idealize.ShloMosaic

/-- The two programs' tables of bodies are the same. -/
theorem same_table : HEq (@Cert.Kernel5.defs₀ Bits _ _) (@Cert.Kernel5Ideal.defs₀ Bits _ _) := by
  unfold Cert.Kernel5.defs₀ Cert.Kernel5Ideal.defs₀
  refine heq_of_eq (congrArg Defs.onTc ?_)
  funext l x
  match l with
  | 0 => rfl

theorem bits_frame : Cert.quiescent_Kernel5 (hKernel5 := Cert.Kernel5.Gen.facts) := fun m ρ _ => by
  have h := Cert.Proj.frame (F := Bits) m ρ
  unfold Cert.Kernel5Ideal.defs at h
  unfold Cert.Kernel5.defs
  rw [show Cert.Kernel5.defs₀ = Cert.Kernel5Ideal.defs₀ from eq_of_heq same_table]
  exact h

end Cert.Proj

end
-- ==== Proof.StepPay.lean ====
module

public import proofs.«01_k».proof.Proof.Gen.Kernel6Ideal.Skeleton
public import Idealize.ShloMosaic.Lib.Claim
public import Idealize.ShloMosaic.Lib.WordCmp
public import Idealize.ShloMosaic.Lib.Pointwise
public import Idealize.ShloMosaic.Lib.ValueIdx

@[expose] public section

set_option maxRecDepth 16384

noncomputable section

/-! One sample's step of the convolution and of the state: what the kernel computes from a row, at an index. -/

namespace Cert.Step

open Cert.Kernel6Ideal Cert.Kernel6Ideal.Gen Cert.Kernel6Ideal.Facts Idealize.ShloMosaic Idealize.ShloMosaic.TcCoe Idealize.ShloMosaic.WordCmp Idealize.SL.Sem

/-- A number times its logistic function. -/
def silu (x : EReal) : EReal := x * Ideal.logistic x

/-- The soft plus as the kernel computes it. -/
def soft (x : EReal) : EReal := max x 0 + Ideal.log (1 + Ideal.exp (0 - max x (-x)))

/-- Entry `k` of a row of 1024 numbers divided by its root mean square, times a gain. -/
def rms (x g : Fin 1024 → EReal) (k : Fin 1024) : EReal :=
  x k * Ideal.rsqrt (Ideal.div (∑ j : Fin 1024, x j * x j) (Ideal.ofBits .f32 0x44800000#32) + Ideal.ofBits .f32 0x358637BD#32) * g k

/-! ## The convolution -/

section
variable (v1 : Vec Ideal S1x1024 .f32) (v4 : Vec Ideal S1x512 .f32) (v7 : Vec Ideal S1x1x3x1536 .f32) (v9 v12 v17 v22 v26 : Vec Ideal S1x1536 .f32)

theorem new_apply (j : Fin 1536) :
    k0_pay2 v1 v4 (ix2 0 j) = if h : j.val < 1024 then v1 (ix2 0 ⟨j.val, h⟩) else v4 (ix2 0 ⟨j.val - 1024, by omega⟩) := by
  pointwise [k0_pay2]

theorem act_apply (j : Fin 1536) :
    k0_pay4 v1 v4 v7 v9 v12 v17 v22 v26 (ix2 0 j)
      = silu (v9 (ix2 0 j) + v7 (ix4 0 0 0 j) * v12 (ix2 0 j) + v7 (ix4 0 0 1 j) * v17 (ix2 0 j) + v7 (ix4 0 0 2 j) * v22 (ix2 0 j)
          + k0_pay2 v1 v4 (ix2 0 j) * v26 (ix2 0 j)) := by
  unfold silu
  pointwise [k0_pay4, k0_pay3]

theorem row0_apply (j : Fin 1536) : k0_pay5 v7 (ix3 0 0 j) = v7 (ix4 0 0 1 j) := by
  pointwise [k0_pay5, k0_pay3]

theorem row1_apply (j : Fin 1536) : k0_pay7 (k0_pay6 v7) (ix3 0 0 j) = v7 (ix4 0 0 2 j) := by
  pointwise [k0_pay7, k0_pay6, k0_pay3]

theorem row2_apply (v6 : FVec Ideal S1x1536 .f32) (j : Fin 1536) : k0_pay8 v6 (ix3 0 0 j) = v6 (ix2 0 j) := by
  pointwise [k0_pay8]

end

section
variable (v31 : FVec Ideal S1x1536 .f32)

theorem x_apply (k : Fin 1024) : k0_pay9 v31 (ix2 0 k) = v31 (ix2 0 ⟨k.val, by omega⟩) := by pointwise [k0_pay9]

theorem b0_apply (n : Fin 128) : k0_pay10 v31 (ix2 0 n) = v31 (ix2 0 ⟨1024 + n.val, by omega⟩) := by pointwise [k0_pay10]

theorem b1_apply (n : Fin 128) : k0_pay11 v31 (ix2 0 n) = v31 (ix2 0 ⟨1152 + n.val, by omega⟩) := by pointwise [k0_pay11]

theorem c0_apply (n : Fin 128) : k0_pay12 v31 (ix2 0 n) = v31 (ix2 0 ⟨1280 + n.val, by omega⟩) := by pointwise [k0_pay12]

theorem c1_apply (n : Fin 128) : k0_pay13 v31 (ix2 0 n) = v31 (ix2 0 ⟨1408 + n.val, by omega⟩) := by pointwise [k0_pay13]

end

/-! ## The time step and the decay -/

theorem head_of_lane : ∀ k : Fin 1024, k0_pay14 (ix2 0 k) = BitVec.ofNat 32 (k.val / 64) := by decide +kernel

theorem dt_apply (v78 v79 : Vec Ideal S1x128 .f32) (h : Fin 128) : k0_pay17 v78 v79 (ix2 0 h) = soft (v78 (ix2 0 h) + v79 (ix2 0 h)) := by
  unfold soft
  pointwise [k0_pay17]
  rfl

theorem dec_apply (v78 v79 v90 : Vec Ideal S1x128 .f32) (h : Fin 128) :
    k0_pay18 v78 v79 v90 (ix2 0 h) = Ideal.exp (k0_pay17 v78 v79 (ix2 0 h) * (0 - Ideal.exp (v90 (ix2 0 h)))) := by
  pointwise [k0_pay18]

/-- The sixteen selections by a lane's head, one after the other. -/
def pick (v : Fin 128 → EReal) (w : BitVec 32) : EReal :=
    Scalar.select (IntOp.cmpi .eq w 15#32) (v 15)
      (Scalar.select (IntOp.cmpi .eq w 14#32) (v 14)
      (Scalar.select (IntOp.cmpi .eq w 13#32) (v 13)
      (Scalar.select (IntOp.cmpi .eq w 12#32) (v 12)
      (Scalar.select (IntOp.cmpi .eq w 11#32) (v 11)
      (Scalar.select (IntOp.cmpi .eq w 10#32) (v 10)
      (Scalar.select (IntOp.cmpi .eq w 9#32) (v 9)
      (Scalar.select (IntOp.cmpi .eq w 8#32) (v 8)
      (Scalar.select (IntOp.cmpi .eq w 7#32) (v 7)
      (Scalar.select (IntOp.cmpi .eq w 6#32) (v 6)
      (Scalar.select (IntOp.cmpi .eq w 5#32) (v 5)
      (Scalar.select (IntOp.cmpi .eq w 4#32) (v 4)
      (Scalar.select (IntOp.cmpi .eq w 3#32) (v 3)
      (Scalar.select (IntOp.cmpi .eq w 2#32) (v 2)
      (Scalar.select (IntOp.cmpi .eq w 1#32) (v 1)
      (Scalar.select (IntOp.cmpi .eq w 0#32) (v 0) 0)))))))))))))))

theorem pick_eq (v : Fin 128 → EReal) (q : Fin 16) : pick v (BitVec.ofNat 32 q.val) = v ⟨q.val, by omega⟩ := by
  fin_cases q <;> rfl

theorem expand_dt (v78 v79 : Vec Ideal S1x128 .f32) (k : Fin 1024) :
    k0_pay23 k0_pay14 (k0_pay17 v78 v79) (k0_pay20 k0_pay14 (k0_pay17 v78 v79) (k0_pay19 k0_pay14 v78 v79) 5#32) (k0_pay21 k0_pay14)
      (k0_pay22 (k0_pay17 v78 v79)) (ix2 0 k) = k0_pay17 v78 v79 (ix2 0 ⟨k.val / 64, by omega⟩) := by
  pointwise [k0_pay23, k0_pay22, k0_pay21, k0_pay20, k0_pay19]
  rw [head_of_lane]
  exact pick_eq (fun j => k0_pay17 v78 v79 (ix2 0 j)) ⟨k.val / 64, by omega⟩

theorem expand_dec (v : FVec Ideal S1x128 .f32) (k : Fin 1024) :
    k0_pay28 k0_pay14 v (k0_pay25 k0_pay14 v (k0_pay24 k0_pay14 v)) (k0_pay26 k0_pay14) (k0_pay27 v) (ix2 0 k) = v (ix2 0 ⟨k.val / 64, by omega⟩) := by
  pointwise [k0_pay28, k0_pay27, k0_pay26, k0_pay25, k0_pay24]
  rw [head_of_lane]
  exact pick_eq (fun j => v (ix2 0 j)) ⟨k.val / 64, by omega⟩

end Cert.Step
end
-- ==== Proof.StepTile.lean ====
module

public import proofs.«01_k».proof.Proof.StepPay

@[expose] public section

set_option maxRecDepth 16384

noncomputable section

/-! One sample's step: the read-out of the state, and the new state. A number and the rest after its first part add up to the number:
    over the extended reals the rest of a finite number is zero. -/

namespace Cert.Step

open Cert.Kernel6Ideal Cert.Kernel6Ideal.Gen Cert.Kernel6Ideal.Facts Idealize.ShloMosaic Idealize.ShloMosaic.TcCoe Idealize.ShloMosaic.WordCmp Idealize.SL.Sem

theorem select_zero (a b : EReal) : Scalar.select 0#1 a b = b := rfl
theorem select_one (a b : EReal) : Scalar.select 1#1 a b = a := rfl

/-- A selection between the two halves of the lanes. -/
theorem half_select (k : Fin 1024) (a b : EReal) : Scalar.select (IntOp.cmpi .slt (BitVec.ofNat 32 k.val) 512#32) a b = if k.val < 512 then a else b := by
  have hk := k.isLt
  rw [show IntOp.cmpi .slt (BitVec.ofNat 32 k.val) 512#32 = BitVec.ofBool (decide (k.val < 512)) from cmpi_slt_ofNat (by omega) (by decide)]
  by_cases h : k.val < 512 <;> simp [h, Scalar.select]

theorem own_apply (x d : FVec Ideal S1x1024 .f32) (b0 b1 c0 c1 : FVec Ideal S1x128 .f32) (k : Fin 1024) :
    k0_pay30 x b0 b1 c0 c1 k0_pay15 d (ix2 0 k)
      = (if k.val < 512 then ∑ n : Fin 128, c0 (ix2 0 n) * b0 (ix2 0 n) else ∑ n : Fin 128, c1 (ix2 0 n) * b1 (ix2 0 n))
        * (x (ix2 0 k) * d (ix2 0 k)) := by
  pointwise [k0_pay30, k0_pay29, k0_pay15]
  rw [half_select]

theorem gate_apply (x dec w dsk z : Vec Ideal S1x1024 .f32) (st : Vec Ideal S1x1x1024x128 .f32) (c0 c1 : FVec Ideal S1x128 .f32)
    (hc0 : ∀ n, c0 (ix2 0 n) - c0 (ix2 0 n) = 0) (hc1 : ∀ n, c1 (ix2 0 n) - c1 (ix2 0 n) = 0)
    (hs : ∀ k n, st (ix4 0 0 k n) - st (ix4 0 0 k n) = 0) (k : Fin 1024) :
    k0_pay41 x k0_pay15 dec w (k0_pay32 st) (k0_pay33 st) (k0_pay36 c1) (k0_pay37 c1) (iota .tc S8x128 32 [0] iota_S8x128_d0_w32)
      (k0_pay38 c0) k0_pay39 (k0_pay40 c0) dsk z (ix2 0 k)
      = (w (ix2 0 k) + (∑ n : Fin 128, (if k.val < 512 then c0 (ix2 0 n) else c1 (ix2 0 n)) * st (ix4 0 0 k n)) * dec (ix2 0 k)
          + x (ix2 0 k) * dsk (ix2 0 k)) * silu (z (ix2 0 k)) := by
  unfold silu
  pointwise [k0_pay41, k0_pay15, k0_pay32, k0_pay33, k0_pay31, k0_pay36, k0_pay37, k0_pay35, k0_pay38, k0_pay34, k0_pay39, k0_pay40]
  have e : ∀ i j : Fin 4, IntOp.cmpi .eq (BitVec.ofNat 32 i.val) (BitVec.ofNat 32 j.val) = if i = j then 1#1 else 0#1 := by decide
  have e02 : IntOp.cmpi .eq 0#32 2#32 = 0#1 := e 0 2
  have e03 : IntOp.cmpi .eq 0#32 3#32 = 0#1 := e 0 3
  have e01 : IntOp.cmpi .eq 0#32 1#32 = 0#1 := e 0 1
  have e12 : IntOp.cmpi .eq 1#32 2#32 = 0#1 := e 1 2
  have e13 : IntOp.cmpi .eq 1#32 3#32 = 0#1 := e 1 3
  have e23 : IntOp.cmpi .eq 2#32 3#32 = 0#1 := e 2 3
  simp only [hc0, hc1, hs, mul_zero, zero_mul, Finset.sum_const_zero, add_zero, e01, e02, e03, e12, e13, e23, select_zero, half_select]
  by_cases h : k.val < 512
  · simp only [if_pos h]
  · simp only [if_neg h]

theorem norm_apply (v g : Vec Ideal S1x1024 .f32) (q : FVec Ideal S1x1 .f32)
    (hq : q (ix2 0 0) = Ideal.div (∑ j : Fin 1024, v (ix2 0 j) * v (ix2 0 j)) (Ideal.ofBits .f32 0x44800000#32)) (k : Fin 1024) :
    k0_pay44 v (k0_pay42 g) q (ix3 0 0 k) = rms (fun j => v (ix2 0 j)) (fun j => g (ix2 0 j)) k := by
  unfold rms
  rw [← hq]
  pointwise [k0_pay44, k0_pay42]

/-- The eight rows the state's two products contract over: three parts of the step's input, three of the decay, two empty. -/
abbrev parts (u d : FVec Ideal S1x1024 .f32) : FVec Ideal S8x1024 .bf16 :=
  k0_pay53 (k0_pay48 d) (k0_pay49 d) (iota .tc S8x1024 32 [0] iota_S8x1024_d0_w32) (k0_pay50 u) k0_pay51 (k0_pay52 d)

theorem parts_apply (u d : FVec Ideal S1x1024 .f32) (hu : ∀ k, u (ix2 0 k) - u (ix2 0 k) = 0) (hd : ∀ k, d (ix2 0 k) - d (ix2 0 k) = 0)
    (r : Fin 8) (k : Fin 1024) :
    parts u d (ix2 r k) = if r = 0 then u (ix2 0 k) else if r = 3 then d (ix2 0 k) else 0 := by
  unfold parts
  fin_cases r
  all_goals pointwise [k0_pay53, k0_pay52, k0_pay51, k0_pay50, k0_pay49, k0_pay48, k0_pay47, k0_pay46, k0_pay45]
  all_goals simp only [hu, hd, sub_zero]
  all_goals rfl

/-- What the first product picks: the step's input at every column. -/
theorem input_apply (u d : FVec Ideal S1x1024 .f32) (hu : ∀ k, u (ix2 0 k) - u (ix2 0 k) = 0) (hd : ∀ k, d (ix2 0 k) - d (ix2 0 k) = 0)
    (k : Fin 1024) (n : Fin 128) :
    k0_pay54 (k0_pay48 d) (k0_pay49 d) (iota .tc S8x1024 32 [0] iota_S8x1024_d0_w32) (k0_pay50 u) k0_pay51 (k0_pay52 d) (ix2 k n) = u (ix2 0 k) := by
  pointwise [k0_pay54]
  simp only [parts_apply u d hu hd]
  rw [Finset.sum_eq_single 0 (fun x _ hx => ?_) (fun h => absurd (Finset.mem_univ _) h)]
  · rfl
  · fin_cases x <;> first | exact absurd rfl hx | rfl

/-- What the second product picks: the decay at every column. -/
theorem decay_apply (u d : FVec Ideal S1x1024 .f32) (hu : ∀ k, u (ix2 0 k) - u (ix2 0 k) = 0) (hd : ∀ k, d (ix2 0 k) - d (ix2 0 k) = 0)
    (k : Fin 1024) (n : Fin 128) :
    k0_pay55 (k0_pay48 d) (k0_pay49 d) (iota .tc S8x1024 32 [0] iota_S8x1024_d0_w32) (k0_pay50 u) k0_pay51 (k0_pay52 d) (ix2 k n) = d (ix2 0 k) := by
  pointwise [k0_pay55]
  simp only [parts_apply u d hu hd]
  rw [Finset.sum_eq_single 3 (fun x _ hx => ?_) (fun h => absurd (Finset.mem_univ _) h)]
  · rfl
  · fin_cases x <;> first | exact absurd rfl hx | rfl

section
variable (st : Vec Ideal S1x1x1024x128 .f32) (b : FVec Ideal S1x128 .f32) (d408 d409 : FVec Ideal S1x1024 .f32) (v410 : IVec S8x1024 32)
  (v426 : FVec Ideal S8x1024 .f32) (v428 : IVec S8x1024 1) (v430 : FVec Ideal S8x1024 .f32)

theorem lo_apply (r : Fin 512) (n : Fin 128) :
    k0_pay56 b (k0_pay31 st) d408 d409 v410 v426 v428 v430 (ix3 0 r n)
      = k0_pay55 d408 d409 v410 v426 v428 v430 (ix2 ⟨r.val, by omega⟩ n) * st (ix4 0 0 ⟨r.val, by omega⟩ n)
        + k0_pay54 d408 d409 v410 v426 v428 v430 (ix2 ⟨r.val, by omega⟩ n) * b (ix2 0 n) := by
  pointwise [k0_pay56, k0_pay31]

theorem hi_apply (r : Fin 512) (n : Fin 128) :
    k0_pay1 (k0_pay57 (k0_pay31 st) d408 d409 v410 v426 v428 v430) (k0_pay58 d408 d409 v410 v426 v428 v430) (k0_pay59 b) (ix3 0 r n)
      = k0_pay55 d408 d409 v410 v426 v428 v430 (ix2 ⟨512 + r.val, by omega⟩ n) * st (ix4 0 0 ⟨512 + r.val, by omega⟩ n)
        + k0_pay54 d408 d409 v410 v426 v428 v430 (ix2 ⟨512 + r.val, by omega⟩ n) * b (ix2 0 n) := by
  pointwise [k0_pay1, k0_pay57, k0_pay58, k0_pay59, k0_pay31]

end

/-! ## The row's results -/

/-- The two coefficient rows of a lane's half. -/
def cB (f : Fin 1536 → EReal) (k : Fin 1024) (n : Fin 128) : EReal := f ⟨1024 + 128 * (k.val / 512) + n.val, by omega⟩
def cC (f : Fin 1536 → EReal) (k : Fin 1024) (n : Fin 128) : EReal := f ⟨1280 + 128 * (k.val / 512) + n.val, by omega⟩

/-- The head of a lane. -/
def head (k : Fin 1024) : Fin 16 := ⟨k.val / 64, by omega⟩

/-- The gated read-out of a lane. -/
def gate (f : Fin 1536 → EReal) (dt dec : Fin 16 → EReal) (st : Fin 1024 → Fin 128 → EReal) (dsk z : Fin 1024 → EReal) (k : Fin 1024) : EReal :=
  ((∑ n : Fin 128, cC f k n * cB f k n) * (f ⟨k.val, by omega⟩ * dt (head k)) + (∑ n : Fin 128, cC f k n * st k n) * dec (head k)
    + f ⟨k.val, by omega⟩ * dsk k) * silu (z k)

/-- The new state. -/
def next (f : Fin 1536 → EReal) (dt dec : Fin 16 → EReal) (st : Fin 1024 → Fin 128 → EReal) (k : Fin 1024) (n : Fin 128) : EReal :=
  dec (head k) * st k n + f ⟨k.val, by omega⟩ * dt (head k) * cB f k n

theorem half_B (f : FVec Ideal S1x1536 .f32) (k : Fin 1024) (n : Fin 128) :
    (if k.val < 512 then k0_pay10 f (ix2 0 n) else k0_pay11 f (ix2 0 n)) = cB (fun j => f (ix2 0 j)) k n := by
  rw [b0_apply, b1_apply, cB]
  split <;> exact congrArg (fun j => f (ix2 0 j)) (Fin.ext (by simp only; omega))

theorem half_C (f : FVec Ideal S1x1536 .f32) (k : Fin 1024) (n : Fin 128) :
    (if k.val < 512 then k0_pay12 f (ix2 0 n) else k0_pay13 f (ix2 0 n)) = cC (fun j => f (ix2 0 j)) k n := by
  rw [c0_apply, c1_apply, cC]
  split <;> exact congrArg (fun j => f (ix2 0 j)) (Fin.ext (by simp only; omega))

/-- The gated row, of the convolved row, the time steps and the decays at every lane, the state, the skip and the gate. -/
def gateV (f : FVec Ideal S1x1536 .f32) (dt dec : FVec Ideal S1x1024 .f32) (st : Vec Ideal S1x1x1024x128 .f32) (dsk z : Vec Ideal S1x1024 .f32) :
    FVec Ideal S1x1024 .f32 :=
  k0_pay41 (k0_pay9 f) k0_pay15 dec (k0_pay30 (k0_pay9 f) (k0_pay10 f) (k0_pay11 f) (k0_pay12 f) (k0_pay13 f) k0_pay15 dt) (k0_pay32 st) (k0_pay33 st)
    (k0_pay36 (k0_pay13 f)) (k0_pay37 (k0_pay13 f)) (iota .tc S8x128 32 [0] iota_S8x128_d0_w32) (k0_pay38 (k0_pay12 f)) k0_pay39
    (k0_pay40 (k0_pay12 f)) dsk z

/-- The mean of its squares. -/
def meanV (f : FVec Ideal S1x1536 .f32) (dt dec : FVec Ideal S1x1024 .f32) (st : Vec Ideal S1x1x1024x128 .f32) (dsk z : Vec Ideal S1x1024 .f32) :
    FVec Ideal S1x1 .f32 :=
  k0_pay43 (k0_pay9 f) k0_pay15 dec (k0_pay30 (k0_pay9 f) (k0_pay10 f) (k0_pay11 f) (k0_pay12 f) (k0_pay13 f) k0_pay15 dt) (k0_pay32 st) (k0_pay33 st)
    (k0_pay36 (k0_pay13 f)) (k0_pay37 (k0_pay13 f)) (iota .tc S8x128 32 [0] iota_S8x128_d0_w32) (k0_pay38 (k0_pay12 f)) k0_pay39
    (k0_pay40 (k0_pay12 f)) dsk z

/-- The two halves of the new state. -/
def loV (f : FVec Ideal S1x1536 .f32) (dt dec : FVec Ideal S1x1024 .f32) (st : Vec Ideal S1x1x1024x128 .f32) : FVec Ideal S1x512x128 .f32 :=
  k0_pay56 (k0_pay10 f) (k0_pay31 st) (k0_pay48 dec) (k0_pay49 dec) (iota .tc S8x1024 32 [0] iota_S8x1024_d0_w32) (k0_pay50 (k0_pay29 (k0_pay9 f) dt))
    k0_pay51 (k0_pay52 dec)
def hiV (f : FVec Ideal S1x1536 .f32) (dt dec : FVec Ideal S1x1024 .f32) (st : Vec Ideal S1x1x1024x128 .f32) : FVec Ideal S1x512x128 .f32 :=
  k0_pay1
    (k0_pay57 (k0_pay31 st) (k0_pay48 dec) (k0_pay49 dec) (iota .tc S8x1024 32 [0] iota_S8x1024_d0_w32) (k0_pay50 (k0_pay29 (k0_pay9 f) dt))
      k0_pay51 (k0_pay52 dec))
    (k0_pay58 (k0_pay48 dec) (k0_pay49 dec) (iota .tc S8x1024 32 [0] iota_S8x1024_d0_w32) (k0_pay50 (k0_pay29 (k0_pay9 f) dt))
      k0_pay51 (k0_pay52 dec)) (k0_pay59 (k0_pay11 f))

section
variable (f : FVec Ideal S1x1536 .f32) (dt dec : FVec Ideal S1x1024 .f32) (st : Vec Ideal S1x1x1024x128 .f32) (dsk z g : Vec Ideal S1x1024 .f32)
  (qt qd : Fin 16 → EReal) (ht : ∀ k, dt (ix2 0 k) = qt (head k)) (hd : ∀ k, dec (ix2 0 k) = qd (head k))
  (hf : ∀ j, f (ix2 0 j) - f (ix2 0 j) = 0)

include ht hd hf

theorem gateV_apply (hs : ∀ k n, st (ix4 0 0 k n) - st (ix4 0 0 k n) = 0) (k : Fin 1024) :
    gateV f dt dec st dsk z (ix2 0 k)
      = gate (fun j => f (ix2 0 j)) qt qd (fun k n => st (ix4 0 0 k n)) (fun k => dsk (ix2 0 k)) (fun k => z (ix2 0 k)) k := by
  unfold gateV gate
  rw [gate_apply _ _ _ _ _ _ _ _ (fun n => by rw [c0_apply]; exact hf _) (fun n => by rw [c1_apply]; exact hf _) hs, own_apply]
  simp only [half_C]
  rw [x_apply, ht, hd]
  have e : (if k.val < 512 then ∑ n : Fin 128, k0_pay12 f (ix2 0 n) * k0_pay10 f (ix2 0 n) else ∑ n : Fin 128, k0_pay13 f (ix2 0 n) * k0_pay11 f (ix2 0 n))
      = ∑ n : Fin 128, cC (fun j => f (ix2 0 j)) k n * cB (fun j => f (ix2 0 j)) k n := by
    simp only [← half_B, ← half_C]
    split <;> rfl
  rw [e]

theorem normV_apply (hs : ∀ k n, st (ix4 0 0 k n) - st (ix4 0 0 k n) = 0) (k : Fin 1024) :
    k0_pay44 (gateV f dt dec st dsk z) (k0_pay42 g) (meanV f dt dec st dsk z) (ix3 0 0 k)
      = rms (gate (fun j => f (ix2 0 j)) qt qd (fun k n => st (ix4 0 0 k n)) (fun k => dsk (ix2 0 k)) (fun k => z (ix2 0 k)))
          (fun j => g (ix2 0 j)) k := by
  rw [norm_apply]
  · exact congrArg (fun v => rms v _ k) (funext fun k => gateV_apply f dt dec st dsk z qt qd ht hd hf hs k)
  · unfold meanV gateV
    pointwise [k0_pay43]

theorem in_sub (hu : ∀ k, f (ix2 0 ⟨k.val, by omega⟩) * qt (head k) - f (ix2 0 ⟨k.val, by omega⟩) * qt (head k) = 0) (k : Fin 1024) :
    k0_pay29 (k0_pay9 f) dt (ix2 0 k) - k0_pay29 (k0_pay9 f) dt (ix2 0 k) = 0 := by
  rw [show k0_pay29 (k0_pay9 f) dt (ix2 0 k) = k0_pay9 f (ix2 0 k) * dt (ix2 0 k) by pointwise [k0_pay29], x_apply, ht, hu]

theorem loV_apply (hu : ∀ k, f (ix2 0 ⟨k.val, by omega⟩) * qt (head k) - f (ix2 0 ⟨k.val, by omega⟩) * qt (head k) = 0)
    (hq : ∀ h, qd h - qd h = 0) (r : Fin 512) (n : Fin 128) :
    loV f dt dec st (ix3 0 r n) = next (fun j => f (ix2 0 j)) qt qd (fun k n => st (ix4 0 0 k n)) ⟨r.val, by omega⟩ n := by
  have hin := in_sub f dt dec qt qd ht hd hf hu
  have hde : ∀ k, dec (ix2 0 k) - dec (ix2 0 k) = 0 := fun k => by rw [hd]; exact hq _
  unfold loV next
  rw [lo_apply, decay_apply _ _ hin hde, input_apply _ _ hin hde, ← half_B, if_pos r.isLt,
    show ∀ k, k0_pay29 (k0_pay9 f) dt (ix2 0 k) = k0_pay9 f (ix2 0 k) * dt (ix2 0 k) from fun k => by pointwise [k0_pay29], x_apply, ht, hd]

theorem hiV_apply (hu : ∀ k, f (ix2 0 ⟨k.val, by omega⟩) * qt (head k) - f (ix2 0 ⟨k.val, by omega⟩) * qt (head k) = 0)
    (hq : ∀ h, qd h - qd h = 0) (r : Fin 512) (n : Fin 128) :
    hiV f dt dec st (ix3 0 r n) = next (fun j => f (ix2 0 j)) qt qd (fun k n => st (ix4 0 0 k n)) ⟨512 + r.val, by omega⟩ n := by
  have hin := in_sub f dt dec qt qd ht hd hf hu
  have hde : ∀ k, dec (ix2 0 k) - dec (ix2 0 k) = 0 := fun k => by rw [hd]; exact hq _
  unfold hiV next
  rw [hi_apply, decay_apply _ _ hin hde, input_apply _ _ hin hde, ← half_B, if_neg (by simp),
    show ∀ k, k0_pay29 (k0_pay9 f) dt (ix2 0 k) = k0_pay9 f (ix2 0 k) * dt (ix2 0 k) from fun k => by pointwise [k0_pay29], x_apply, ht, hd]

end

end Cert.Step
end
-- ==== Proof.StepRun.lean ====
module

public import proofs.«01_k».proof.Proof.StepTile
public import proofs.«01_k».proof.Proof.Proj
public import proofs.«01_k».proof.Proof.Gen.Kernel6Ideal.Value
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

/-! One sample's step: what a grid point writes, in terms of what it loads. -/

namespace Cert.Step

open Cert.Proj Cert.Kernel6Ideal Cert.Kernel6Ideal.Gen Cert.Kernel6Ideal.Facts Idealize.ShloMosaic Idealize.ShloMosaic.TcCoe Idealize.ShloMosaic.WordCmp Idealize.SL.Sem

/-- A point's row of an array of sixteen rows of 1024. -/
def rowA (i : grid0.Coords) (x : Vec Ideal S16x1024 .f32) : Vec Ideal S1x1024 .f32 :=
  View.ld (Val := Elt Ideal) x (Rect.unit (s := S16x1024) (k0_off1 i) S1x1024.size (k0_off1_inb i))

/-- A point's row of an array of sixteen rows of 512. -/
def rowB (i : grid0.Coords) (x : Vec Ideal S16x512 .f32) : Vec Ideal S1x512 .f32 :=
  View.ld (Val := Elt Ideal) x (Rect.unit (s := S16x512) (k0_off2 i) S1x512.size (k0_off2_inb i))

/-- A point's row of an array of sixteen rows of 128. -/
def rowC (i : grid0.Coords) (x : Vec Ideal S16x128 .f32) : Vec Ideal S1x128 .f32 :=
  View.ld (Val := Elt Ideal) x (Rect.unit (s := S16x128) (k0_off3 i) S1x128.size (k0_off3_inb i))

/-- Tap `r` of the convolution's weights. -/
def tap0 (x : Vec Ideal S4x1536 .f32) : Vec Ideal S1x1536 .f32 :=
  View.ld (Val := Elt Ideal) x (Rect.unit (s := S4x1536) ![0, 0] S1x1536.size inb_S4x1536_S1x1536_0_0)
def tap1 (x : Vec Ideal S4x1536 .f32) : Vec Ideal S1x1536 .f32 :=
  View.ld (Val := Elt Ideal) x (Rect.unit (s := S4x1536) ![1, 0] S1x1536.size inb_S4x1536_S1x1536_1_0)
def tap2 (x : Vec Ideal S4x1536 .f32) : Vec Ideal S1x1536 .f32 :=
  View.ld (Val := Elt Ideal) x (Rect.unit (s := S4x1536) ![2, 0] S1x1536.size inb_S4x1536_S1x1536_2_0)
def tap3 (x : Vec Ideal S4x1536 .f32) : Vec Ideal S1x1536 .f32 :=
  View.ld (Val := Elt Ideal) x (Rect.unit (s := S4x1536) ![3, 0] S1x1536.size inb_S4x1536_S1x1536_3_0)

theorem row_val (i : grid0.Coords) : (Scalar.indexCast (BitVec.ofNat 32 (i 0).val) : BitVec _).toNat = (i 0).val := by
  have h : ∀ v : Fin 8, (Scalar.indexCast (BitVec.ofNat 32 v.val) : BitVec _).toNat = v.val := by decide
  exact h (i 0)

theorem row_lt (i : grid0.Coords) : (i 0).val < 8 := (i 0).isLt

theorem rowA_apply (i : grid0.Coords) (x : Vec Ideal S16x1024 .f32) (k : Fin 1024) :
    rowA i x (ix2 0 k) = x (ix2 ⟨(i 0).val, Nat.lt_trans (row_lt i) (by decide)⟩ k) := by
  refine congrArg x (funext fun a => Fin.ext ?_)
  match a with
  | ⟨0, _⟩ => exact row_val i
  | ⟨1, _⟩ => show 0 + 1 * k.val = k.val; omega

theorem rowB_apply (i : grid0.Coords) (x : Vec Ideal S16x512 .f32) (k : Fin 512) :
    rowB i x (ix2 0 k) = x (ix2 ⟨(i 0).val, Nat.lt_trans (row_lt i) (by decide)⟩ k) := by
  refine congrArg x (funext fun a => Fin.ext ?_)
  match a with
  | ⟨0, _⟩ => exact row_val i
  | ⟨1, _⟩ => show 0 + 1 * k.val = k.val; omega

theorem rowC_apply (i : grid0.Coords) (x : Vec Ideal S16x128 .f32) (k : Fin 128) :
    rowC i x (ix2 0 k) = x (ix2 ⟨(i 0).val, Nat.lt_trans (row_lt i) (by decide)⟩ k) := by
  refine congrArg x (funext fun a => Fin.ext ?_)
  match a with
  | ⟨0, _⟩ => exact row_val i
  | ⟨1, _⟩ => show 0 + 1 * k.val = k.val; omega

theorem tap0_apply (x : Vec Ideal S4x1536 .f32) (j : Fin 1536) : tap0 x (ix2 0 j) = x (ix2 0 j) := by
  refine congrArg x (funext fun a => Fin.ext ?_)
  match a with
  | ⟨0, _⟩ => rfl
  | ⟨1, _⟩ => show 0 + 1 * j.val = j.val; omega

theorem tap1_apply (x : Vec Ideal S4x1536 .f32) (j : Fin 1536) : tap1 x (ix2 0 j) = x (ix2 1 j) := by
  refine congrArg x (funext fun a => Fin.ext ?_)
  match a with
  | ⟨0, _⟩ => rfl
  | ⟨1, _⟩ => show 0 + 1 * j.val = j.val; omega

theorem tap2_apply (x : Vec Ideal S4x1536 .f32) (j : Fin 1536) : tap2 x (ix2 0 j) = x (ix2 2 j) := by
  refine congrArg x (funext fun a => Fin.ext ?_)
  match a with
  | ⟨0, _⟩ => rfl
  | ⟨1, _⟩ => show 0 + 1 * j.val = j.val; omega

theorem tap3_apply (x : Vec Ideal S4x1536 .f32) (j : Fin 1536) : tap3 x (ix2 0 j) = x (ix2 3 j) := by
  refine congrArg x (funext fun a => Fin.ext ?_)
  match a with
  | ⟨0, _⟩ => rfl
  | ⟨1, _⟩ => show 0 + 1 * j.val = j.val; omega

/-! Loads of whole blocks. -/

theorem all_S1x1x3x1536 (x : Vec Ideal S1x1x3x1536 .f32) :
    View.ld (Val := Elt Ideal) x (Rect.unit (s := S1x1x3x1536) ![0, 0, 0, 0] ![1, 1, 3, 1536] inb_S1x1x3x1536_S1x1x3x1536_0_0_0_0) = x :=
  View.ld_unit_zero (by
    funext a
    match a with
    | ⟨0, _⟩ => rfl
    | ⟨1, _⟩ => rfl
    | ⟨2, _⟩ => rfl
    | ⟨3, _⟩ => rfl) _ _

theorem all_S1x1x1024x128 (x : Vec Ideal S1x1x1024x128 .f32) :
    View.ld (Val := Elt Ideal) x (Rect.unit (s := S1x1x1024x128) ![0, 0, 0, 0] ![1, 1, 1024, 128] inb_S1x1x1024x128_S1x1x1024x128_0_0_0_0) = x :=
  View.ld_unit_zero (by
    funext a
    match a with
    | ⟨0, _⟩ => rfl
    | ⟨1, _⟩ => rfl
    | ⟨2, _⟩ => rfl
    | ⟨3, _⟩ => rfl) _ _

theorem all_S1x1536 (x : Vec Ideal S1x1536 .f32) :
    View.ld (Val := Elt Ideal) x (Rect.unit (s := S1x1536) ![0, 0] ![1, 1536] inb_S1x1536_S1x1536_0_0) = x :=
  View.ld_unit_zero (by
    funext a
    match a with
    | ⟨0, _⟩ => rfl
    | ⟨1, _⟩ => rfl) _ _

theorem all_S1x128 (x : Vec Ideal S1x128 .f32) :
    View.ld (Val := Elt Ideal) x (Rect.unit (s := S1x128) ![0, 0] ![1, 128] inb_S1x128_S1x128_0_0) = x :=
  View.ld_unit_zero (by
    funext a
    match a with
    | ⟨0, _⟩ => rfl
    | ⟨1, _⟩ => rfl) _ _

theorem all_S1x1024 (x : Vec Ideal S1x1024 .f32) :
    View.ld (Val := Elt Ideal) x (Rect.unit (s := S1x1024) ![0, 0] ![1, 1024] inb_S1x1024_S1x1024_0_0) = x :=
  View.ld_unit_zero (by
    funext a
    match a with
    | ⟨0, _⟩ => rfl
    | ⟨1, _⟩ => rfl) _ _

theorem same_apply (v : Vec Ideal S1x128 .f32) : k0_pay16 v = v := by
  refine funext fun y => ?_
  rw [ix2_self y]
  pointwise [k0_pay16]

/-- The convolved row of a point, through its activation. -/
def actV (i : grid0.Coords) (x0 : Vec Ideal S16x1024 .f32) (x1 : Vec Ideal S16x512 .f32) (x4 : Vec Ideal S1x1x3x1536 .f32) (x6 : Vec Ideal S4x1536 .f32)
    (x7 : Vec Ideal S1x1536 .f32) : FVec Ideal S1x1536 .f32 :=
  k0_pay4 (rowA i x0) (rowB i x1) x4 x7 (tap0 x6) (tap1 x6) (tap2 x6) (tap3 x6)

/-- The time step at every lane. -/
def dtV (i : grid0.Coords) (x2 : Vec Ideal S16x128 .f32) (x8 : Vec Ideal S1x128 .f32) : FVec Ideal S1x1024 .f32 :=
  k0_pay23 k0_pay14 (k0_pay17 (rowC i x2) x8) (k0_pay20 k0_pay14 (k0_pay17 (rowC i x2) x8) (k0_pay19 k0_pay14 (rowC i x2) x8) 5#32)
    (k0_pay21 k0_pay14) (k0_pay22 (k0_pay17 (rowC i x2) x8))

/-- The decay at every lane. -/
def decV (i : grid0.Coords) (x2 : Vec Ideal S16x128 .f32) (x8 x9 : Vec Ideal S1x128 .f32) : FVec Ideal S1x1024 .f32 :=
  k0_pay28 k0_pay14 (k0_pay18 (rowC i x2) x8 x9)
    (k0_pay25 k0_pay14 (k0_pay18 (rowC i x2) x8 x9) (k0_pay24 k0_pay14 (k0_pay18 (rowC i x2) x8 x9))) (k0_pay26 k0_pay14)
    (k0_pay27 (k0_pay18 (rowC i x2) x8 x9))

/-- A point's new row of the convolution. -/
def newAt (i : grid0.Coords) (x0 : Vec Ideal S16x1024 .f32) (x1 : Vec Ideal S16x512 .f32) (j : Fin 1536) : EReal :=
  if h : j.val < 1024 then x0 (ix2 ⟨(i 0).val, Nat.lt_trans (row_lt i) (by decide)⟩ ⟨j.val, h⟩)
  else x1 (ix2 ⟨(i 0).val, Nat.lt_trans (row_lt i) (by decide)⟩ ⟨j.val - 1024, by omega⟩)

theorem row_new (i : grid0.Coords) (x0 : Vec Ideal S16x1024 .f32) (x1 : Vec Ideal S16x512 .f32) (j : Fin 1536) :
    k0_pay2 (rowA i x0) (rowB i x1) (ix2 0 j) = newAt i x0 x1 j := by
  rw [new_apply, newAt]
  split <;> [exact rowA_apply _ _ _; exact rowB_apply _ _ _]

theorem actV_apply (i : grid0.Coords) (x0 : Vec Ideal S16x1024 .f32) (x1 : Vec Ideal S16x512 .f32) (x4 : Vec Ideal S1x1x3x1536 .f32)
    (x6 : Vec Ideal S4x1536 .f32) (x7 : Vec Ideal S1x1536 .f32) (j : Fin 1536) :
    actV i x0 x1 x4 x6 x7 (ix2 0 j)
      = silu (x7 (ix2 0 j) + x4 (ix4 0 0 0 j) * x6 (ix2 0 j) + x4 (ix4 0 0 1 j) * x6 (ix2 1 j) + x4 (ix4 0 0 2 j) * x6 (ix2 2 j)
          + newAt i x0 x1 j * x6 (ix2 3 j)) := by
  unfold actV
  rw [act_apply, row_new, tap0_apply, tap1_apply, tap2_apply, tap3_apply]

/-- The time step and the decay of a head at a point. -/
def dtAt (i : grid0.Coords) (x2 : Vec Ideal S16x128 .f32) (x8 : Vec Ideal S1x128 .f32) (h : Fin 16) : EReal :=
  soft (x2 (ix2 ⟨(i 0).val, Nat.lt_trans (row_lt i) (by decide)⟩ ⟨h.val, by omega⟩) + x8 (ix2 0 ⟨h.val, by omega⟩))
def decAt (i : grid0.Coords) (x2 : Vec Ideal S16x128 .f32) (x8 x9 : Vec Ideal S1x128 .f32) (h : Fin 16) : EReal :=
  Ideal.exp (dtAt i x2 x8 h * (0 - Ideal.exp (x9 (ix2 0 ⟨h.val, by omega⟩))))

theorem dtV_apply (i : grid0.Coords) (x2 : Vec Ideal S16x128 .f32) (x8 : Vec Ideal S1x128 .f32) (k : Fin 1024) :
    dtV i x2 x8 (ix2 0 k) = dtAt i x2 x8 (head k) := by
  unfold dtV dtAt head
  rw [expand_dt, dt_apply, rowC_apply]

theorem decV_apply (i : grid0.Coords) (x2 : Vec Ideal S16x128 .f32) (x8 x9 : Vec Ideal S1x128 .f32) (k : Fin 1024) :
    decV i x2 x8 x9 (ix2 0 k) = decAt i x2 x8 x9 (head k) := by
  unfold decV decAt dtAt head
  rw [expand_dec, dec_apply, dt_apply, rowC_apply]

/-! ## The run -/

section
variable (c : Dev nD) (i : grid0.Coords) (arg1 : Memref sig .tc .vmem S16x1024 .f32) (harg1 : arg1.IsWhole) (arg2 : Memref sig .tc .vmem S16x512 .f32) (harg2 : arg2.IsWhole) (arg3 : Memref sig .tc .vmem S16x128 .f32) (harg3 : arg3.IsWhole) (arg4 : Memref sig .tc .vmem S16x1024 .f32) (harg4 : arg4.IsWhole) (arg5 : Memref sig .tc .vmem S1x1x3x1536 .f32) (harg5 : arg5.IsWhole) (arg6 : Memref sig .tc .vmem S1x1x1024x128 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x3x1536 .f32) (harg14 : arg14.IsWhole) (arg15 : Memref sig .tc .vmem S1x1024x128 .f32) (harg15 : arg15.IsWhole)
    (x0 : Vec Ideal S16x1024 .f32) (x1 : Vec Ideal S16x512 .f32) (x2 : Vec Ideal S16x128 .f32) (x3 : Vec Ideal S16x1024 .f32) (x4 : Vec Ideal S1x1x3x1536 .f32) (x5 : Vec Ideal S1x1x1024x128 .f32) (x6 : Vec Ideal S4x1536 .f32) (x7 : Vec Ideal S1x1536 .f32) (x8 : Vec Ideal S1x128 .f32) (x9 : Vec Ideal S1x128 .f32) (x10 : Vec Ideal S1x1024 .f32) (x11 : Vec Ideal S1x1024 .f32)

theorem conv_out (r : Fin 3) (j : Fin 1536) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 (ix3 0 r j)
      = if r.val = 0 then x4 (ix4 0 0 1 j) else if r.val = 1 then x4 (ix4 0 0 2 j) else newAt i x0 x1 j := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  sl_unfold_words
  simp only [View.readAt_eq_ld, Memref.IsWhole.read_unread, all_S1x1x3x1536, all_S1x1x1024x128, all_S1x1536, all_S1x128, all_S1x1024, same_apply]
  canon_tiles x h
  · have e : x = ix3 0 0 j := (one3 x).trans (congrArg₂ (fun u v => ix3 0 u v) (Fin.ext (by change (x 1).val = 0; omega)) (Fin.ext h2.symm))
    rw [if_neg (show ¬ r.val = 0 by change r.val = 2 + _ at h1; omega), if_neg (show ¬ r.val = 1 by change r.val = 2 + _ at h1; omega), e]
    exact (row2_apply _ j).trans (row_new i x0 x1 j)
  · have e : x = ix3 0 0 j := (one3 x).trans (congrArg₂ (fun u v => ix3 0 u v) (Fin.ext (by change (x 1).val = 0; omega)) (Fin.ext h2.symm))
    rw [if_neg (show ¬ r.val = 0 by change r.val = 1 + _ at h1; omega), if_pos (show r.val = 1 by change r.val = 1 + _ at h1; omega), e]
    exact row1_apply x4 j
  · have e : x = ix3 0 0 j := (one3 x).trans (congrArg₂ (fun u v => ix3 0 u v) (Fin.ext (by change (x 1).val = 0; omega)) (Fin.ext h2.symm))
    rw [if_pos (show r.val = 0 by change r.val = (x 1).val at h1; omega), e]
    exact row0_apply x4 j

theorem y_out :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11
      = k0_pay44 (gateV (actV i x0 x1 x4 x6 x7) (dtV i x2 x8) (decV i x2 x8 x9) x5 x10 (rowA i x3)) (k0_pay42 x11)
          (meanV (actV i x0 x1 x4 x6 x7) (dtV i x2 x8) (decV i x2 x8 x9) x5 x10 (rowA i x3)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  sl_unfold_words
  simp only [View.readAt_eq_ld, Memref.IsWhole.read_unread, all_S1x1x3x1536, all_S1x1x1024x128, all_S1x1536, all_S1x128, all_S1x1024, same_apply]
  rw [View.canon_unit_zero (by
    funext a
    match a with
    | ⟨0, _⟩ => rfl
    | ⟨1, _⟩ => rfl
    | ⟨2, _⟩ => rfl)]
  rfl

theorem state_out (r : Fin 1024) (n : Fin 128) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 (ix3 0 r n)
      = if h : r.val < 512 then loV (actV i x0 x1 x4 x6 x7) (dtV i x2 x8) (decV i x2 x8 x9) x5 (ix3 0 ⟨r.val, h⟩ n)
        else hiV (actV i x0 x1 x4 x6 x7) (dtV i x2 x8) (decV i x2 x8 x9) x5 (ix3 0 ⟨r.val - 512, by omega⟩ n) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  sl_unfold_words
  simp only [View.readAt_eq_ld, Memref.IsWhole.read_unread, all_S1x1x3x1536, all_S1x1x1024x128, all_S1x1536, all_S1x128, all_S1x1024, same_apply]
  canon_tiles x h
  · have e : x = ix3 0 ⟨r.val - 512, by omega⟩ n :=
      (one3 x).trans (congrArg₂ (fun u v => ix3 0 u v) (Fin.ext (by change r.val = 512 + _ at h1; change (x 1).val = r.val - 512; omega)) (Fin.ext h2.symm))
    have hn : ¬ r.val < 512 := by change r.val = 512 + _ at h1; omega
    refine Eq.trans (b := hiV (actV i x0 x1 x4 x6 x7) (dtV i x2 x8) (decV i x2 x8 x9) x5 x) rfl ?_
    rw [dif_neg hn, e]
  · have hr : r.val < 512 := by change r.val = (x 1).val at h1; omega
    have e : x = ix3 0 ⟨r.val, hr⟩ n :=
      (one3 x).trans (congrArg₂ (fun u v => ix3 0 u v) (Fin.ext (by change r.val = (x 1).val at h1; exact h1.symm)) (Fin.ext h2.symm))
    refine Eq.trans (b := loV (actV i x0 x1 x4 x6 x7) (dtV i x2 x8) (decV i x2 x8 x9) x5 x) rfl ?_
    rw [dif_pos hr, e]

end

end Cert.Step
end
-- ==== Proof.Step.lean ====
module

public import proofs.«01_k».proof.Proof.StepRun
public import proofs.«01_k».proof.Proof.Tile

@[expose] public section

set_option maxRecDepth 16384

noncomputable section

/-! One sample's step: the three result arrays as functions of the eleven arguments, from the kernel's run. -/

namespace Cert.Step

open Cert.Proj Cert.Kernel6Ideal Cert.Kernel6Ideal.Gen Cert.Kernel6Ideal.Facts Idealize.ShloMosaic Idealize.ShloMosaic.TcCoe Idealize.SL.Sem

/-! ## The results as functions of the arguments -/

section
variable (a0 : Vec Ideal S8x1x1024 .f32) (a1 : Vec Ideal S8x1x1536 .f32) (a2 : Vec Ideal S8x1x16 .f32) (a3 : Vec Ideal S4x8x3x1536 .f32)
  (a4 : Vec Ideal S4x8x16x64x128 .f32) (a5 : Vec Ideal S4x4x1536 .f32) (a6 : Vec Ideal S4x1536 .f32) (a7 a8 a9 : Vec Ideal S4x16 .f32)
  (a10 : Vec Ideal S4x1024 .f32)

/-- A sample's convolved row, before and after its activation. -/
def conv (b : Fin 8) (j : Fin 1536) : EReal :=
  a6 (ix2 3 j) + a3 (ix4 3 b 0 j) * a5 (ix3 3 0 j) + a3 (ix4 3 b 1 j) * a5 (ix3 3 1 j) + a3 (ix4 3 b 2 j) * a5 (ix3 3 2 j)
    + a1 (ix3 b 0 j) * a5 (ix3 3 3 j)
def act (b : Fin 8) (j : Fin 1536) : EReal := silu (conv a1 a3 a5 a6 b j)

/-- A head's time step and decay. -/
def dt (b : Fin 8) (h : Fin 16) : EReal := soft (a2 (ix3 b 0 h) + a7 (ix2 3 h))
def dec (b : Fin 8) (h : Fin 16) : EReal := Ideal.exp (dt a2 a7 b h * (0 - Ideal.exp (a8 (ix2 3 h))))

/-- The state by lane: head by dimension. -/
def st (b : Fin 8) (k : Fin 1024) (n : Fin 128) : EReal := a4 (ix5 3 b ⟨k.val / 64, by omega⟩ ⟨k.val % 64, Nat.mod_lt _ (by decide)⟩ n)

/-- The gated output, the convolution's new rows, and the new state. -/
def yOf (b : Fin 8) (_ : Fin 1) (k : Fin 1024) : EReal :=
  rms (gate (act a1 a3 a5 a6 b) (dt a2 a7 b) (dec a2 a7 a8 b) (st a4 b) (fun k => a9 (ix2 3 (head k))) (fun k => a0 (ix3 b 0 k)))
    (fun k => a10 (ix2 3 k)) k
def rowsOf (b : Fin 8) (r : Fin 3) (j : Fin 1536) : EReal :=
  if r.val = 0 then a3 (ix4 3 b 1 j) else if r.val = 1 then a3 (ix4 3 b 2 j) else a1 (ix3 b 0 j)
def nextOf (b : Fin 8) (k : Fin 1024) (n : Fin 128) : EReal :=
  next (act a1 a3 a5 a6 b) (dt a2 a7 b) (dec a2 a7 a8 b) (st a4 b) k n

end

/-! ## The arrays the kernel is launched on -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![3, t.val, 0, 0] := (by decide +kernel : ∀ t : Fin grid0.N, _)
theorem idx5 : ∀ t : Fin cfg0.N, win0_5.index t = ![3, t.val, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val, 0, 0] := (by decide +kernel : ∀ t : Fin grid0.N, _)
theorem idx13 : ∀ t : Fin cfg0.N, win0_13.index t = ![t.val, 0, 0] := (by decide +kernel : ∀ t : Fin grid0.N, _)
theorem idx14 : ∀ t : Fin cfg0.N, win0_14.index t = ![t.val, 0, 0] := (by decide +kernel : ∀ t : Fin grid0.N, _)

section
variable (m : (ℓ : Loc nD τ sig) → Buf (Elt Ideal) ℓ) (c : Dev nD)

/-- The eleven arguments as the program is launched on them. -/
abbrev A0 : Vec Ideal S8x1x1024 .f32 := m ((c : Thread nD τ).loc main_arg0)
abbrev A1 : Vec Ideal S8x1x1536 .f32 := m ((c : Thread nD τ).loc main_arg1)
abbrev A2 : Vec Ideal S8x1x16 .f32 := m ((c : Thread nD τ).loc main_arg2)
abbrev A3 : Vec Ideal S4x8x3x1536 .f32 := m ((c : Thread nD τ).loc main_arg3)
abbrev A4 : Vec Ideal S4x8x16x64x128 .f32 := m ((c : Thread nD τ).loc main_arg4)
abbrev A5 : Vec Ideal S4x4x1536 .f32 := m ((c : Thread nD τ).loc main_arg5)
abbrev A6 : Vec Ideal S4x1536 .f32 := m ((c : Thread nD τ).loc main_arg6)
abbrev A7 : Vec Ideal S4x16 .f32 := m ((c : Thread nD τ).loc main_arg7)
abbrev A8 : Vec Ideal S4x16 .f32 := m ((c : Thread nD τ).loc main_arg8)
abbrev A9 : Vec Ideal S4x16 .f32 := m ((c : Thread nD τ).loc main_arg9)
abbrev A10 : Vec Ideal S4x1024 .f32 := m ((c : Thread nD τ).loc main_arg10)

/-- The padding: zeros. -/
abbrev zeroPad : FVec Ideal S_ .f32 := sitofp (F := Ideal) .f32 (constantI S_ 32 0#32)

theorem pad_x : (V m c main_v2 : Vec Ideal S16x1024 .f32) = pad S16x1024 ![0, 0] ![8, 0] ![0, 0]
    (shapeCast S8x1024 (extractStridedSlice S8x1x1024 ![0, 0, 0] (A1 m c) slices_S8x1x1536_S8x1x1024_0_0_0) shapeCasts_S8x1x1024_S8x1024)
    zeroPad pads_S8x1024_S16x1024_080_000 h_S_ := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  rfl

theorem V_x (r : Fin 16) (k : Fin 1024) : (V m c main_v2 : Vec Ideal S16x1024 .f32) (ix2 r k)
    = if h : r.val < 8 then A1 m c (ix3 ⟨r.val, h⟩ 0 ⟨k.val, by omega⟩) else (0 : EReal) := by
  rw [pad_x, ← zero_int]
  pointwise []

theorem pad_bc : (V m c main_v5 : Vec Ideal S16x512 .f32) = pad S16x512 ![0, 0] ![8, 0] ![0, 0]
    (shapeCast S8x512 (extractStridedSlice S8x1x512 ![0, 0, 1024] (A1 m c) slices_S8x1x1536_S8x1x512_0_0_1024) shapeCasts_S8x1x512_S8x512)
    zeroPad pads_S8x512_S16x512_080_000 h_S_ := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  rfl

theorem V_bc (r : Fin 16) (k : Fin 512) : (V m c main_v5 : Vec Ideal S16x512 .f32) (ix2 r k)
    = if h : r.val < 8 then A1 m c (ix3 ⟨r.val, h⟩ 0 ⟨1024 + k.val, by omega⟩) else (0 : EReal) := by
  rw [pad_bc, ← zero_int]
  pointwise []

theorem pad_dt : (V m c main_v8 : Vec Ideal S16x128 .f32) = pad S16x128 ![0, 0] ![0, 112] ![0, 0]
    (pad S16x16 ![0, 0] ![8, 0] ![0, 0] (shapeCast S8x16 (A2 m c) shapeCasts_S8x1x16_S8x16) zeroPad pads_S8x16_S16x16_080_000 h_S_)
    zeroPad pads_S16x16_S16x128_000_01120 h_S_ := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  rfl

theorem V_dt (r : Fin 16) (k : Fin 128) : (V m c main_v8 : Vec Ideal S16x128 .f32) (ix2 r k)
    = if h : k.val < 16 then (if h' : r.val < 8 ∧ k.val < 16 then A2 m c (ix3 ⟨r.val, h'.1⟩ 0 ⟨k.val, h'.2⟩) else (0 : EReal)) else (0 : EReal) := by
  rw [pad_dt, ← zero_int]
  pointwise []

theorem pad_z : (V m c main_v19 : Vec Ideal S16x1024 .f32) = pad S16x1024 ![0, 0] ![8, 0] ![0, 0]
    (shapeCast S8x1024 (A0 m c) shapeCasts_S8x1x1024_S8x1024) zeroPad pads_S8x1024_S16x1024_080_000 h_S_ := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  rfl

theorem V_z (r : Fin 16) (k : Fin 1024) : (V m c main_v19 : Vec Ideal S16x1024 .f32) (ix2 r k)
    = if h : r.val < 8 then A0 m c (ix3 ⟨r.val, h⟩ 0 k) else (0 : EReal) := by
  rw [pad_z, ← zero_int]
  pointwise []

theorem V_cs (i : S4x8x3x1536.Idx) : (V m c main_arg3 : Vec Ideal S4x8x3x1536 .f32) i = A3 m c i := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results

theorem V_st (l : Fin 4) (b : Fin 8) (k : Fin 1024) (n : Fin 128) : (V m c main_v17 : Vec Ideal S4x8x1024x128 .f32) (ix4 l b k n) = A4 m c (ix5 l b ⟨k.val / 64, by omega⟩ ⟨k.val % 64, Nat.mod_lt _ (by decide)⟩ n) := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  pointwise []

theorem V_w (r : Fin 4) (j : Fin 1536) : (V m c main_v21 : Vec Ideal S4x1536 .f32) (ix2 r j) = A5 m c (ix3 3 r j) := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  pointwise []

theorem V_b (j : Fin 1536) : (V m c main_v24 : Vec Ideal S1x1536 .f32) (ix2 0 j) = A6 m c (ix2 3 j) := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  pointwise []

theorem pad_dtb : (V m c main_v26 : Vec Ideal S1x128 .f32) = shapeCast S1x128
    (extractStridedSlice S1x1x128 ![3, 0, 0]
      (broadcastInDim S4x1x128 ![0, 2] bcast_S4x128_S4x1x128_0_2
        (pad S4x128 ![0, 0] ![0, 112] ![0, 0] (A7 m c) zeroPad pads_S4x16_S4x128_000_01120 h_S_)) slices_S4x1x128_S1x1x128_3_0_0)
    shapeCasts_S1x1x128_S1x128 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  rfl

theorem V_dtb (k : Fin 128) : (V m c main_v26 : Vec Ideal S1x128 .f32) (ix2 0 k)
    = if h : k.val < 16 then A7 m c (ix2 3 ⟨k.val, h⟩) else (0 : EReal) := by
  rw [pad_dtb, ← zero_int]
  pointwise []

theorem pad_al : (V m c main_v28 : Vec Ideal S1x128 .f32) = shapeCast S1x128
    (extractStridedSlice S1x1x128 ![3, 0, 0]
      (broadcastInDim S4x1x128 ![0, 2] bcast_S4x128_S4x1x128_0_2
        (pad S4x128 ![0, 0] ![0, 112] ![0, 0] (A8 m c) zeroPad pads_S4x16_S4x128_000_01120 h_S_)) slices_S4x1x128_S1x1x128_3_0_0)
    shapeCasts_S1x1x128_S1x128 := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  rfl

theorem V_al (k : Fin 128) : (V m c main_v28 : Vec Ideal S1x128 .f32) (ix2 0 k)
    = if h : k.val < 16 then A8 m c (ix2 3 ⟨k.val, h⟩) else (0 : EReal) := by
  rw [pad_al, ← zero_int]
  pointwise []

theorem V_ds (k : Fin 1024) : (V m c main_v30 : Vec Ideal S1x1024 .f32) (ix2 0 k) = A9 m c (ix2 3 (head k)) := by
  unfold head
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  pointwise []

theorem V_g (k : Fin 1024) : (V m c main_v32 : Vec Ideal S1x1024 .f32) (ix2 0 k) = A10 m c (ix2 3 k) := by
  dsimp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  pointwise []

theorem lt8 (t : Fin cfg0.N) : t.val < 8 := lt_of_lt_of_eq t.isLt N_0

/-- The sample of a point. -/
def smp (t : Fin cfg0.N) : Fin 8 := ⟨t.val, lt8 t⟩

theorem coord (t : Fin cfg0.N) : (grid0.coords t 0).val = t.val := by
  have h : ∀ t : Fin grid0.N, (grid0.coords t 0).val = t.val := by decide +kernel
  exact h t

theorem blk0 (t : Fin cfg0.N) (r : Fin 16) (k : Fin 1024) : (iblk m c 0 t : Vec Ideal S16x1024 .f32) (ix2 r k) = if h : r.val < 8 then A1 m c (ix3 ⟨r.val, h⟩ 0 ⟨k.val, by omega⟩) else (0 : EReal) := by
  have ht := lt8 t
  have e : ((win0_0.blk t).view.emb (ix2 r k) : S16x1024.Idx) = ix2 r k := by
    blk_ext [idx0]
  blk_simp [iblk]
  exact (congrArg (V m c main_v2 : Vec Ideal S16x1024 .f32) e).trans (V_x m c _ _)

theorem blk1 (t : Fin cfg0.N) (r : Fin 16) (k : Fin 512) : (iblk m c 1 t : Vec Ideal S16x512 .f32) (ix2 r k) = if h : r.val < 8 then A1 m c (ix3 ⟨r.val, h⟩ 0 ⟨1024 + k.val, by omega⟩) else (0 : EReal) := by
  have ht := lt8 t
  have e : ((win0_1.blk t).view.emb (ix2 r k) : S16x512.Idx) = ix2 r k := by
    blk_ext [idx1]
  blk_simp [iblk]
  exact (congrArg (V m c main_v5 : Vec Ideal S16x512 .f32) e).trans (V_bc m c _ _)

theorem blk2 (t : Fin cfg0.N) (r : Fin 16) (k : Fin 128) : (iblk m c 2 t : Vec Ideal S16x128 .f32) (ix2 r k) = if h : k.val < 16 then (if h' : r.val < 8 ∧ k.val < 16 then A2 m c (ix3 ⟨r.val, h'.1⟩ 0 ⟨k.val, h'.2⟩) else (0 : EReal)) else (0 : EReal) := by
  have ht := lt8 t
  have e : ((win0_2.blk t).view.emb (ix2 r k) : S16x128.Idx) = ix2 r k := by
    blk_ext [idx2]
  blk_simp [iblk]
  exact (congrArg (V m c main_v8 : Vec Ideal S16x128 .f32) e).trans (V_dt m c _ _)

theorem blk3 (t : Fin cfg0.N) (r : Fin 16) (k : Fin 1024) : (iblk m c 3 t : Vec Ideal S16x1024 .f32) (ix2 r k) = if h : r.val < 8 then A0 m c (ix3 ⟨r.val, h⟩ 0 k) else (0 : EReal) := by
  have ht := lt8 t
  have e : ((win0_3.blk t).view.emb (ix2 r k) : S16x1024.Idx) = ix2 r k := by
    blk_ext [idx3]
  blk_simp [iblk]
  exact (congrArg (V m c main_v19 : Vec Ideal S16x1024 .f32) e).trans (V_z m c _ _)

theorem blk4 (t : Fin cfg0.N) (r : Fin 3) (j : Fin 1536) : (iblk m c 4 t : Vec Ideal S1x1x3x1536 .f32) (ix4 0 0 r j) = A3 m c (ix4 3 (smp t) r j) := by
  have ht := lt8 t
  have e : ((win0_4.blk t).view.emb (ix4 0 0 r j) : S4x8x3x1536.Idx) = ix4 3 (smp t) r j := by
    unfold smp
    blk_ext [idx4]
  blk_simp [iblk]
  exact (congrArg (V m c main_arg3 : Vec Ideal S4x8x3x1536 .f32) e).trans (V_cs m c _)

theorem blk5 (t : Fin cfg0.N) (k : Fin 1024) (n : Fin 128) : (iblk m c 5 t : Vec Ideal S1x1x1024x128 .f32) (ix4 0 0 k n) = st (A4 m c) (smp t) k n := by
  have ht := lt8 t
  have e : ((win0_5.blk t).view.emb (ix4 0 0 k n) : S4x8x1024x128.Idx) = ix4 3 (smp t) k n := by
    unfold smp
    blk_ext [idx5]
  blk_simp [iblk]
  exact (congrArg (V m c main_v17 : Vec Ideal S4x8x1024x128 .f32) e).trans (V_st m c _ _ _ _)

theorem blk6 (t : Fin cfg0.N) (r : Fin 4) (j : Fin 1536) : (iblk m c 6 t : Vec Ideal S4x1536 .f32) (ix2 r j) = A5 m c (ix3 3 r j) := by
  have ht := lt8 t
  have e : ((win0_6.blk t).view.emb (ix2 r j) : S4x1536.Idx) = ix2 r j := by
    blk_ext [idx6]
  blk_simp [iblk]
  exact (congrArg (V m c main_v21 : Vec Ideal S4x1536 .f32) e).trans (V_w m c _ _)

theorem blk7 (t : Fin cfg0.N) (j : Fin 1536) : (iblk m c 7 t : Vec Ideal S1x1536 .f32) (ix2 0 j) = A6 m c (ix2 3 j) := by
  have ht := lt8 t
  have e : ((win0_7.blk t).view.emb (ix2 0 j) : S1x1536.Idx) = ix2 0 j := by
    blk_ext [idx7]
  blk_simp [iblk]
  exact (congrArg (V m c main_v24 : Vec Ideal S1x1536 .f32) e).trans (V_b m c _)

theorem blk8 (t : Fin cfg0.N) (k : Fin 128) : (iblk m c 8 t : Vec Ideal S1x128 .f32) (ix2 0 k) = if h : k.val < 16 then A7 m c (ix2 3 ⟨k.val, h⟩) else (0 : EReal) := by
  have ht := lt8 t
  have e : ((win0_8.blk t).view.emb (ix2 0 k) : S1x128.Idx) = ix2 0 k := by
    blk_ext [idx8]
  blk_simp [iblk]
  exact (congrArg (V m c main_v26 : Vec Ideal S1x128 .f32) e).trans (V_dtb m c _)

theorem blk9 (t : Fin cfg0.N) (k : Fin 128) : (iblk m c 9 t : Vec Ideal S1x128 .f32) (ix2 0 k) = if h : k.val < 16 then A8 m c (ix2 3 ⟨k.val, h⟩) else (0 : EReal) := by
  have ht := lt8 t
  have e : ((win0_9.blk t).view.emb (ix2 0 k) : S1x128.Idx) = ix2 0 k := by
    blk_ext [idx9]
  blk_simp [iblk]
  exact (congrArg (V m c main_v28 : Vec Ideal S1x128 .f32) e).trans (V_al m c _)

theorem blk10 (t : Fin cfg0.N) (k : Fin 1024) : (iblk m c 10 t : Vec Ideal S1x1024 .f32) (ix2 0 k) = A9 m c (ix2 3 (head k)) := by
  have ht := lt8 t
  have e : ((win0_10.blk t).view.emb (ix2 0 k) : S1x1024.Idx) = ix2 0 k := by
    blk_ext [idx10]
  blk_simp [iblk]
  exact (congrArg (V m c main_v30 : Vec Ideal S1x1024 .f32) e).trans (V_ds m c _)

theorem blk11 (t : Fin cfg0.N) (k : Fin 1024) : (iblk m c 11 t : Vec Ideal S1x1024 .f32) (ix2 0 k) = A10 m c (ix2 3 k) := by
  have ht := lt8 t
  have e : ((win0_11.blk t).view.emb (ix2 0 k) : S1x1024.Idx) = ix2 0 k := by
    blk_ext [idx11]
  blk_simp [iblk]
  exact (congrArg (V m c main_v32 : Vec Ideal S1x1024 .f32) e).trans (V_g m c _)

/-! ## A point's rows -/

theorem new_at (t : Fin cfg0.N) (j : Fin 1536) : newAt (grid0.coords t) (iblk m c 0 t) (iblk m c 1 t) j = A1 m c (ix3 (smp t) 0 j) := by
  have ht := lt8 t
  have hc := coord t
  unfold newAt smp
  split
  · rw [blk0, dif_pos (by simp only [hc]; exact ht)]
    simp only [hc]
  · rw [blk1, dif_pos (by simp only [hc]; exact ht)]
    exact congrArg (A1 m c) (congrArg₂ (fun (u : Fin 8) (v : Fin 1536) => ix3 u 0 v) (Fin.ext hc) (Fin.ext (by simp only; omega)))

theorem act_at (t : Fin cfg0.N) (j : Fin 1536) :
    actV (grid0.coords t) (iblk m c 0 t) (iblk m c 1 t) (iblk m c 4 t) (iblk m c 6 t) (iblk m c 7 t) (ix2 0 j)
      = act (A1 m c) (A3 m c) (A5 m c) (A6 m c) (smp t) j := by
  rw [actV_apply, new_at]
  simp only [blk4, blk6, blk7]
  rfl

theorem dt_at (t : Fin cfg0.N) (h : Fin 16) : dtAt (grid0.coords t) (iblk m c 2 t) (iblk m c 8 t) h = dt (A2 m c) (A7 m c) (smp t) h := by
  have ht := lt8 t
  have hc := coord t
  unfold dtAt dt smp
  rw [blk2, blk8, dif_pos h.isLt, dif_pos h.isLt, dif_pos ⟨by simp only [hc]; exact ht, h.isLt⟩]
  simp only [hc]

theorem dec_at (t : Fin cfg0.N) (h : Fin 16) :
    decAt (grid0.coords t) (iblk m c 2 t) (iblk m c 8 t) (iblk m c 9 t) h = dec (A2 m c) (A7 m c) (A8 m c) (smp t) h := by
  unfold decAt dec
  rw [dt_at, blk9, dif_pos h.isLt]

theorem z_at (t : Fin cfg0.N) (k : Fin 1024) : rowA (grid0.coords t) (iblk m c 3 t) (ix2 0 k) = A0 m c (ix3 (smp t) 0 k) := by
  have ht := lt8 t
  have hc := coord t
  unfold smp
  rw [rowA_apply, blk3, dif_pos (by simp only [hc]; exact ht)]
  simp only [hc]

end

end Cert.Step
end
-- ==== Proof.StepFin.lean ====
module

public import proofs.«01_k».proof.Proof.Step

@[expose] public section

set_option maxRecDepth 16384

noncomputable section

/-! One sample's step: the result arrays after the run, for finite arguments. -/

namespace Cert.Step

open Cert.Proj Cert.Kernel6Ideal Cert.Kernel6Ideal.Gen Cert.Kernel6Ideal.Facts Idealize.ShloMosaic Idealize.ShloMosaic.TcCoe Idealize.SL.Sem

/-! ## Real numbers -/

/-- The number is real. -/
def IsReal (x : EReal) : Prop := ∃ r : ℝ, x = (r : EReal)

theorem IsReal.of {x : EReal} (h : x = (EReal.toReal x : EReal)) : IsReal x := ⟨_, h⟩

theorem IsReal.sub {x : EReal} (h : IsReal x) : x - x = 0 := by
  obtain ⟨r, rfl⟩ := h
  rw [← EReal.coe_sub, sub_self]; rfl

theorem IsReal.add {x y : EReal} (h : IsReal x) (h' : IsReal y) : IsReal (x + y) := by
  obtain ⟨r, rfl⟩ := h
  obtain ⟨q, rfl⟩ := h'
  exact ⟨r + q, (EReal.coe_add _ _).symm⟩

theorem IsReal.mul {x y : EReal} (h : IsReal x) (h' : IsReal y) : IsReal (x * y) := by
  obtain ⟨r, rfl⟩ := h
  obtain ⟨q, rfl⟩ := h'
  exact ⟨r * q, (EReal.coe_mul _ _).symm⟩

theorem IsReal.exp {x : EReal} (h : IsReal x) : IsReal (Ideal.exp x) := by
  obtain ⟨r, rfl⟩ := h
  exact ⟨Real.exp r, Ideal.exp_coe ..⟩

theorem IsReal.neg {x : EReal} (h : IsReal x) : IsReal (0 - x) := by
  obtain ⟨r, rfl⟩ := h
  exact ⟨0 - r, (EReal.coe_sub 0 r).symm⟩

theorem IsReal.soft {x : EReal} (h : IsReal x) : IsReal (soft x) := by
  obtain ⟨r, rfl⟩ := h
  exact ⟨Cert.Att.sp r, Cert.Att.drop_coe r⟩

theorem IsReal.silu {x : EReal} (h : IsReal x) : IsReal (silu x) := by
  refine h.mul ?_
  obtain ⟨r, rfl⟩ := h
  have hp : 0 < 1 + Real.exp (-r) := by positivity
  have h1 : (1 : EReal) = ((1 : ℝ) : EReal) := rfl
  refine ⟨1 * (1 + Real.exp (-r))⁻¹, ?_⟩
  unfold Ideal.logistic Ideal.div
  rw [← EReal.coe_neg, Ideal.exp_coe, h1, ← EReal.coe_add, if_neg (fun h => hp.ne' (EReal.coe_eq_zero.1 h)), ← EReal.coe_inv, ← EReal.coe_mul]

/-- The decay is finite whatever the decay rate's logarithm is. -/
theorem IsReal.decay {r : ℝ} (hr : 0 < r) (x : EReal) : IsReal (Ideal.exp ((r : EReal) * (0 - Ideal.exp x))) := by
  induction x with
  | coe x => exact (IsReal.mul ⟨r, rfl⟩ (IsReal.neg (IsReal.exp ⟨x, rfl⟩))).exp
  | bot =>
    rw [show Ideal.exp ⊥ = 0 from rfl, sub_zero, mul_zero]
    exact IsReal.exp ⟨0, rfl⟩
  | top =>
    rw [show Ideal.exp ⊤ = ⊤ from rfl, show (0 : EReal) - ⊤ = ⊥ from rfl, EReal.coe_mul_bot_of_pos hr]
    exact ⟨0, rfl⟩

section
variable (m : (ℓ : Loc nD τ sig) → Buf (Elt Ideal) ℓ) (c : Dev nD)

section
variable (h1 : ∀ i, A1 m c i = (EReal.toReal (A1 m c i) : EReal)) (h3 : ∀ i, A3 m c i = (EReal.toReal (A3 m c i) : EReal)) (h5 : ∀ i, A5 m c i = (EReal.toReal (A5 m c i) : EReal)) (h6 : ∀ i, A6 m c i = (EReal.toReal (A6 m c i) : EReal))
include h1 h3 h5 h6

theorem act_real (b : Fin 8) (j : Fin 1536) : IsReal (act (A1 m c) (A3 m c) (A5 m c) (A6 m c) b j) :=
  IsReal.silu (((((IsReal.of (h6 _)).add ((IsReal.of (h3 _)).mul (IsReal.of (h5 _)))).add ((IsReal.of (h3 _)).mul (IsReal.of (h5 _)))).add
    ((IsReal.of (h3 _)).mul (IsReal.of (h5 _)))).add ((IsReal.of (h1 _)).mul (IsReal.of (h5 _))))

end

/-- The time step is a positive number. -/
theorem dt_pos (h2 : ∀ i, A2 m c i = (EReal.toReal (A2 m c i) : EReal)) (h7 : ∀ i, A7 m c i = (EReal.toReal (A7 m c i) : EReal)) (b : Fin 8) (h : Fin 16) :
    ∃ r : ℝ, 0 < r ∧ dt (A2 m c) (A7 m c) b h = (r : EReal) := by
  obtain ⟨x, hx⟩ := (IsReal.of (h2 (ix3 b 0 h))).add (IsReal.of (h7 (ix2 3 h)))
  exact ⟨Cert.Att.sp x, Real.log_pos (by have := Real.exp_pos x; linarith), (congrArg soft hx).trans (Cert.Att.drop_coe x)⟩

theorem dt_real (h2 : ∀ i, A2 m c i = (EReal.toReal (A2 m c i) : EReal)) (h7 : ∀ i, A7 m c i = (EReal.toReal (A7 m c i) : EReal)) (b : Fin 8) (h : Fin 16) : IsReal (dt (A2 m c) (A7 m c) b h) := by
  obtain ⟨r, -, e⟩ := dt_pos m c h2 h7 b h
  exact ⟨r, e⟩

theorem dec_real (h2 : ∀ i, A2 m c i = (EReal.toReal (A2 m c i) : EReal)) (h7 : ∀ i, A7 m c i = (EReal.toReal (A7 m c i) : EReal))
    (b : Fin 8) (h : Fin 16) : IsReal (dec (A2 m c) (A7 m c) (A8 m c) b h) := by
  obtain ⟨r, hr, e⟩ := dt_pos m c h2 h7 b h
  unfold dec
  rw [e]
  exact IsReal.decay hr _

/-! ## The result arrays after the run -/

theorem final13 : (dats m 0 c).arrAt 13 cfg0.N = arr3 (rowsOf (A1 m c) (A3 m c)) := by
  refine (dats m 0 c).arrAt_eq_of_covers 13 _ (by decide +kernel) fun t hf y => ?_
  blk_simp
  rw [after0_13]
  have ht := lt8 t
  have e : ((win0_13.blk t).view.emb (ix3 0 (y 1) (y 2)) : S8x3x1536.Idx) = ix3 (smp t) (y 1) (y 2) := by
    unfold smp
    blk_ext [idx13]
  have h : ∀ (r : Fin 3) (j : Fin 1536), (outsAt0 m c t).2.1 (ix3 0 r j) = rowsOf (A1 m c) (A3 m c) (smp t) r j := fun r j => by
    unfold outsAt0
    dsimp only
    rw [conv_out, new_at, blk4, blk4]
    rfl
  refine ((congrArg ((outsAt0 m c t).2.1) (one3 y)).trans (h (y 1) (y 2))).trans ?_
  exact ((congrArg (fun z => arr3 (rowsOf (A1 m c) (A3 m c)) ((win0_13.blk t).view.emb z)) (one3 y)).trans (congrArg (arr3 (rowsOf (A1 m c) (A3 m c))) e)).symm

section
variable (h1 : ∀ i, A1 m c i = (EReal.toReal (A1 m c i) : EReal)) (h2 : ∀ i, A2 m c i = (EReal.toReal (A2 m c i) : EReal)) (h3 : ∀ i, A3 m c i = (EReal.toReal (A3 m c i) : EReal))
  (h5 : ∀ i, A5 m c i = (EReal.toReal (A5 m c i) : EReal)) (h6 : ∀ i, A6 m c i = (EReal.toReal (A6 m c i) : EReal)) (h7 : ∀ i, A7 m c i = (EReal.toReal (A7 m c i) : EReal))
include h1 h2 h3 h5 h6 h7

theorem final14 : (dats m 0 c).arrAt 14 cfg0.N = arr3 (nextOf (A1 m c) (A2 m c) (A3 m c) (A4 m c) (A5 m c) (A6 m c) (A7 m c) (A8 m c)) := by
  refine (dats m 0 c).arrAt_eq_of_covers 14 _ (by decide +kernel) fun t hf y => ?_
  blk_simp
  rw [after0_14]
  have ht := lt8 t
  have e : ((win0_14.blk t).view.emb (ix3 0 (y 1) (y 2)) : S8x1024x128.Idx) = ix3 (smp t) (y 1) (y 2) := by
    unfold smp
    blk_ext [idx14]
  have ha := act_real m c h1 h3 h5 h6 (smp t)
  have hd := dt_real m c h2 h7 (smp t)
  have hc := dec_real m c h2 h7 (smp t)
  have h : ∀ (r : Fin 1024) (n : Fin 128), (outsAt0 m c t).2.2 (ix3 0 r n) = nextOf (A1 m c) (A2 m c) (A3 m c) (A4 m c) (A5 m c) (A6 m c) (A7 m c) (A8 m c) (smp t) r n := fun r n => by
    unfold outsAt0
    dsimp only
    rw [state_out]
    split
    · rw [loV_apply (actV (grid0.coords t) (iblk m c 0 t) (iblk m c 1 t) (iblk m c 4 t) (iblk m c 6 t) (iblk m c 7 t)) (dtV (grid0.coords t) (iblk m c 2 t) (iblk m c 8 t)) (decV (grid0.coords t) (iblk m c 2 t) (iblk m c 8 t) (iblk m c 9 t)) (iblk m c 5 t)
        (dt (A2 m c) (A7 m c) (smp t)) (dec (A2 m c) (A7 m c) (A8 m c) (smp t))
        (fun k => (dtV_apply _ _ _ k).trans (dt_at m c t _)) (fun k => (decV_apply _ _ _ _ k).trans (dec_at m c t _))
        (fun j => by rw [act_at]; exact (ha j).sub) (fun k => by rw [act_at]; exact ((ha _).mul (hd _)).sub) (fun h => (hc h).sub)]
      simp only [act_at, blk5]
      rfl
    · rw [hiV_apply (actV (grid0.coords t) (iblk m c 0 t) (iblk m c 1 t) (iblk m c 4 t) (iblk m c 6 t) (iblk m c 7 t)) (dtV (grid0.coords t) (iblk m c 2 t) (iblk m c 8 t)) (decV (grid0.coords t) (iblk m c 2 t) (iblk m c 8 t) (iblk m c 9 t)) (iblk m c 5 t)
        (dt (A2 m c) (A7 m c) (smp t)) (dec (A2 m c) (A7 m c) (A8 m c) (smp t))
        (fun k => (dtV_apply _ _ _ k).trans (dt_at m c t _)) (fun k => (decV_apply _ _ _ _ k).trans (dec_at m c t _))
        (fun j => by rw [act_at]; exact (ha j).sub) (fun k => by rw [act_at]; exact ((ha _).mul (hd _)).sub) (fun h => (hc h).sub)]
      simp only [act_at, blk5]
      exact congrArg (fun k => nextOf (A1 m c) (A2 m c) (A3 m c) (A4 m c) (A5 m c) (A6 m c) (A7 m c) (A8 m c) (smp t) k n) (Fin.ext (by simp only; omega))
  refine ((congrArg ((outsAt0 m c t).2.2) (one3 y)).trans (h (y 1) (y 2))).trans ?_
  exact ((congrArg (fun z => arr3 (nextOf (A1 m c) (A2 m c) (A3 m c) (A4 m c) (A5 m c) (A6 m c) (A7 m c) (A8 m c))
    ((win0_14.blk t).view.emb z)) (one3 y)).trans (congrArg (arr3 (nextOf (A1 m c) (A2 m c) (A3 m c) (A4 m c) (A5 m c) (A6 m c) (A7 m c) (A8 m c))) e)).symm

theorem final12 (h4 : ∀ i, A4 m c i = (EReal.toReal (A4 m c i) : EReal)) : (dats m 0 c).arrAt 12 cfg0.N
    = arr3 (yOf (A0 m c) (A1 m c) (A2 m c) (A3 m c) (A4 m c) (A5 m c) (A6 m c) (A7 m c) (A8 m c) (A9 m c) (A10 m c)) := by
  refine (dats m 0 c).arrAt_eq_of_covers 12 _ (by decide +kernel) fun t hf y => ?_
  blk_simp
  rw [after0_12]
  have ht := lt8 t
  have hy : y = ix3 0 0 (y 2) := (one3 y).trans (congrArg (fun u => ix3 0 u (y 2)) (Subsingleton.elim (α := Fin 1) _ _))
  have e : ((win0_12.blk t).view.emb (ix3 0 0 (y 2)) : S8x1x1024.Idx) = ix3 (smp t) 0 (y 2) := by
    unfold smp
    blk_ext [idx12]
  have ha := act_real m c h1 h3 h5 h6 (smp t)
  have h : ∀ k : Fin 1024, (outsAt0 m c t).1 (ix3 0 0 k)
      = yOf (A0 m c) (A1 m c) (A2 m c) (A3 m c) (A4 m c) (A5 m c) (A6 m c) (A7 m c) (A8 m c) (A9 m c) (A10 m c) (smp t) 0 k := fun k => by
    unfold outsAt0
    dsimp only
    rw [y_out]
    rw [normV_apply (actV (grid0.coords t) (iblk m c 0 t) (iblk m c 1 t) (iblk m c 4 t) (iblk m c 6 t) (iblk m c 7 t)) (dtV (grid0.coords t) (iblk m c 2 t) (iblk m c 8 t)) (decV (grid0.coords t) (iblk m c 2 t) (iblk m c 8 t) (iblk m c 9 t)) (iblk m c 5 t) (iblk m c 10 t) (rowA (grid0.coords t) (iblk m c 3 t)) (iblk m c 11 t)
      (dt (A2 m c) (A7 m c) (smp t)) (dec (A2 m c) (A7 m c) (A8 m c) (smp t))
      (fun k => (dtV_apply _ _ _ k).trans (dt_at m c t _)) (fun k => (decV_apply _ _ _ _ k).trans (dec_at m c t _))
      (fun j => by rw [act_at]; exact (ha j).sub) (fun k n => by rw [blk5]; exact (IsReal.of (h4 _)).sub)]
    simp only [act_at, blk5, blk10, blk11, z_at]
    rfl
  refine ((congrArg ((outsAt0 m c t).1) hy).trans (h (y 2))).trans ?_
  exact ((congrArg (fun z => arr3 (yOf (A0 m c) (A1 m c) (A2 m c) (A3 m c) (A4 m c) (A5 m c) (A6 m c) (A7 m c) (A8 m c) (A9 m c) (A10 m c))
    ((win0_12.blk t).view.emb z)) hy).trans (congrArg (arr3 (yOf (A0 m c) (A1 m c) (A2 m c) (A3 m c) (A4 m c) (A5 m c) (A6 m c) (A7 m c) (A8 m c) (A9 m c) (A10 m c))) e)).symm

end

end

end Cert.Step
end
-- ==== Proof.StepRef.lean ====
module

public import proofs.«01_k».proof.Proof.Step
public import proofs.«01_k».proof.Proof.RefAt
public import proofs.«01_k».proof.Proof.Gen.Reference6Ideal.Run
public import proofs.«01_k».proof.Proof.Gen.Reference6Ideal.Read

@[expose] public section

set_option maxRecDepth 16384

noncomputable section

/-! One sample's step: the reference's three results, read at an index. -/

namespace Cert.Step.Ref

open Cert.Reference6Ideal Cert.Reference6Ideal.Gen Cert.Reference6Ideal.Read Cert.Reference6Ideal.Facts Idealize.ShloMosaic Idealize.ShloMosaic.TcCoe Idealize.SL.Sem

variable (x0 : Vec Ideal S8x1x1024 .f32) (x1 : Vec Ideal S8x1x1536 .f32) (x2 : Vec Ideal S8x1x16 .f32) (x3 : Vec Ideal S4x8x3x1536 .f32)
  (x4 : Vec Ideal S4x8x16x64x128 .f32) (x5 : Vec Ideal S4x4x1536 .f32) (x6 : Vec Ideal S4x1536 .f32) (x7 x8 x9 : Vec Ideal S4x16 .f32)
  (x10 : Vec Ideal S4x1024 .f32)

theorem conv_at (b : Fin 8) (j : Fin 1536) : val_main_v46 (F := Ideal) x1 x3 x5 x6 (ix2 b j) = conv x1 x3 x5 x6 b j := by
  unfold conv
  pointwise [val_main_v46, val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v4, val_main_v3, val_main_v2, val_main_v1, val_main_v0]

theorem act_at (b : Fin 8) (j : Fin 1536) : val_main_v47 (F := Ideal) x1 x3 x5 x6 (ix2 b j) = act x1 x3 x5 x6 b j := by
  unfold act silu Ideal.logistic
  rw [← conv_at, ← Norm.one_f32]
  pointwise [val_main_v47, val_main_call0_v5, val_main_call0_v4, val_main_call0_v3, val_main_call0_v2, val_main_call0_v1, val_main_call0_v0,
    val_main_call0_cst, val_main_call0_cst_0]

theorem rows_at (b : Fin 8) (r : Fin 3) (j : Fin 1536) : val_main_v125 (F := Ideal) x1 x3 (ix3 b r j) = rowsOf x1 x3 b r j := by
  unfold rowsOf
  pointwise [val_main_v125, val_main_v2, val_main_v1, val_main_v0]
  obtain ⟨r, hr⟩ := r
  rcases (show r = 0 ∨ r = 1 ∨ r = 2 by omega) with rfl | rfl | rfl
  · exact (dif_pos (show 1 + 0 < 3 by decide)).trans rfl
  · exact (dif_pos (show 1 + 1 < 3 by decide)).trans rfl
  · exact (dif_neg (show ¬1 + 2 < 3 by decide)).trans rfl

theorem dt_at (h2 : ∀ i, x2 i = (EReal.toReal (x2 i) : EReal)) (h7 : ∀ i, x7 i = (EReal.toReal (x7 i) : EReal)) (b : Fin 8) (h : Fin 16) :
    val_main_v60 (F := Ideal) x2 x7 (ix2 b h) = dt x2 x7 b h := by
  unfold dt
  have e : x2 (ix3 b 0 h) + x7 (ix2 3 h) = ((EReal.toReal (x2 (ix3 b 0 h)) + EReal.toReal (x7 (ix2 3 h)) : ℝ) : EReal) := by
    rw [EReal.coe_add, ← h2, ← h7]
  rw [e]
  refine Eq.trans ?_ ((Cert.Att.Ref.soft_coe _).trans (Cert.Att.drop_coe _).symm)
  rw [← e]
  pointwise [val_main_v60, val_main_call1_v11, val_main_call1_v10, val_main_call1_v9, val_main_call1_v8, val_main_call1_v7, val_main_call1_v6, val_main_call1_v5,
    val_main_call1_v4, val_main_call1_v3, val_main_call1_v2, val_main_call1_v1, val_main_call1_v0, val_main_call1_cst, val_main_v59, val_main_v58, val_main_v57, val_main_v56, val_main_v55, val_main_v54]
  rfl

theorem dec_at (b : Fin 8) (h : Fin 16) :
    val_main_v68 (F := Ideal) x2 x7 x8 (ix2 b h)
      = Ideal.exp (val_main_v60 (F := Ideal) x2 x7 (ix2 b h) * (0 - Ideal.exp (x8 (ix2 3 h)))) := by
  rw [zero_sub]
  pointwise [val_main_v68, val_main_v67, val_main_v66, val_main_v65, val_main_v64, val_main_v63, val_main_v62, val_main_v61]

theorem next_at (b : Fin 8) (k : Fin 1024) (n : Fin 128) :
    val_main_v126 (F := Ideal) x1 x2 x3 x4 x5 x6 x7 x8 (ix3 b k n)
      = val_main_v68 (F := Ideal) x2 x7 x8 (ix2 b (head k)) * st x4 b k n
        + val_main_v47 (F := Ideal) x1 x3 x5 x6 (ix2 b ⟨k.val, by omega⟩) * val_main_v60 (F := Ideal) x2 x7 (ix2 b (head k))
          * val_main_v47 (F := Ideal) x1 x3 x5 x6 (ix2 b ⟨1024 + 128 * (k.val / 512) + n.val, by omega⟩) := by
  have e1 : k.val / 512 * 8 + k.val / 64 % 8 = k.val / 64 := by omega
  have e2 : k.val / 512 * 128 = 128 * (k.val / 512) := by omega
  unfold st head
  pointwise [val_main_v126, val_main_v85, val_main_v84, val_main_v83, val_main_v82, val_main_v81, val_main_v80, val_main_v79, val_main_v78, val_main_v77, val_main_v76,
    val_main_v75, val_main_v74, val_main_v73, val_main_v72, val_main_v71, val_main_v70, val_main_v69, val_main_v49, val_main_v48, val_main_v51, val_main_v50]
  simp only [e1, e2, Nat.add_assoc]

theorem gate_at (b : Fin 8) (k : Fin 1024) :
    val_main_v109 (F := Ideal) x0 x1 x2 x3 x4 x5 x6 x7 x8 x9 (ix3 b 0 k)
      = ((∑ n : Fin 128, val_main_v47 (F := Ideal) x1 x3 x5 x6 (ix2 b ⟨1280 + 128 * (k.val / 512) + n.val, by omega⟩)
            * val_main_v47 (F := Ideal) x1 x3 x5 x6 (ix2 b ⟨1024 + 128 * (k.val / 512) + n.val, by omega⟩))
          * (val_main_v47 (F := Ideal) x1 x3 x5 x6 (ix2 b ⟨k.val, by omega⟩) * val_main_v60 (F := Ideal) x2 x7 (ix2 b (head k)))
        + (∑ n : Fin 128, val_main_v47 (F := Ideal) x1 x3 x5 x6 (ix2 b ⟨1280 + 128 * (k.val / 512) + n.val, by omega⟩) * st x4 b k n)
          * val_main_v68 (F := Ideal) x2 x7 x8 (ix2 b (head k))
        + val_main_v47 (F := Ideal) x1 x3 x5 x6 (ix2 b ⟨k.val, by omega⟩) * x9 (ix2 3 (head k))) * silu (x0 (ix3 b 0 k)) := by
  have e1 : k.val / 512 * 8 + k.val / 64 % 8 = k.val / 64 := by omega
  have e2 : k.val / 512 * 128 = 128 * (k.val / 512) := by omega
  unfold st head silu Ideal.logistic
  rw [← Norm.one_f32]
  pointwise [val_main_v109, val_main_v108, val_main_call2_v5, val_main_call2_v4, val_main_call2_v3, val_main_call2_v2, val_main_call2_v1,
    val_main_call2_v0, val_main_call2_cst, val_main_call2_cst_0, val_main_v107, val_main_v106, val_main_v105, val_main_v104, val_main_v103, val_main_v102, val_main_v101, val_main_v100, val_main_v99,
    val_main_v98, val_main_v97, val_main_v96, val_main_v95, val_main_v94, val_main_v93, val_main_v92, val_main_v91, val_main_v90, val_main_v89,
    val_main_v88, val_main_v87, val_main_v86,
    val_main_v76, val_main_v75, val_main_v74, val_main_v73, val_main_v72, val_main_v71, val_main_v70, val_main_v69, val_main_v53, val_main_v52,
    val_main_v51, val_main_v50, val_main_v49, val_main_v48, val_main_cst, val_main_cst_0]
  simp only [e1, e2, Nat.add_assoc]

theorem y_at (b : Fin 8) (k : Fin 1024) :
    val_main_v124 (F := Ideal) x0 x1 x2 x3 x4 x5 x6 x7 x8 x9 x10 (ix3 b 0 k)
      = rms (fun k => val_main_v109 (F := Ideal) x0 x1 x2 x3 x4 x5 x6 x7 x8 x9 (ix3 b 0 k)) (fun k => x10 (ix2 3 k)) k := by
  unfold rms
  pointwise [val_main_v124, val_main_v123, val_main_v122, val_main_v121, val_main_v120, val_main_v119, val_main_v118, val_main_v117, val_main_v116,
    val_main_v115, val_main_v114, val_main_v113, val_main_v112, val_main_v111, val_main_v110, val_main_cst_1, val_main_cst_2, val_main_cst_3]

/-! ## The three results -/

theorem next_of (h2 : ∀ i, x2 i = (EReal.toReal (x2 i) : EReal)) (h7 : ∀ i, x7 i = (EReal.toReal (x7 i) : EReal)) (b : Fin 8) (k : Fin 1024)
    (n : Fin 128) : val_main_v126 (F := Ideal) x1 x2 x3 x4 x5 x6 x7 x8 (ix3 b k n) = nextOf x1 x2 x3 x4 x5 x6 x7 x8 b k n := by
  rw [next_at, dec_at, dt_at x2 x7 h2 h7, act_at, act_at]
  rfl

theorem y_of (h2 : ∀ i, x2 i = (EReal.toReal (x2 i) : EReal)) (h7 : ∀ i, x7 i = (EReal.toReal (x7 i) : EReal)) (b : Fin 8) (u : Fin 1)
    (k : Fin 1024) : val_main_v124 (F := Ideal) x0 x1 x2 x3 x4 x5 x6 x7 x8 x9 x10 (ix3 b u k) = yOf x0 x1 x2 x3 x4 x5 x6 x7 x8 x9 x10 b u k := by
  rw [Subsingleton.elim u 0, y_at]
  unfold yOf
  refine congrArg (fun f => rms f (fun k => x10 (ix2 3 k)) k) (funext fun k => ?_)
  rw [gate_at, dec_at, dt_at x2 x7 h2 h7]
  simp only [act_at]
  rfl

end Cert.Step.Ref
end
-- ==== Proof.StepAlg.lean ====
module

public import proofs.«01_k».proof.Defs
public import proofs.«01_k».proof.Proof.StepFin
public import proofs.«01_k».proof.Proof.StepRef
public import proofs.«01_k».proof.Proof.Alg
public import Idealize.ShloMosaic.Lib.ReduceAll
public import Idealize.ShloMosaic.Lib.Claim

@[expose] public section

set_option maxRecDepth 16384

noncomputable section

/-! One sample's step: its claims, from the kernel's run and its reference's. -/

namespace Cert.Step

open Cert.Proj Idealize.ShloMosaic Idealize.ShloMosaic.TcCoe Idealize.SL.Sem

theorem preFacts : Cert.Pre_finite_step.Facts :=
  ⟨by decide, by decide, by decide, by decide, by decide, by decide, by decide, by decide, by decide, by decide, by decide, by decide, by decide, by decide, by decide⟩

instance : Subsingleton Cert.Pre_finite_step.S_.Idx := ⟨fun _ _ => funext fun a => a.elim0⟩

/-- An array of which every absolute value is found below infinity holds real numbers. -/
theorem all_real {s : Shape} {d : List (Fin s.rank)} (a : FVec Ideal s .f32) (hb : Cert.Pre_finite_step.S_.BroadcastsInDim s (![] : Fin 0 → Fin s.rank))
    (h : s.ReducesTo d Cert.Pre_finite_step.S_) (hu : 0 < Cert.Pre_finite_step.S_.numel)
    (e : Host.reduce IntOp.andi (cmpf .olt (Host.absf a) (broadcastInDim s ![] hb (constant (F := Ideal) Cert.Pre_finite_step.S_ .f32 0x7F800000#32)))
      (constantI Cert.Pre_finite_step.S_ 1 1#1) h hu ix0 = 1#1) (i : s.Idx) : a i = (EReal.toReal (a i) : EReal) :=
  Cert.Att.real_of_cmp (Host.reduce_andi_all _ _ h hu ix0 e i)

open Cert.Pre_finite_step in
/-- What the precondition says of its arrays. -/
theorem reals (hP : Cert.Pre_finite_step.Facts) (a0 : FVec Ideal S8x1x1024 .f32) (a1 : FVec Ideal S8x1x1536 .f32) (a2 : FVec Ideal S8x1x16 .f32)
    (a3 : FVec Ideal S4x8x3x1536 .f32) (a4 : FVec Ideal S4x8x16x64x128 .f32) (a5 : FVec Ideal S4x4x1536 .f32) (a6 : FVec Ideal S4x1536 .f32)
    (a7 a8 a9 : FVec Ideal S4x16 .f32) (a10 : FVec Ideal S4x1024 .f32)
    (h : Cert.Pre_finite_step.fn (F := Ideal) a0 a1 a2 a3 a4 a5 a6 a7 a8 a9 a10 = fun _ => 1#1) :
    (∀ i, a1 i = (EReal.toReal (a1 i) : EReal)) ∧ (∀ i, a2 i = (EReal.toReal (a2 i) : EReal)) ∧ (∀ i, a3 i = (EReal.toReal (a3 i) : EReal))
      ∧ (∀ i, a4 i = (EReal.toReal (a4 i) : EReal)) ∧ (∀ i, a5 i = (EReal.toReal (a5 i) : EReal)) ∧ (∀ i, a6 i = (EReal.toReal (a6 i) : EReal))
      ∧ ∀ i, a7 i = (EReal.toReal (a7 i) : EReal) := by
  unfold fn fn_part1 at h
  dsimp only at h
  obtain ⟨h, p7⟩ := Cert.Att.and_one (congrFun h ix0)
  obtain ⟨h, p6⟩ := Cert.Att.and_one h
  obtain ⟨h, p5⟩ := Cert.Att.and_one h
  obtain ⟨h, p4⟩ := Cert.Att.and_one h
  obtain ⟨h, p3⟩ := Cert.Att.and_one h
  obtain ⟨p1, p2⟩ := Cert.Att.and_one h
  exact ⟨all_real a1 _ _ _ p1, all_real a2 _ _ _ p2, all_real a3 _ _ _ p3, all_real a4 _ _ _ p4, all_real a5 _ _ _ p5, all_real a6 _ _ _ p6,
    all_real a7 _ _ _ p7⟩

theorem eq_arr3 {a b c : ℕ} (v : Vec Ideal ⟨3, ![a, b, c]⟩ .f32) (f : Fin a → Fin b → Fin c → EReal) (h : ∀ i j k, v (ix3 i j k) = f i j k) :
    v = arr3 f :=
  funext fun i => (congrArg v (ix3_self i)).trans (h _ _ _)

theorem ref_frame : Cert.quiescent_Reference6Ideal (hReference6Ideal := Cert.Reference6Ideal.Gen.facts) := fun m ρ _ =>
  θ_run_mono (Cert.Reference6Ideal.Value.run (F := Ideal) m ρ) fun r h => ⟨fun c => (h c).2.2.2, sem_eq_zero_of_no_sems (by decide) r.2⟩

theorem algebraic : Cert.algebraic_Kernel6Ideal_Reference6Ideal_pre_finite_step (hKernel6Ideal := Cert.Kernel6Ideal.Gen.facts)
    (hReference6Ideal := Cert.Reference6Ideal.Gen.facts) (hPre_finite_step := preFacts) := by
  intro m g m' g' hpre hargs
  have hr := fun c => reals preFacts _ _ _ _ _ _ _ _ _ _ _ (hpre c)
  refine ⟨fun c => arr3 (yOf (A0 m c) (A1 m c) (A2 m c) (A3 m c) (A4 m c) (A5 m c) (A6 m c) (A7 m c) (A8 m c) (A9 m c) (A10 m c)),
    fun c => arr3 (rowsOf (A1 m c) (A3 m c)),
    fun c => arr3 (nextOf (A1 m c) (A2 m c) (A3 m c) (A4 m c) (A5 m c) (A6 m c) (A7 m c) (A8 m c)), ?_, ?_⟩
  · refine θ_run_mono (Cert.Kernel6Ideal.Value.run_blocks (F := Ideal) m g) fun r h c => ?_
    obtain ⟨h1, h2, h3, h4, h5, h6, h7⟩ := hr c
    exact ⟨(h c).1.trans (final12 m c h1 h2 h3 h5 h6 h7 h4), (h c).2.1.trans (final13 m c),
      (h c).2.2.1.trans (final14 m c h1 h2 h3 h5 h6 h7), (h c).2.2.2⟩
  · refine θ_run_mono (Cert.Reference6Ideal.Value.run (F := Ideal) m' g') fun r h c => ?_
    obtain ⟨-, h2, -, -, -, -, h7⟩ := hr c
    obtain ⟨e0, e1, e2, e3, e4, e5, e6, e7, e8, e9, e10⟩ := hargs c
    refine ⟨(h c).1.trans ?_, (h c).2.1.trans ?_, (h c).2.2.1.trans ?_, (h c).2.2.2⟩
    · refine (Cert.Reference6Ideal.Read.val_main_v124_eq _).trans ?_
      refine Eq.trans (b := Cert.Reference6Ideal.Read.val_main_v124 (F := Ideal) (m' ((c : Thread Cert.Reference6Ideal.nD
        Cert.Reference6Ideal.τ).loc Cert.Reference6Ideal.main_arg0)) (m' ((c : Thread Cert.Reference6Ideal.nD Cert.Reference6Ideal.τ).loc
        Cert.Reference6Ideal.main_arg1)) (m' ((c : Thread Cert.Reference6Ideal.nD Cert.Reference6Ideal.τ).loc Cert.Reference6Ideal.main_arg2)) (m' ((c
        : Thread Cert.Reference6Ideal.nD Cert.Reference6Ideal.τ).loc Cert.Reference6Ideal.main_arg3)) (m' ((c : Thread Cert.Reference6Ideal.nD
        Cert.Reference6Ideal.τ).loc Cert.Reference6Ideal.main_arg4)) (m' ((c : Thread Cert.Reference6Ideal.nD Cert.Reference6Ideal.τ).loc
        Cert.Reference6Ideal.main_arg5)) (m' ((c : Thread Cert.Reference6Ideal.nD Cert.Reference6Ideal.τ).loc Cert.Reference6Ideal.main_arg6)) (m' ((c
        : Thread Cert.Reference6Ideal.nD Cert.Reference6Ideal.τ).loc Cert.Reference6Ideal.main_arg7)) (m' ((c : Thread Cert.Reference6Ideal.nD
        Cert.Reference6Ideal.τ).loc Cert.Reference6Ideal.main_arg8)) (m' ((c : Thread Cert.Reference6Ideal.nD Cert.Reference6Ideal.τ).loc
        Cert.Reference6Ideal.main_arg9)) (m' ((c : Thread Cert.Reference6Ideal.nD Cert.Reference6Ideal.τ).loc Cert.Reference6Ideal.main_arg10))) rfl
        ?_
      rw [e0, e1, e2, e3, e4, e5, e6, e7, e8, e9, e10]
      exact eq_arr3 _ _ (Ref.y_of _ _ _ _ _ _ _ _ _ _ _ h2 h7)
    · refine (Cert.Reference6Ideal.Read.val_main_v125_eq _).trans ?_
      refine Eq.trans (b := Cert.Reference6Ideal.Read.val_main_v125 (F := Ideal) (m' ((c : Thread Cert.Reference6Ideal.nD
        Cert.Reference6Ideal.τ).loc Cert.Reference6Ideal.main_arg1)) (m' ((c : Thread Cert.Reference6Ideal.nD Cert.Reference6Ideal.τ).loc
        Cert.Reference6Ideal.main_arg3))) rfl ?_
      rw [e1, e3]
      exact eq_arr3 _ _ (Ref.rows_at _ _)
    · refine (Cert.Reference6Ideal.Read.val_main_v126_eq _).trans ?_
      refine Eq.trans (b := Cert.Reference6Ideal.Read.val_main_v126 (F := Ideal) (m' ((c : Thread Cert.Reference6Ideal.nD
        Cert.Reference6Ideal.τ).loc Cert.Reference6Ideal.main_arg1)) (m' ((c : Thread Cert.Reference6Ideal.nD Cert.Reference6Ideal.τ).loc
        Cert.Reference6Ideal.main_arg2)) (m' ((c : Thread Cert.Reference6Ideal.nD Cert.Reference6Ideal.τ).loc Cert.Reference6Ideal.main_arg3)) (m' ((c
        : Thread Cert.Reference6Ideal.nD Cert.Reference6Ideal.τ).loc Cert.Reference6Ideal.main_arg4)) (m' ((c : Thread Cert.Reference6Ideal.nD
        Cert.Reference6Ideal.τ).loc Cert.Reference6Ideal.main_arg5)) (m' ((c : Thread Cert.Reference6Ideal.nD Cert.Reference6Ideal.τ).loc
        Cert.Reference6Ideal.main_arg6)) (m' ((c : Thread Cert.Reference6Ideal.nD Cert.Reference6Ideal.τ).loc Cert.Reference6Ideal.main_arg7)) (m' ((c
        : Thread Cert.Reference6Ideal.nD Cert.Reference6Ideal.τ).loc Cert.Reference6Ideal.main_arg8))) rfl ?_
      rw [e1, e2, e3, e4, e5, e6, e7, e8]
      exact eq_arr3 _ _ (Ref.next_of _ _ _ _ _ _ _ _ h2 h7)

end Cert.Step

end
-- ==== Proof.PleRow.lean ====
module

public import proofs.«01_k».proof.Defs
public import proofs.«01_k».proof.Proof.Norm
public import proofs.«01_k».proof.Proof.ProjVals
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Claim
public import Idealize.ShloMosaic.Lib.Pipeline.Value
public import Idealize.ShloMosaic.Lib.Pipeline.ValueKit.Geometry
public import Idealize.ShloMosaic.Lib.Pipeline.ValueKit.Acc

@[expose] public section

set_option maxRecDepth 16384

noncomputable section

/-! The gated embeddings of the eight samples: the kernel works on sixteen rows, of which the last eight are zeros and are cut off. -/

namespace Cert.PleRow

open Cert.Kernel7Ideal Cert.Kernel7Ideal.Gen Cert.Kernel7Ideal.Facts Idealize.ShloMosaic Idealize.ShloMosaic.TcCoe Idealize.SL.Sem
open Cert.Proj (arr2 arr3 ix2_self ix3_self zero_int)

/-! ## The result as a function of the arguments -/

section
variable (a0 : Vec Ideal S8x1x2048 .f32) (a1 : Vec Ideal S4x8x1x256 .f32) (a2 : Vec Ideal S4x2048 .f32)
  (a3 : Vec Ideal S4x2048x2048 .f32) (a4 : Vec Ideal S4x256x2048 .f32)

/-- A row's result from its hidden state and its embedding. -/
def mix (x : Fin 2048 → EReal) (p : Fin 256 → EReal) (k : Fin 2048) : EReal :=
  x k + Ideal.logistic (∑ j : Fin 2048, Norm.rms x (fun j => a2 (ix2 3 j)) j * a3 (ix3 3 j k)) * ∑ j : Fin 256, p j * a4 (ix3 3 j k)

/-- The result at a sample and a lane. -/
def out (b : Fin 8) (_ : Fin 1) (k : Fin 2048) : EReal := mix a2 a3 a4 (fun j => a0 (ix3 b 0 j)) (fun j => a1 (ix4 3 b 0 j)) k

/-- One of the sixteen rows: a sample's hidden state, or zeros. -/
def hid (r : Fin 16) (k : Fin 2048) : EReal := if h : r.val < 8 then a0 (ix3 ⟨r.val, h⟩ 0 k) else 0

/-- One of the sixteen rows: a sample's embedding, or zeros. -/
def emb (r : Fin 16) (j : Fin 256) : EReal := if h : r.val < 8 then a1 (ix4 3 ⟨r.val, h⟩ 0 j) else 0

/-- The result of all sixteen rows. -/
def rows (r : Fin 16) (k : Fin 2048) : EReal := mix a2 a3 a4 (hid a0 r) (emb a1 r) k

theorem rows_sample (r : Fin 16) (b : Fin 8) (h : r.val = b.val) (k : Fin 2048) : rows a0 a1 a2 a3 a4 r k = out a0 a1 a2 a3 a4 b 0 k := by
  have e0 : hid a0 r = fun j => a0 (ix3 b 0 j) := funext fun j => by
    unfold hid
    simp only [h, b.isLt, dif_pos, Fin.eta]
  have e1 : emb a1 r = fun j => a1 (ix4 3 b 0 j) := funext fun j => by
    unfold emb
    simp only [h, b.isLt, dif_pos, Fin.eta]
  rw [rows, out, e0, e1]

end

/-! ## The kernel -/

theorem pay_apply (x : Vec Ideal S16x2048 .f32) (g : Vec Ideal S1x1x2048 .f32) (w : Vec Ideal S1x2048x2048 .bf16) (p : Vec Ideal S1x16x256 .f32)
    (wp : Vec Ideal S1x256x2048 .bf16) (r : Fin 16) (k : Fin 2048) :
    k0_pay1 x g w p wp (ix2 r k)
      = x (ix2 r k) + Ideal.logistic (∑ j : Fin 2048, Norm.rms (fun j => x (ix2 r j)) (fun j => g (ix3 0 0 j)) j * w (ix3 0 j k))
        * ∑ j : Fin 256, p (ix3 0 r j) * wp (ix3 0 j k) := by
  unfold Norm.rms
  pointwise [k0_pay1]

theorem idx0 : ∀ t : Fin cfg0.N, win0_0.index t = ![0, 0] := (by decide +kernel : ∀ t : Fin grid0.N, _)
theorem idx1 : ∀ t : Fin cfg0.N, win0_1.index t = ![3, 0, 0] := (by decide +kernel : ∀ t : Fin grid0.N, _)
theorem idx2 : ∀ t : Fin cfg0.N, win0_2.index t = ![3, 0, 0] := (by decide +kernel : ∀ t : Fin grid0.N, _)
theorem idx3 : ∀ t : Fin cfg0.N, win0_3.index t = ![3, 0, 0] := (by decide +kernel : ∀ t : Fin grid0.N, _)
theorem idx4 : ∀ t : Fin cfg0.N, win0_4.index t = ![3, 0, 0] := (by decide +kernel : ∀ t : Fin grid0.N, _)
theorem idx5 : ∀ t : Fin cfg0.N, win0_5.index t = ![0, 0] := (by decide +kernel : ∀ t : Fin grid0.N, _)

section
variable (m : (ℓ : Loc nD τ sig) → Buf (Elt Ideal) ℓ) (c : Dev nD)

/-- The five arguments as the program is launched on them. -/
abbrev A0 : Vec Ideal S8x1x2048 .f32 := m ((c : Thread nD τ).loc main_arg0)
abbrev A1 : Vec Ideal S4x8x1x256 .f32 := m ((c : Thread nD τ).loc main_arg1)
abbrev A2 : Vec Ideal S4x2048 .f32 := m ((c : Thread nD τ).loc main_arg2)
abbrev A3 : Vec Ideal S4x2048x2048 .f32 := m ((c : Thread nD τ).loc main_arg3)
abbrev A4 : Vec Ideal S4x256x2048 .f32 := m ((c : Thread nD τ).loc main_arg4)

/-- The padding: zeros. -/
abbrev zeroPad : FVec Ideal S_ .f32 := sitofp (F := Ideal) .f32 (constantI S_ 32 0#32)

theorem pad_x : (V m c main_v3 : Vec Ideal S16x2048 .f32) = pad S16x2048 ![0, 0] ![8, 0] ![0, 0]
    (shapeCast S8x2048 (A0 m c) shapeCasts_S8x1x2048_S8x2048) zeroPad pads_S8x2048_S16x2048_080_000 h_S_ := by
  dsimp only [V, V0, hostOps0, hostOps0_1, hostOps0_2, hostOps0_3, hostOps0_4, List.flatten_cons, List.flatten_nil, List.append_nil, List.cons_append, List.nil_append]
  after_results
  rfl

theorem V_x (r : Fin 16) (k : Fin 2048) : (V m c main_v3 : Vec Ideal S16x2048 .f32) (ix2 r k) = hid (A0 m c) r k := by
  unfold hid
  rw [pad_x, ← zero_int]
  pointwise []

theorem pad_p : (V m c main_v1 : Vec Ideal S4x16x256 .f32) = pad S4x16x256 ![0, 0, 0] ![0, 8, 0] ![0, 0, 0]
    (shapeCast S4x8x256 (A1 m c) shapeCasts_S4x8x1x256_S4x8x256) zeroPad pads_S4x8x256_S4x16x256_000_080_000 h_S_ := by
  dsimp only [V, V0, hostOps0, hostOps0_1, hostOps0_2, hostOps0_3, hostOps0_4, List.flatten_cons, List.flatten_nil, List.append_nil, List.cons_append, List.nil_append]
  after_results
  rfl

theorem V_p (r : Fin 16) (j : Fin 256) : (V m c main_v1 : Vec Ideal S4x16x256 .f32) (ix3 3 r j) = emb (A1 m c) r j := by
  unfold emb
  rw [pad_p, ← zero_int]
  pointwise []

theorem V_g (l : Fin 4) (k : Fin 2048) : (V m c main_v4 : Vec Ideal S4x1x2048 .f32) (ix3 l 0 k) = A2 m c (ix2 l k) := by
  dsimp only [V, V0, hostOps0, hostOps0_1, hostOps0_2, hostOps0_3, hostOps0_4, List.flatten_cons, List.flatten_nil, List.append_nil, List.cons_append, List.nil_append]
  after_results
  pointwise []

theorem V_w (l : Fin 4) (j k : Fin 2048) : (V m c main_v5 : Vec Ideal S4x2048x2048 .bf16) (ix3 l j k) = A3 m c (ix3 l j k) := by
  dsimp only [V, V0, hostOps0, hostOps0_1, hostOps0_2, hostOps0_3, hostOps0_4, List.flatten_cons, List.flatten_nil, List.append_nil, List.cons_append, List.nil_append]
  after_results
  pointwise []

theorem V_wp (l : Fin 4) (j : Fin 256) (k : Fin 2048) : (V m c main_v6 : Vec Ideal S4x256x2048 .bf16) (ix3 l j k) = A4 m c (ix3 l j k) := by
  dsimp only [V, V0, hostOps0, hostOps0_1, hostOps0_2, hostOps0_3, hostOps0_4, List.flatten_cons, List.flatten_nil, List.append_nil, List.cons_append, List.nil_append]
  after_results
  pointwise []

theorem blk0 (t : Fin cfg0.N) (r : Fin 16) (k : Fin 2048) : (iblk m c 0 t : Vec Ideal S16x2048 .f32) (ix2 r k) = hid (A0 m c) r k := by
  have e : ((win0_0.blk t).view.emb (ix2 r k) : S16x2048.Idx) = ix2 r k := by
    blk_ext [idx0]
  blk_simp [iblk]
  exact (congrArg (V m c main_v3 : Vec Ideal S16x2048 .f32) e).trans (V_x m c _ _)

theorem blk1 (t : Fin cfg0.N) (r : Fin 16) (j : Fin 256) : (iblk m c 1 t : Vec Ideal S1x16x256 .f32) (ix3 0 r j) = emb (A1 m c) r j := by
  have e : ((win0_1.blk t).view.emb (ix3 0 r j) : S4x16x256.Idx) = ix3 3 r j := by
    blk_ext [idx1]
  blk_simp [iblk]
  exact (congrArg (V m c main_v1 : Vec Ideal S4x16x256 .f32) e).trans (V_p m c _ _)

theorem blk2 (t : Fin cfg0.N) (k : Fin 2048) : (iblk m c 2 t : Vec Ideal S1x1x2048 .f32) (ix3 0 0 k) = A2 m c (ix2 3 k) := by
  have e : ((win0_2.blk t).view.emb (ix3 0 0 k) : S4x1x2048.Idx) = ix3 3 0 k := by
    blk_ext [idx2]
  blk_simp [iblk]
  exact (congrArg (V m c main_v4 : Vec Ideal S4x1x2048 .f32) e).trans (V_g m c _ _)

theorem blk3 (t : Fin cfg0.N) (j k : Fin 2048) : (iblk m c 3 t : Vec Ideal S1x2048x2048 .bf16) (ix3 0 j k) = A3 m c (ix3 3 j k) := by
  have e : ((win0_3.blk t).view.emb (ix3 0 j k) : S4x2048x2048.Idx) = ix3 3 j k := by
    blk_ext [idx3]
  blk_simp [iblk]
  exact (congrArg (V m c main_v5 : Vec Ideal S4x2048x2048 .bf16) e).trans (V_w m c _ _ _)

theorem blk4 (t : Fin cfg0.N) (j : Fin 256) (k : Fin 2048) : (iblk m c 4 t : Vec Ideal S1x256x2048 .bf16) (ix3 0 j k) = A4 m c (ix3 3 j k) := by
  have e : ((win0_4.blk t).view.emb (ix3 0 j k) : S4x256x2048.Idx) = ix3 3 j k := by
    blk_ext [idx4]
  blk_simp [iblk]
  exact (congrArg (V m c main_v6 : Vec Ideal S4x256x2048 .bf16) e).trans (V_wp m c _ _ _)

theorem out_eq (x : Vec Ideal S16x2048 .f32) (p : Vec Ideal S1x16x256 .f32) (g : Vec Ideal S1x1x2048 .f32) (w : Vec Ideal S1x2048x2048 .bf16)
    (wp : Vec Ideal S1x256x2048 .bf16) : out0_5 x p g w wp = k0_pay1 x g w p wp := by
  frame_out

/-- The kernel's output array after the run: all sixteen rows. -/
theorem final : (dats m 0 c).arrAt 5 cfg0.N = arr2 (rows (A0 m c) (A1 m c) (A2 m c) (A3 m c) (A4 m c)) := by
  refine (dats m 0 c).arrAt_eq_of_covers 5 _ (by decide +kernel) fun t hf y => ?_
  blk_simp
  rw [after0_5, out_eq]
  have e : ((win0_5.blk t).view.emb y : S16x2048.Idx) = ix2 (n0 := 16) (n1 := 2048) (y 0) (y 1) := by
    blk_ext [idx5]
  have h : ∀ (r : Fin 16) (k : Fin 2048), k0_pay1 (iblk m c 0 t) (iblk m c 2 t) (iblk m c 3 t) (iblk m c 1 t) (iblk m c 4 t) (ix2 r k)
      = rows (A0 m c) (A1 m c) (A2 m c) (A3 m c) (A4 m c) r k := fun r k => by
    rw [pay_apply, rows, mix]
    simp only [blk0, blk1, blk2, blk3, blk4]
  refine ((congrArg (k0_pay1 (iblk m c 0 t) (iblk m c 2 t) (iblk m c 3 t) (iblk m c 1 t) (iblk m c 4 t)) (ix2_self (a := 16) (b := 2048) y)).trans (h (y 0) (y 1))).trans ?_
  exact (congrArg (arr2 (rows (A0 m c) (A1 m c) (A2 m c) (A3 m c) (A4 m c))) e).symm

/-- The result: the first eight rows. -/
theorem tail9 : (Pipeline.afterTail₀ cfgs (dats m) 0 (V0 m) [hostOps1] c main_v9 : Vec Ideal S8x1x2048 .f32)
    = arr3 (out (A0 m c) (A1 m c) (A2 m c) (A3 m c) (A4 m c)) := by
  have e : (Pipeline.withArrays spec0 c (V0 m c) (fun w => (dats m 0 c).arrAt w cfg0.N) (Proc.devRef .tc main_v7) : Vec Ideal S16x2048 .f32)
      = arr2 (rows (A0 m c) (A1 m c) (A2 m c) (A3 m c) (A4 m c)) := (Pipeline.withArrays_arr spec0 (by decide) c _ _ 5).trans (final m c)
  have h : ∀ (b : Fin 8) (u : Fin 1) (k : Fin 2048), (Pipeline.afterTail₀ cfgs (dats m) 0 (V0 m) [hostOps1] c main_v9 : Vec Ideal S8x1x2048 .f32) (ix3 b u k)
      = out (A0 m c) (A1 m c) (A2 m c) (A3 m c) (A4 m c) b u k := fun b u k => by
    obtain rfl : u = 0 := Subsingleton.elim _ _
    rw [← rows_sample _ _ _ _ _ ⟨b.val, by omega⟩ b rfl]
    unfold Pipeline.afterTail₀
    dsimp only [hostOps1, List.flatten_cons, List.flatten_nil, List.append_nil, List.cons_append, List.nil_append]
    after_results
    refine (congrArg (fun u : Vec Ideal S16x2048 .f32 => (shapeCast S8x1x2048 (extractStridedSlice S8x2048 ![0, 0] u slices_S16x2048_S8x2048_0_0 : Vec Ideal S8x2048 .f32)
      shapeCasts_S8x2048_S8x1x2048 : Vec Ideal S8x1x2048 .f32) (ix3 b 0 k)) e).trans ?_
    pointwise [arr2]
  exact funext fun i => (congrArg _ (ix3_self (a := 8) (b := 1) (d := 2048) i)).trans (h _ _ _)

end

end Cert.PleRow

/-! ## The reference -/

namespace Cert.PleRow.Ref

open Cert.Reference7Ideal Cert.Reference7Ideal.Gen Cert.Reference7Ideal.Read Cert.Reference7Ideal.Facts Idealize.ShloMosaic Idealize.ShloMosaic.TcCoe Idealize.SL.Sem
open Cert.Proj (arr3 ix3_self)

variable (x0 : Vec Ideal S8x1x2048 .f32) (x1 : Vec Ideal S4x8x1x256 .f32) (x2 : Vec Ideal S4x2048 .f32)
  (x3 : Vec Ideal S4x2048x2048 .f32) (x4 : Vec Ideal S4x256x2048 .f32)

theorem norm_at (b : Fin 8) (k : Fin 2048) :
    val_main_v14 (F := Ideal) x0 x2 (ix3 b 0 k) = Norm.rms (fun j => x0 (ix3 b 0 j)) (fun j => x2 (ix2 3 j)) k := by
  unfold Norm.rms
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

theorem gate_at (b : Fin 8) (k : Fin 2048) :
    val_main_v23 (F := Ideal) x0 x2 x3 (ix3 b 0 k) = Ideal.logistic (∑ j : Fin 2048, val_main_v14 (F := Ideal) x0 x2 (ix3 b 0 j) * x3 (ix3 3 j k)) := by
  unfold Ideal.logistic
  rw [← Norm.one_f32]
  pointwise [val_main_v23, val_main_v22, val_main_v21, val_main_v20, val_main_v19, val_main_v18, val_main_v17, val_main_v16, val_main_v15,
    val_main_cst_2, val_main_cst_3]

theorem out_at (b : Fin 8) (k : Fin 2048) : val_main_v30 (F := Ideal) x0 x1 x2 x3 x4 (ix3 b 0 k) = out x0 x1 x2 x3 x4 b 0 k := by
  have h : out x0 x1 x2 x3 x4 b 0 k = x0 (ix3 b 0 k) + val_main_v23 (F := Ideal) x0 x2 x3 (ix3 b 0 k)
        * ∑ j : Fin 256, x1 (ix4 3 b 0 j) * x4 (ix3 3 j k) := by
    rw [gate_at]
    simp only [norm_at]
    rfl
  rw [h]
  pointwise [val_main_v30, val_main_v29, val_main_v28, val_main_v27, val_main_v26, val_main_v25, val_main_v24]

theorem result : val_main_v30 (F := Ideal) x0 x1 x2 x3 x4 = arr3 (out x0 x1 x2 x3 x4) := by
  have h : ∀ (b : Fin 8) (u : Fin 1) (k : Fin 2048), val_main_v30 (F := Ideal) x0 x1 x2 x3 x4 (ix3 b u k) = out x0 x1 x2 x3 x4 b u k := fun b u k => by
    obtain rfl : u = 0 := Subsingleton.elim _ _
    exact out_at x0 x1 x2 x3 x4 b k
  exact funext fun i => (congrArg _ (ix3_self (a := 8) (b := 1) (d := 2048) i)).trans (h _ _ _)

end Cert.PleRow.Ref

/-! ## The claims -/

namespace Cert.PleRow

open Cert.Kernel7Ideal Cert.Kernel7Ideal.Gen Idealize.ShloMosaic Idealize.ShloMosaic.TcCoe Idealize.SL.Sem
open Cert.Proj (arr3)

theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = arr3 (out (A0 m c) (A1 m c) (A2 m c) (A3 m c) (A4 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m ρ) (frame m ρ)) fun r h c =>
    ⟨((h.1 c).2 main_v9 (Pipeline.mem_restRefs_of main_v9 (by decide) (by decide))).trans (tail9 m c), h.2.1 c⟩

theorem ref_frame : Cert.quiescent_Reference7Ideal (hReference7Ideal := Cert.Reference7Ideal.Gen.facts) := fun m ρ _ =>
  θ_run_mono (Cert.Reference7Ideal.Value.run (F := Ideal) m ρ) fun r h => ⟨fun c => (h c).2, sem_eq_zero_of_no_sems (by decide) r.2⟩

theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => arr3 (out (A0 m c) (A1 m c) (A2 m c) (A3 m c) (A4 m c)), run_results m g, ?_⟩
  refine θ_run_mono (Cert.Reference7Ideal.Value.run (F := Ideal) m' g') fun r h c => ⟨?_, (h c).2⟩
  obtain ⟨e0, e1, e2, e3, e4⟩ := hargs c
  refine (h c).1.trans ?_
  rw [Cert.Reference7Ideal.Read.val_main_v30_eq, e0, e1, e2, e3, e4]
  exact Ref.result _ _ _ _ _

end Cert.PleRow

end
-- ==== Proof.ProjRowRun.lean ====
module

public import proofs.«01_k».proof.Proof.ProjFrame
public import proofs.«01_k».proof.Proof.Gen.Kernel8Ideal.Frame
public import proofs.«01_k».proof.Proof.Gen.Kernel8Ideal.Skeleton
public import Idealize.ShloMosaic.Lib.Claim
public import Idealize.ShloMosaic.Lib.VecWindow
public import Idealize.ShloMosaic.Lib.Pipeline.TableIdle

/-! One grid point of the projection kernel on the samples' sixteen rows. The five points share the normalized rows: the first
    point computes them, and each point stores its own column segment's results and leaves the other outputs alone. -/

@[expose] public section

set_option maxRecDepth 16384

noncomputable section

namespace Cert.ProjRow

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proj (held held_at held_off)
open Idealize.ShloMosaic.Pipeline (Dat Cfg Window BodyObligation cellOf)

variable {F : FTy → Type} [FloatOps F]

local notation "𝕄" => MT nD τ sig Unit (Elt F) ℕ (UR sig nD τ) ℕ

/-- Which column segment each branch of the body belongs to. -/
theorem branch_at (i : grid0.Coords) :
    (k0_cond1 i = 1#1 ↔ (i 1).val = 0) ∧ (k0_cond4 i = 1#1 ↔ (i 1).val = 0) ∧ (k0_cond5 i = 1#1 ↔ (i 1).val = 1)
      ∧ (k0_cond6 i = 1#1 ↔ (i 1).val = 2) ∧ (k0_cond2 i = 1#1 ↔ (i 1).val = 3) ∧ (k0_cond3 i = 1#1 ↔ (i 1).val = 4) := by
  have hi : (i 1).val < 5 := (i 1).isLt
  unfold k0_cond1 k0_cond2 k0_cond3 k0_cond4 k0_cond5 k0_cond6
  generalize (i 1).val = n at hi
  obtain rfl | rfl | rfl | rfl | rfl : n = 0 ∨ n = 1 ∨ n = 2 ∨ n = 3 ∨ n = 4 := by omega
  all_goals decide

set_option maxHeartbeats 4000000 in
/-- The body at any point, from any contents: every buffer ends at its new contents if the point stores it. -/
theorem run (c : Dev nD) (i : grid0.Coords) (a2 : Memref sig .tc .vmem S16x2048 .f32) (h2 : a2.IsWhole) (a3 : Memref sig .tc .vmem S1x1x2048 .f32) (h3 : a3.IsWhole) (a4 : Memref sig .tc .vmem S1x2048x1024 .bf16) (h4 : a4.IsWhole) (a5 : Memref sig .tc .vmem S1x2048x640 .bf16) (h5 : a5.IsWhole) (a6 : Memref sig .tc .vmem S16x1024 .f32) (h6 : a6.IsWhole) (a7 : Memref sig .tc .vmem S16x1024 .f32) (h7 : a7.IsWhole) (a8 : Memref sig .tc .vmem S16x1024 .f32) (h8 : a8.IsWhole) (a9 : Memref sig .tc .vmem S16x1024 .f32) (h9 : a9.IsWhole) (a10 : Memref sig .tc .vmem S16x1024 .f32) (h10 : a10.IsWhole) (a11 : Memref sig .tc .vmem S16x512 .f32) (h11 : a11.IsWhole) (a12 : Memref sig .tc .vmem S16x128 .f32) (h12 : a12.IsWhole) (a13 : Memref sig .tc .vmem S16x2048 .bf16) (h13 : a13.IsWhole)
    (x2 : Vec F S16x2048 .f32) (x3 : Vec F S1x1x2048 .f32) (x4 : Vec F S1x2048x1024 .bf16) (x5 : Vec F S1x2048x640 .bf16) (x6 : Vec F S16x1024 .f32) (x7 : Vec F S16x1024 .f32) (x8 : Vec F S16x1024 .f32) (x9 : Vec F S16x1024 .f32) (x10 : Vec F S16x1024 .f32) (x11 : Vec F S16x512 .f32) (x12 : Vec F S16x128 .f32) (x13 : Vec F S16x2048 .bf16) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (held (i 1).val 0 (k0_pay7 (held (i 1).val 0 (k0_pay2 x2 x3) x13) x4) x6) ∗ owns (c : Thread nD τ) a7 fullShare (held (i 1).val 1 (k0_pay6 (held (i 1).val 0 (k0_pay2 x2 x3) x13) x4) x7) ∗ owns (c : Thread nD τ) a8 fullShare (held (i 1).val 2 (k0_pay6 (held (i 1).val 0 (k0_pay2 x2 x3) x13) x4) x8) ∗ owns (c : Thread nD τ) a9 fullShare (held (i 1).val 3 (k0_pay6 (held (i 1).val 0 (k0_pay2 x2 x3) x13) x4) x9) ∗ owns (c : Thread nD τ) a10 fullShare (held (i 1).val 4 (k0_pay6 (held (i 1).val 0 (k0_pay2 x2 x3) x13) x4) x10) ∗ owns (c : Thread nD τ) a11 fullShare (held (i 1).val 0 (k0_pay4 x2 x3 x5) x11) ∗ owns (c : Thread nD τ) a12 fullShare (held (i 1).val 0 (k0_pay5 x2 x3 x5) x12) ∗ owns (c : Thread nD τ) a13 fullShare (held (i 1).val 0 (k0_pay2 x2 x3) x13)) -∗ K ⟨⟩))
      ⊢ wp frame (wpE (defs₀ (F := F)) Variants.none c none) Set.univ (cc0_proj_rows i a2 h2 a3 h3 a4 h4 a5 h5 a6 h6 a7 h7 a8 h8 a9 h9 a10 h10 a11 h11 a12 h12 a13 h13) K := by
  obtain ⟨b1, b4, b5, b6, b2, b3⟩ := branch_at i
  have hi : (i 1).val < 5 := (i 1).isLt
  simp only [cc0_proj_rows_eq_skeleton]; unfold cc0_proj_rows_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13
  have hj : (i 1).val = 0 ∨ (i 1).val = 1 ∨ (i 1).val = 2 ∨ (i 1).val = 3 ∨ (i 1).val = 4 := by omega
  generalize (i 1).val = j at *
  rcases hj with rfl | rfl | rfl | rfl | rfl
  all_goals
    sl_exec (disch := first | sl_exact (b1.mpr rfl) | sl_exact (fun e => absurd (b1.mp e) (by decide)) | sl_exact (b2.mpr rfl) | sl_exact (fun e => absurd (b2.mp e) (by decide)) | sl_exact (b3.mpr rfl) | sl_exact (fun e => absurd (b3.mp e) (by decide)) | sl_exact (b4.mpr rfl) | sl_exact (fun e => absurd (b4.mp e) (by decide)) | sl_exact (b5.mpr rfl) | sl_exact (fun e => absurd (b5.mp e) (by decide)) | sl_exact (b6.mpr rfl) | sl_exact (fun e => absurd (b6.mp e) (by decide)))
    sl_step
    iapply Hk
    have r2 : View.readAt (Elt F) a2.view (Rect.unit ![0, 0] ![16, 2048] inb_S16x2048_S16x2048_0_0).toLoadRect (h2.unread x2) = x2 := (View.readAt_full _ _ _).trans (h2.read_unread _)
    have r3 : View.readAt (Elt F) a3.view (Rect.unit ![0, 0, 0] ![1, 1, 2048] inb_S1x1x2048_S1x1x2048_0_0_0).toLoadRect (h3.unread x3) = x3 := (View.readAt_full _ _ _).trans (h3.read_unread _)
    have r4 : View.readAt (Elt F) a4.view (Rect.unit ![0, 0, 0] ![1, 2048, 1024] inb_S1x2048x1024_S1x2048x1024_0_0_0).toLoadRect (h4.unread x4) = x4 := (View.readAt_full _ _ _).trans (h4.read_unread _)
    have r5 : View.readAt (Elt F) a5.view (Rect.unit ![0, 0, 0] ![1, 2048, 640] inb_S1x2048x640_S1x2048x640_0_0_0).toLoadRect (h5.unread x5) = x5 := (View.readAt_full _ _ _).trans (h5.read_unread _)
    have r13 : View.readAt (Elt F) a13.view (Rect.unit ![0, 0] ![16, 2048] inb_S16x2048_S16x2048_0_0).toLoadRect (h13.unread x13) = x13 := (View.readAt_full _ _ _).trans (h13.read_unread _)
    have rv : ∀ w : S16x2048.Idx → Elt F .bf16, View.readCov a13.view [⟨Rect.unit ![0, 0] ![16, 2048] inb_S16x2048_S16x2048_0_0, w⟩] (Rect.unit ![0, 0] ![16, 2048] inb_S16x2048_S16x2048_0_0).toLoadRect = w := fun w => View.readCov_full _ _ _ _ _
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; (try delta run.sl.v3); (try delta run.sl.H13_1); simp only [held, Nat.reduceEqDiff, reduceIte, one_ne_zero, zero_ne_one, OfNat.ofNat_ne_zero, OfNat.zero_ne_ofNat, OfNat.one_ne_ofNat, OfNat.ofNat_ne_one, r2, r3, r4, r5, r13, rv]; first | done | exact View.read_writes_full _ _ _ _ _ | exact Memref.IsWhole.read_unread (by assumption) _
    isplitl [H7]
    · iexists _; isplitr; swap; · iexact H7
      ipureintro; (try delta run.sl.v3); (try delta run.sl.H13_1); simp only [held, Nat.reduceEqDiff, reduceIte, one_ne_zero, zero_ne_one, OfNat.ofNat_ne_zero, OfNat.zero_ne_ofNat, OfNat.one_ne_ofNat, OfNat.ofNat_ne_one, r2, r3, r4, r5, r13, rv]; first | done | exact View.read_writes_full _ _ _ _ _ | exact Memref.IsWhole.read_unread (by assumption) _
    isplitl [H8]
    · iexists _; isplitr; swap; · iexact H8
      ipureintro; (try delta run.sl.v3); (try delta run.sl.H13_1); simp only [held, Nat.reduceEqDiff, reduceIte, one_ne_zero, zero_ne_one, OfNat.ofNat_ne_zero, OfNat.zero_ne_ofNat, OfNat.one_ne_ofNat, OfNat.ofNat_ne_one, r2, r3, r4, r5, r13, rv]; first | done | exact View.read_writes_full _ _ _ _ _ | exact Memref.IsWhole.read_unread (by assumption) _
    isplitl [H9]
    · iexists _; isplitr; swap; · iexact H9
      ipureintro; (try delta run.sl.v3); (try delta run.sl.H13_1); simp only [held, Nat.reduceEqDiff, reduceIte, one_ne_zero, zero_ne_one, OfNat.ofNat_ne_zero, OfNat.zero_ne_ofNat, OfNat.one_ne_ofNat, OfNat.ofNat_ne_one, r2, r3, r4, r5, r13, rv]; first | done | exact View.read_writes_full _ _ _ _ _ | exact Memref.IsWhole.read_unread (by assumption) _
    isplitl [H10]
    · iexists _; isplitr; swap; · iexact H10
      ipureintro; (try delta run.sl.v3); (try delta run.sl.H13_1); simp only [held, Nat.reduceEqDiff, reduceIte, one_ne_zero, zero_ne_one, OfNat.ofNat_ne_zero, OfNat.zero_ne_ofNat, OfNat.one_ne_ofNat, OfNat.ofNat_ne_one, r2, r3, r4, r5, r13, rv]; first | done | exact View.read_writes_full _ _ _ _ _ | exact Memref.IsWhole.read_unread (by assumption) _
    isplitl [H11]
    · iexists _; isplitr; swap; · iexact H11
      ipureintro; (try delta run.sl.v3); (try delta run.sl.H13_1); simp only [held, Nat.reduceEqDiff, reduceIte, one_ne_zero, zero_ne_one, OfNat.ofNat_ne_zero, OfNat.zero_ne_ofNat, OfNat.one_ne_ofNat, OfNat.ofNat_ne_one, r2, r3, r4, r5, r13, rv]; first | done | exact View.read_writes_full _ _ _ _ _ | exact Memref.IsWhole.read_unread (by assumption) _
    isplitl [H12]
    · iexists _; isplitr; swap; · iexact H12
      ipureintro; (try delta run.sl.v3); (try delta run.sl.H13_1); simp only [held, Nat.reduceEqDiff, reduceIte, one_ne_zero, zero_ne_one, OfNat.ofNat_ne_zero, OfNat.zero_ne_ofNat, OfNat.one_ne_ofNat, OfNat.ofNat_ne_one, r2, r3, r4, r5, r13, rv]; first | done | exact View.read_writes_full _ _ _ _ _ | exact Memref.IsWhole.read_unread (by assumption) _
    iexists _; isplitr; swap; · iexact H13
    ipureintro; (try delta run.sl.v3); (try delta run.sl.H13_1); simp only [held, Nat.reduceEqDiff, reduceIte, one_ne_zero, zero_ne_one, OfNat.ofNat_ne_zero, OfNat.zero_ne_ofNat, OfNat.one_ne_ofNat, OfNat.ofNat_ne_one, r2, r3, r4, r5, r13, rv]; first | done | exact View.read_writes_full _ _ _ _ _ | exact Memref.IsWhole.read_unread (by assumption) _

end Cert.ProjRow
end
-- ==== Proof.ProjRowFrame.lean ====
module

public import proofs.«01_k».proof.Proof.ProjRowRun
public import Idealize.ShloMosaic.Lib.Claim
public import Idealize.ShloMosaic.Lib.VecWindow
public import Idealize.ShloMosaic.Lib.Pipeline.TableIdle

/-! The run of the projection kernel on the samples' sixteen rows: what each staging buffer holds after each grid point, the
    body at every point, and the launch. There is one row block, number 0; an output's buffer holds its result from the point
    that stores it to the last point, which writes it back. -/

@[expose] public section

set_option maxRecDepth 16384

noncomputable section

namespace Cert.ProjRow

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proj (held held_at held_off held_congr)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's scratch: the normalized rows. -/
abbrev scr : Memref sig .tc .vmem S16x2048 .bf16 := Memref.whole cc0_scratch0

/-- The point of row block `b` and column segment `j`. -/
def pt (b j : ℕ) : Fin cfg0.N := ⟨(5 * b + j) % 5, lt_of_lt_of_eq (Nat.mod_lt _ (by omega)) (show cfg0.N = 5 from N_0).symm⟩

theorem pt_self (t : Fin cfg0.N) {j : ℕ} (h : t.val % 5 = j) : pt (t.val / 5) j = t := by
  have hN : t.val < 5 := lt_of_lt_of_eq t.isLt (show cfg0.N = 5 from N_0)
  refine Fin.ext ?_
  show (5 * (t.val / 5) + j) % 5 = t.val
  omega

/-- A point's column segment is its number modulo 5. -/
theorem col_at : ∀ t : Fin cfg0.N, (grid0.coords t 1).val = t.val % 5 :=
  (by decide +kernel : ∀ t : Fin grid0.N, (grid0.coords t 1).val = t.val % 5)

/-- The normalized rows of row block `b`. -/
def rows (c : Dev nD) (b : ℕ) : Vec F S16x2048 .bf16 := k0_pay2 (iblk m c 0 (pt b 0)) (iblk m c 1 (pt b 0))
/-- Row block `b`'s result in output window 4: the scaled queries. -/
def fin4 (c : Dev nD) (b : ℕ) : Vec F S16x1024 .f32 := k0_pay7 (rows m c b) (iblk m c 2 (pt b 0))
/-- Row block `b`'s result in output window 5: the keys. -/
def fin5 (c : Dev nD) (b : ℕ) : Vec F S16x1024 .f32 := k0_pay6 (rows m c b) (iblk m c 2 (pt b 1))
/-- Row block `b`'s result in output window 6: the values. -/
def fin6 (c : Dev nD) (b : ℕ) : Vec F S16x1024 .f32 := (k0_pay6 (rows m c b) (iblk m c 2 (pt b 2)))
/-- Row block `b`'s result in output window 7: the gates. -/
def fin7 (c : Dev nD) (b : ℕ) : Vec F S16x1024 .f32 := k0_pay6 (rows m c b) (iblk m c 2 (pt b 3))
/-- Row block `b`'s result in output window 8: the state inputs. -/
def fin8 (c : Dev nD) (b : ℕ) : Vec F S16x1024 .f32 := k0_pay6 (rows m c b) (iblk m c 2 (pt b 4))
/-- Row block `b`'s result in output window 9: the B and C columns. -/
def fin9 (c : Dev nD) (b : ℕ) : Vec F S16x512 .f32 := k0_pay4 (iblk m c 0 (pt b 0)) (iblk m c 1 (pt b 0)) (iblk m c 3 (pt b 0))
/-- Row block `b`'s result in output window 10: the step sizes. -/
def fin10 (c : Dev nD) (b : ℕ) : Vec F S16x128 .f32 := k0_pay5 (iblk m c 0 (pt b 0)) (iblk m c 1 (pt b 0)) (iblk m c 3 (pt b 0))

/-- What is known between the points: at a row block's start nothing, inside it the scratch holds the block's normalized
    rows; the generator register is at some state. -/
def PhiS (c : Dev nD) (n : ℕ) : sProp 𝕄 :=
  if n % 5 = 0 then Pipeline.ΦA spec0 c else iprop(owns (c : Thread nD τ) scr fullShare (rows m c (n / 5)) ∗ (∃ r, prngReg c r))

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fin4 m c (t.val / 5)
    | ⟨5, _⟩ => fin5 m c (t.val / 5)
    | ⟨6, _⟩ => fin6 m c (t.val / 5)
    | ⟨7, _⟩ => fin7 m c (t.val / 5)
    | ⟨8, _⟩ => fin8 m c (t.val / 5)
    | ⟨9, _⟩ => fin9 m c (t.val / 5)
    | ⟨10, _⟩ => fin10 m c (t.val / 5)
  Φ t := PhiS m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = fin4 m c (t.val / 5) := by dsimp only [dats]
theorem after_5 (c : Dev nD) (t : Fin cfg0.N) : (dats m 0 c).after 5 t = fin5 m c (t.val / 5) := by dsimp only [dats]
theorem after_6 (c : Dev nD) (t : Fin cfg0.N) : (dats m 0 c).after 6 t = fin6 m c (t.val / 5) := by dsimp only [dats]
theorem after_7 (c : Dev nD) (t : Fin cfg0.N) : (dats m 0 c).after 7 t = fin7 m c (t.val / 5) := by dsimp only [dats]
theorem after_8 (c : Dev nD) (t : Fin cfg0.N) : (dats m 0 c).after 8 t = fin8 m c (t.val / 5) := by dsimp only [dats]
theorem after_9 (c : Dev nD) (t : Fin cfg0.N) : (dats m 0 c).after 9 t = fin9 m c (t.val / 5) := by dsimp only [dats]
theorem after_10 (c : Dev nD) (t : Fin cfg0.N) : (dats m 0 c).after 10 t = fin10 m c (t.val / 5) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The scratch and the generator register at anything are what the launch hands the region. -/
theorem PhiA_eq (c : Dev nD) : (Pipeline.ΦA spec0 c : sProp 𝕄)
    = iprop((∃ d, owns (c : Thread nD τ) scr fullShare d) ∗ (∃ r, prngReg c r)) := by
  unfold Pipeline.ΦA; rw [scopedRest0_eq]; simp only [scr, owns_whole]; try rfl

/-- Before a point the scratch holds something that the point makes its row block's normalized rows. -/
theorem Phi_pre (c : Dev nD) (t : Fin cfg0.N) : PhiS m c t.val
    ⊢ iprop(∃ x, ⌜held (t.val % 5) 0 (k0_pay2 (iblk m c 0 t) (iblk m c 1 t)) x = rows m c (t.val / 5)⌝
        ∗ owns (c : Thread nD τ) scr fullShare x ∗ (∃ r, prngReg c r)) := by
  unfold PhiS
  by_cases h : t.val % 5 = 0
  · rw [if_pos h, PhiA_eq]
    iintro ⟨⟨%d, H⟩, Hg⟩
    iexists d
    isplitr
    · ipureintro
      rw [held_at h]; unfold rows; rw [pt_self t h]
    isplitl [H]; · iexact H
    iexact Hg
  · rw [if_neg h]
    iintro ⟨H, Hg⟩
    iexists _
    isplitr
    swap
    · isplitl [H]; · iexact H
      iexact Hg
    ipureintro; exact held_off h _ _

/-- After a point the scratch holds its row block's normalized rows, as long as the block lasts. -/
theorem Phi_post (c : Dev nD) (t : Fin cfg0.N) :
    iprop(owns (c : Thread nD τ) scr fullShare (rows m c (t.val / 5)) ∗ (∃ r, prngReg c r)) ⊢ PhiS m c (t.val + 1) := by
  unfold PhiS
  by_cases h : (t.val + 1) % 5 = 0
  · rw [if_pos h, PhiA_eq]
    iintro ⟨H, Hg⟩
    isplitl [H]
    · iexists _; iexact H
    iexact Hg
  · rw [if_neg h, show (t.val + 1) / 5 = t.val / 5 by omega]
    try exact Idealize.SL.BI.Entails.refl _

/-- Such an output's buffer holds nothing of the row block's up to and including the point that stores it. -/
theorem fresh_of (w : Fin cfg0.W) (k : ℕ) (hk : k ≤ 4)
    (hidle : ∀ t : Fin cfg0.N, cfg0.idle w (cfg0.grid.coords t) = !decide (t.val % 5 = k))
    (hflush : ∀ t : Fin cfg0.N, (cfg0.win w).flush t = true ↔ t.val % 5 = 4) (t : Fin cfg0.N) :
    cfg0.fresh w t.val = decide (t.val % 5 ≤ k) := by
  refine cfg0.fresh_tab w (fun n => decide (n % 5 ≤ k)) (by simp) (fun s => ?_) t.val (le_of_lt t.isLt)
  rw [hidle s]
  by_cases e : s.val % 5 = 4
  · rw [(hflush s).mpr e, Bool.true_or]; exact decide_eq_true (by omega)
  · rw [show (cfg0.win w).flush s = false from Bool.eq_false_iff.mpr (fun f => e ((hflush s).mp f)), Bool.false_or]
    by_cases e' : s.val % 5 = k
    · rw [decide_eq_true e', Bool.not_true, Bool.false_and]; exact decide_eq_false (by omega)
    · rw [decide_eq_false e', Bool.not_false, Bool.true_and]
      exact decide_eq_decide.mpr (by omega)

/-- An output that column segment `k` stores, whose result depends on the row block only: what the body leaves there is what
    the obligation asks, at the points that store it, write it back, or do neither. -/
theorem leaves_of {c : Dev nD} (dat : Dat τ (Elt F) Unit ℕ (UR sig nD τ) ℕ cfg0 c) (w : Fin cfg0.W) (k : ℕ) (hk : k ≤ 4)
    (hw : (cfg0.win w).isOut = true) (hclip : ∀ (i : cfg0.grid.Coords) a, (cfg0.win w).clip i a = none)
    (hidle : ∀ t : Fin cfg0.N, cfg0.idle w (cfg0.grid.coords t) = !decide (t.val % 5 = k))
    (hflush : ∀ t : Fin cfg0.N, (cfg0.win w).flush t = true ↔ t.val % 5 = 4)
    (hafter : ∀ t t' : Fin cfg0.N, t.val / 5 = t'.val / 5 → dat.after w t = dat.after w t') (t : Fin cfg0.N) (d) :
    owns (c : Thread nD τ) ((cfg0.win w).stage (cfg0.slots t w)) fullShare (held (t.val % 5) k (dat.after w t) (dat.before w t d))
      ⊢ dat.leavesExact w t := by
  have hN : t.val < 5 := lt_of_lt_of_eq t.isLt (show cfg0.N = 5 from N_0)
  by_cases h : t.val % 5 = k
  · have hi : cfg0.idle w (cfg0.grid.coords t) = false := by rw [hidle t, decide_eq_true h]; rfl
    rw [held_at h]; unfold Dat.leavesExact; rw [hi]
    try exact Idealize.SL.BI.Entails.refl _
  · have hi : cfg0.idle w (cfg0.grid.coords t) = true := by rw [hidle t, decide_eq_false h]; rfl
    rw [held_off h]
    by_cases h4 : t.val % 5 = 4
    · have hfr : cfg0.fresh w t.val = false := by
        rw [fresh_of w k hk hidle hflush t]; exact decide_eq_false (by omega)
      have hc : ∀ (s : Fin cfg0.N) (_ : s.val ≠ 0), cfg0.idle w (cfg0.grid.coords s) = true → cfg0.fresh w s.val = false →
          dat.after w s = dat.after w ⟨s.val - 1, by omega⟩ := fun s hs _ hf => by
        rw [fresh_of w k hk hidle hflush s] at hf
        have := of_decide_eq_false hf
        exact hafter _ _ (by show s.val / 5 = (s.val - 1) / 5; omega)
      rw [dat.before_out_traj w hw hclip hc t.val t rfl d, hfr, if_neg Bool.false_ne_true]
      unfold Dat.leavesExact; rw [hi, (hflush t).mpr h4]
      rw [hafter ⟨t.val - 1, by omega⟩ t (by show (t.val - 1) / 5 = t.val / 5; omega)]
      try exact Idealize.SL.BI.Entails.refl _
    · rw [Dat.leavesExact_idle dat w t hi (Bool.eq_false_iff.mpr (fun f => h4 ((hflush t).mp f)))]
      iintro H; iexists d; iexact H

theorem leaves_4 (c : Dev nD) (t : Fin cfg0.N) (d) :
    owns (c : Thread nD τ) (st0_4 t) fullShare (held (t.val % 5) 0 (fin4 m c (t.val / 5)) ((dats m 0 c).before 4 t d)) ⊢ (dats m 0 c).leavesExact 4 t :=
  leaves_of (dats m 0 c) 4 0 (by omega) rfl (fun _ _ => rfl)
    (by decide +kernel : ∀ t : Fin grid0.N, idle0 4 (grid0.coords t) = !decide (t.val % 5 = 0)) flush0_4
    (fun t t' h => by rw [after_4, after_4, h]) t d
theorem leaves_5 (c : Dev nD) (t : Fin cfg0.N) (d) :
    owns (c : Thread nD τ) (st0_5 t) fullShare (held (t.val % 5) 1 (fin5 m c (t.val / 5)) ((dats m 0 c).before 5 t d)) ⊢ (dats m 0 c).leavesExact 5 t :=
  leaves_of (dats m 0 c) 5 1 (by omega) rfl (fun _ _ => rfl)
    (by decide +kernel : ∀ t : Fin grid0.N, idle0 5 (grid0.coords t) = !decide (t.val % 5 = 1)) flush0_5
    (fun t t' h => by rw [after_5, after_5, h]) t d
theorem leaves_6 (c : Dev nD) (t : Fin cfg0.N) (d) :
    owns (c : Thread nD τ) (st0_6 t) fullShare (held (t.val % 5) 2 (fin6 m c (t.val / 5)) ((dats m 0 c).before 6 t d)) ⊢ (dats m 0 c).leavesExact 6 t :=
  leaves_of (dats m 0 c) 6 2 (by omega) rfl (fun _ _ => rfl)
    (by decide +kernel : ∀ t : Fin grid0.N, idle0 6 (grid0.coords t) = !decide (t.val % 5 = 2)) flush0_6
    (fun t t' h => by rw [after_6, after_6, h]) t d
theorem leaves_7 (c : Dev nD) (t : Fin cfg0.N) (d) :
    owns (c : Thread nD τ) (st0_7 t) fullShare (held (t.val % 5) 3 (fin7 m c (t.val / 5)) ((dats m 0 c).before 7 t d)) ⊢ (dats m 0 c).leavesExact 7 t :=
  leaves_of (dats m 0 c) 7 3 (by omega) rfl (fun _ _ => rfl)
    (by decide +kernel : ∀ t : Fin grid0.N, idle0 7 (grid0.coords t) = !decide (t.val % 5 = 3)) flush0_7
    (fun t t' h => by rw [after_7, after_7, h]) t d
theorem leaves_8 (c : Dev nD) (t : Fin cfg0.N) (d) :
    owns (c : Thread nD τ) (st0_8 t) fullShare (held (t.val % 5) 4 (fin8 m c (t.val / 5)) ((dats m 0 c).before 8 t d)) ⊢ (dats m 0 c).leavesExact 8 t :=
  leaves_of (dats m 0 c) 8 4 (by omega) rfl (fun _ _ => rfl)
    (by decide +kernel : ∀ t : Fin grid0.N, idle0 8 (grid0.coords t) = !decide (t.val % 5 = 4)) flush0_8
    (fun t t' h => by rw [after_8, after_8, h]) t d
theorem leaves_9 (c : Dev nD) (t : Fin cfg0.N) (d) :
    owns (c : Thread nD τ) (st0_9 t) fullShare (held (t.val % 5) 0 (fin9 m c (t.val / 5)) ((dats m 0 c).before 9 t d)) ⊢ (dats m 0 c).leavesExact 9 t :=
  leaves_of (dats m 0 c) 9 0 (by omega) rfl (fun _ _ => rfl)
    (by decide +kernel : ∀ t : Fin grid0.N, idle0 9 (grid0.coords t) = !decide (t.val % 5 = 0)) flush0_9
    (fun t t' h => by rw [after_9, after_9, h]) t d
theorem leaves_10 (c : Dev nD) (t : Fin cfg0.N) (d) :
    owns (c : Thread nD τ) (st0_10 t) fullShare (held (t.val % 5) 0 (fin10 m c (t.val / 5)) ((dats m 0 c).before 10 t d)) ⊢ (dats m 0 c).leavesExact 10 t :=
  leaves_of (dats m 0 c) 10 0 (by omega) rfl (fun _ _ => rfl)
    (by decide +kernel : ∀ t : Fin grid0.N, idle0 10 (grid0.coords t) = !decide (t.val % 5 = 0)) flush0_10
    (fun t t' h => by rw [after_10, after_10, h]) t d
theorem leaves_0 (c : Dev nD) (t : Fin cfg0.N) : (dats m 0 c).leavesExact 0 t = owns (c : Thread nD τ) (st0_0 t) fullShare (iblk m c 0 t) := by
  rw [← after_0]
theorem leaves_1 (c : Dev nD) (t : Fin cfg0.N) : (dats m 0 c).leavesExact 1 t = owns (c : Thread nD τ) (st0_1 t) fullShare (iblk m c 1 t) := by
  rw [← after_1]
theorem leaves_2 (c : Dev nD) (t : Fin cfg0.N) : (dats m 0 c).leavesExact 2 t = owns (c : Thread nD τ) (st0_2 t) fullShare (iblk m c 2 t) := by
  rw [← after_2]
theorem leaves_3 (c : Dev nD) (t : Fin cfg0.N) : (dats m 0 c).leavesExact 3 t = owns (c : Thread nD τ) (st0_3 t) fullShare (iblk m c 3 t) := by
  rw [← after_3]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    leaves_0, leaves_1, leaves_2, leaves_3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HP := (Phi_pre m c t) $$ HΦ
  icases HP with ⟨%x, %hx, HS, Hg⟩
  iapply (run c (grid0.coords t) _ _ _ _ _ _ _ _ _ _ _ _ _ _ _ _ _ _ _ _ _ _ _ _ (iblk m c 0 t) (iblk m c 1 t) (iblk m c 2 t) (iblk m c 3 t) ((dats m 0 c).before 4 t d4) ((dats m 0 c).before 5 t d5) ((dats m 0 c).before 6 t d6) ((dats m 0 c).before 7 t d7) ((dats m 0 c).before 8 t d8) ((dats m 0 c).before 9 t d9) ((dats m 0 c).before 10 t d10) x _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  rw [col_at t, hx]
  rw [held_congr (fun h => (by unfold fin4; rw [pt_self t h] : k0_pay7 (rows m c (t.val / 5)) (iblk m c 2 t) = fin4 m c (t.val / 5))) ((dats m 0 c).before 4 t d4)]
  rw [held_congr (fun h => (by unfold fin5; rw [pt_self t h] : k0_pay6 (rows m c (t.val / 5)) (iblk m c 2 t) = fin5 m c (t.val / 5))) ((dats m 0 c).before 5 t d5)]
  rw [held_congr (fun h => (by unfold fin6; rw [pt_self t h] : (k0_pay6 (rows m c (t.val / 5)) (iblk m c 2 t)) = fin6 m c (t.val / 5))) ((dats m 0 c).before 6 t d6)]
  rw [held_congr (fun h => (by unfold fin7; rw [pt_self t h] : k0_pay6 (rows m c (t.val / 5)) (iblk m c 2 t) = fin7 m c (t.val / 5))) ((dats m 0 c).before 7 t d7)]
  rw [held_congr (fun h => (by unfold fin8; rw [pt_self t h] : k0_pay6 (rows m c (t.val / 5)) (iblk m c 2 t) = fin8 m c (t.val / 5))) ((dats m 0 c).before 8 t d8)]
  rw [held_congr (fun h => (by unfold fin9; rw [pt_self t h] : k0_pay4 (iblk m c 0 t) (iblk m c 1 t) (iblk m c 3 t) = fin9 m c (t.val / 5))) ((dats m 0 c).before 9 t d9)]
  rw [held_congr (fun h => (by unfold fin10; rw [pt_self t h] : k0_pay5 (iblk m c 0 t) (iblk m c 1 t) (iblk m c 3 t) = fin10 m c (t.val / 5))) ((dats m 0 c).before 10 t d10)]
  iintro ⟨H0, H1, H2, H3, H4, H5, H6, H7, H8, H9, H10, HS⟩
  isplitl [HS Hg]
  · iapply (Phi_post m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iapply (leaves_4 m c t d4); iexact H4
  isplitl [H5]; · iapply (leaves_5 m c t d5); iexact H5
  isplitl [H6]; · iapply (leaves_6 m c t d6); iexact H6
  isplitl [H7]; · iapply (leaves_7 m c t d7); iexact H7
  isplitl [H8]; · iapply (leaves_8 m c t d8); iexact H8
  isplitl [H9]; · iapply (leaves_9 m c t d9); iexact H9
  iapply (leaves_10 m c t d10); iexact H10

/-- The table's row at a point is the body there. -/
theorem row_at (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row_at]
  exact triple_restated (sound_body m c t) rfl .rfl fun _ => .rfl

theorem hin (c : Dev nD) : Pipeline.ΦA spec0 c ⊢ (dats m 0 c).Φ 0 := by
  rw [show (dats m 0 c).Φ 0 = PhiS m c 0 from rfl]; unfold PhiS; rw [if_pos rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c 5 from congrArg (PhiS m c) (show cfg0.N = 5 from N_0)]; unfold PhiS; rw [if_pos rfl]
  try exact Idealize.SL.BI.Entails.refl _

set_option backward.isDefEq.respectTransparency.types false in
/-- The launch: every execution ends with every array at what the points wrote and all counters at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_ok m c).loose) (hshare := fun c w => (by unfold Dat.share; split <;> rfl))
    (howed := fun _ _ => rfl) (V₀ := V0 m) (opss := [hostOps1]) (hsub := sfx_sub) (hfresh := sfx_fresh) (hkeep := sfx_keeps)
    (hmain := hmain m Variants.none) (hA := A_eq m) (hin := hin m) (hout := hout m) (hQ' := fun _ h => h)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The idealized program's frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.ProjRow
end
-- ==== Proof.ProjRow.lean ====
module

public import proofs.«01_k».proof.Defs
public import proofs.«01_k».proof.Proof.Norm
public import proofs.«01_k».proof.Proof.Proj
public import proofs.«01_k».proof.Proof.ProjRowFrame
public import proofs.«01_k».proof.Proof.Gen.Kernel8
public import proofs.«01_k».proof.Proof.Gen.Reference8Ideal.Run
public import proofs.«01_k».proof.Proof.Gen.Reference8Ideal.Read
public import Idealize.ShloMosaic.Lib.Claim
public import Idealize.ShloMosaic.Lib.Pipeline.ValueKit.Geometry
public import Idealize.ShloMosaic.Lib.Pipeline.ValueKit.Acc

@[expose] public section

set_option maxRecDepth 65536

noncomputable section

/-! The input projection of the eight samples: the kernel works on sixteen rows, of which the last eight are zeros and are cut off. -/

namespace Cert.ProjRow

open Cert.Kernel8Ideal Cert.Kernel8Ideal.Gen Cert.Kernel8Ideal.Facts Idealize.ShloMosaic Idealize.ShloMosaic.TcCoe Idealize.SL.Sem
open Cert.Proj (arr2 arr4 ix2_self ix4_self eq_arr4 zero_int col col_of)

/-! ## The results as functions of the arguments -/

section
variable (a0 : Vec Ideal S8x1x2048 .f32) (a1 : Vec Ideal S4x2048 .f32) (a2 : Vec Ideal S4x2048x5648 .f32)

/-- A sample's hidden state. -/
def samp (b : Fin 8) (k : Fin 2048) : EReal := a0 (ix3 b 0 k)
/-- One of the sixteen rows: a sample's hidden state, or zeros. -/
def hid (r : Fin 16) (k : Fin 2048) : EReal := if h : r.val < 8 then a0 (ix3 ⟨r.val, h⟩ 0 k) else 0

theorem hid_sample (r : Fin 16) (b : Fin 8) (h : r.val = b.val) : hid a0 r = samp a0 b := funext fun j => by
  unfold hid samp
  simp only [h, b.isLt, dif_pos, Fin.eta]

/-- A normalized row times a column of the weights. -/
def P (x : Fin 2048 → EReal) (n : Fin 5648) : EReal := ∑ j : Fin 2048, Norm.rms x (fun j => a1 (ix2 3 j)) j * a2 (ix3 3 j n)

/-- A row's queries, scaled; its keys and values; its gate, state-space input and coefficient rows; its time steps, padded with zeros. -/
def fq (x : Fin 2048 → EReal) (k : Fin 1024) : EReal := P a1 a2 x ⟨2576 + k.val, by omega⟩ * Ideal.ofBits .f32 0x3E000000#32
def fk (x : Fin 2048 → EReal) (k : Fin 1024) : EReal := P a1 a2 x ⟨3600 + k.val, by omega⟩
def fv (x : Fin 2048 → EReal) (k : Fin 1024) : EReal := P a1 a2 x ⟨4624 + k.val, by omega⟩
def fz (x : Fin 2048 → EReal) (k : Fin 1024) : EReal := P a1 a2 x ⟨k.val, by omega⟩
def fx (x : Fin 2048 → EReal) (k : Fin 1024) : EReal := P a1 a2 x ⟨1024 + k.val, by omega⟩
def fbc (x : Fin 2048 → EReal) (k : Fin 512) : EReal := P a1 a2 x ⟨2048 + k.val, by omega⟩
def fdt (x : Fin 2048 → EReal) (k : Fin 128) : EReal := if h : k.val < 16 then P a1 a2 x ⟨2560 + k.val, by omega⟩ else 0

/-- A function of a row at each of the sixteen rows, and at each sample. -/
abbrev all {n : ℕ} (f : (Fin 2048 → EReal) → Fin n → EReal) : (⟨2, ![16, n]⟩ : Shape).Idx → EReal := arr2 fun r k => f (hid a0 r) k
abbrev each {n : ℕ} (f : (Fin 2048 → EReal) → Fin n → EReal) : (⟨2, ![8, n]⟩ : Shape).Idx → EReal := arr2 fun b k => f (samp a0 b) k
/-- The same at each sample with the columns by head and lane. -/
def head (f : (Fin 2048 → EReal) → Fin 1024 → EReal) (b : Fin 8) (_ : Fin 1) (h : Fin 16) (d : Fin 64) : EReal :=
  f (samp a0 b) ⟨h.val * 64 + d.val, by omega⟩

end

/-! ## The kernel's payloads -/

theorem pay2_apply (x : Vec Ideal S16x2048 .f32) (g : Vec Ideal S1x1x2048 .f32) (r : Fin 16) (k : Fin 2048) :
    k0_pay2 x g (ix2 r k) = Norm.rms (fun j => x (ix2 r j)) (fun j => g (ix3 0 0 j)) k := by
  unfold Norm.rms
  pointwise [k0_pay2, k0_pay1]

theorem pay4_apply (x : Vec Ideal S16x2048 .f32) (g : Vec Ideal S1x1x2048 .f32) (w : Vec Ideal S1x2048x640 .bf16) (r : Fin 16) (k : Fin 512) :
    k0_pay4 x g w (ix2 r k) = ∑ j : Fin 2048, Norm.rms (fun j => x (ix2 r j)) (fun j => g (ix3 0 0 j)) j * w (ix3 0 j ⟨k.val, by omega⟩) := by
  unfold Norm.rms
  pointwise [k0_pay4, k0_pay3, k0_pay1]

theorem pay5_apply (x : Vec Ideal S16x2048 .f32) (g : Vec Ideal S1x1x2048 .f32) (w : Vec Ideal S1x2048x640 .bf16) (r : Fin 16) (k : Fin 128) :
    k0_pay5 x g w (ix2 r k) = ∑ j : Fin 2048, Norm.rms (fun j => x (ix2 r j)) (fun j => g (ix3 0 0 j)) j * w (ix3 0 j ⟨512 + k.val, by omega⟩) := by
  unfold Norm.rms
  pointwise [k0_pay5, k0_pay3, k0_pay1]

theorem pay6_apply (u : Vec Ideal S16x2048 .bf16) (w : Vec Ideal S1x2048x1024 .bf16) (r : Fin 16) (k : Fin 1024) :
    k0_pay6 (F := Ideal) u w (ix2 r k) = ∑ j : Fin 2048, u (ix2 r j) * w (ix3 0 j k) := by
  pointwise [k0_pay6]

theorem pay7_apply (u : Vec Ideal S16x2048 .bf16) (w : Vec Ideal S1x2048x1024 .bf16) (r : Fin 16) (k : Fin 1024) :
    k0_pay7 (F := Ideal) u w (ix2 r k) = (∑ j : Fin 2048, u (ix2 r j) * w (ix3 0 j k)) * Ideal.ofBits .f32 0x3E000000#32 := by
  pointwise [k0_pay7, k0_pay6]

/-! ## The arrays the launch reads -/

section
variable (m : (ℓ : Loc nD τ sig) → Buf (Elt Ideal) ℓ) (c : Dev nD)

/-- The three arguments as the program is launched on them. -/
abbrev A0 : Vec Ideal S8x1x2048 .f32 := m ((c : Thread nD τ).loc main_arg0)
abbrev A1 : Vec Ideal S4x2048 .f32 := m ((c : Thread nD τ).loc main_arg1)
abbrev A2 : Vec Ideal S4x2048x5648 .f32 := m ((c : Thread nD τ).loc main_arg2)

/-- The padding: zeros. -/
abbrev zeroPad : FVec Ideal S_ .f32 := sitofp (F := Ideal) .f32 (constantI S_ 32 0#32)

theorem pad_x : (V m c main_v9 : Vec Ideal S16x2048 .f32) = pad S16x2048 ![0, 0] ![8, 0] ![0, 0]
    (shapeCast S8x2048 (A0 m c) shapeCasts_S8x1x2048_S8x2048) zeroPad pads_S8x2048_S16x2048_080_000 h_S_ := by
  dsimp only [V, V0, hostOps0, hostOps0_1, hostOps0_2, hostOps0_3, hostOps0_4, List.flatten_cons, List.flatten_nil, List.append_nil, List.cons_append, List.nil_append]
  after_results
  rfl

theorem V_x (r : Fin 16) (k : Fin 2048) : (V m c main_v9 : Vec Ideal S16x2048 .f32) (ix2 r k) = hid (A0 m c) r k := by
  unfold hid
  rw [pad_x, ← zero_int]
  pointwise []

theorem V_g (l : Fin 4) (k : Fin 2048) : (V m c main_v10 : Vec Ideal S4x1x2048 .f32) (ix3 l 0 k) = A1 m c (ix2 l k) := by
  dsimp only [V, V0, hostOps0, hostOps0_1, hostOps0_2, hostOps0_3, hostOps0_4, List.flatten_cons, List.flatten_nil, List.append_nil, List.cons_append, List.nil_append]
  after_results
  pointwise []

theorem V_w (l : Fin 4) (j : Fin 2048) (n : Fin 5120) : (V m c main_v4 : Vec Ideal S4x2048x5120 .bf16) (ix3 l j n)
    = A2 m c (ix3 l j ⟨if n.val < 3072 then 2576 + n.val else n.val - 3072, by split <;> omega⟩) := by
  have h : (V m c main_v4 : Vec Ideal S4x2048x5120 .bf16) = Cert.Proj.wide (A2 m c) := by
    dsimp only [V, V0, hostOps0, hostOps0_1, hostOps0_2, hostOps0_3, hostOps0_4, List.flatten_cons, List.flatten_nil, List.append_nil, List.cons_append, List.nil_append]
    after_results
    rfl
  rw [h]
  exact Cert.Proj.wide_at (A2 m c) l j n

/-- The narrow weights: the columns after the state-space input's, padded with zeros. -/
theorem pad_e : (V m c main_v7 : Vec Ideal S4x2048x640 .bf16) = truncf .bf16 (pad S4x2048x640 ![0, 0, 0] ![0, 0, 112] ![0, 0, 0]
    (extractStridedSlice S4x2048x528 ![0, 0, 2048] (A2 m c) slices_S4x2048x5648_S4x2048x528_0_0_2048)
    zeroPad pads_S4x2048x528_S4x2048x640_000_000_01120 h_S_) bitsLt_bf16_f32 := by
  dsimp only [V, V0, hostOps0, hostOps0_1, hostOps0_2, hostOps0_3, hostOps0_4, List.flatten_cons, List.flatten_nil, List.append_nil, List.cons_append, List.nil_append]
  after_results
  rfl

theorem V_e (l : Fin 4) (j : Fin 2048) (n : Fin 640) : (V m c main_v7 : Vec Ideal S4x2048x640 .bf16) (ix3 l j n)
    = if h : n.val < 528 then A2 m c (ix3 l j ⟨2048 + n.val, by omega⟩) else (0 : EReal) := by
  rw [pad_e, ← zero_int]
  pointwise []

/-! ## The blocks -/

theorem idx0 : ∀ t : Fin cfg0.N, win0_0.index t = ![0, 0] := (by decide +kernel : ∀ t : Fin grid0.N, _)
theorem idx1 : ∀ t : Fin cfg0.N, win0_1.index t = ![3, 0, 0] := (by decide +kernel : ∀ t : Fin grid0.N, _)
theorem idx2 : ∀ t : Fin cfg0.N, win0_2.index t = ![3, 0, t.val % 5] := (by decide +kernel : ∀ t : Fin grid0.N, _)
theorem idx3 : ∀ t : Fin cfg0.N, win0_3.index t = ![3, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

theorem pt_col (b : ℕ) (s : Fin 5) : (pt b s.val).val % 5 = s.val := by
  show (5 * b + s.val) % 5 % 5 = s.val
  omega

theorem blk0 (t : Fin cfg0.N) (r : Fin 16) (k : Fin 2048) : (iblk m c 0 t : Vec Ideal S16x2048 .f32) (ix2 r k) = hid (A0 m c) r k := by
  have e : ((win0_0.blk t).view.emb (ix2 r k) : S16x2048.Idx) = ix2 r k := by
    blk_ext [idx0]
  blk_simp [iblk]
  exact (congrArg (V m c main_v9 : Vec Ideal S16x2048 .f32) e).trans (V_x m c _ _)

theorem blk1 (t : Fin cfg0.N) (k : Fin 2048) : (iblk m c 1 t : Vec Ideal S1x1x2048 .f32) (ix3 0 0 k) = A1 m c (ix2 3 k) := by
  have e : ((win0_1.blk t).view.emb (ix3 0 0 k) : S4x1x2048.Idx) = ix3 3 0 k := by
    blk_ext [idx1]
  blk_simp [iblk]
  exact (congrArg (V m c main_v10 : Vec Ideal S4x1x2048 .f32) e).trans (V_g m c _ _)

theorem blk2 (t : Fin cfg0.N) (s : Fin 5) (h : t.val % 5 = s.val) (j : Fin 2048) (k : Fin 1024) :
    (iblk m c 2 t : Vec Ideal S1x2048x1024 .bf16) (ix3 0 j k) = A2 m c (ix3 3 j (col s k)) := by
  have e : ((win0_2.blk t).view.emb (ix3 0 j k) : S4x2048x5120.Idx) = ix3 3 j ⟨1024 * s.val + k.val, by omega⟩ := by
    blk_ext [idx2]
  blk_simp [iblk]
  exact (congrArg (V m c main_v4 : Vec Ideal S4x2048x5120 .bf16) e).trans (V_w m c _ _ _)

theorem blk3 (t : Fin cfg0.N) (j : Fin 2048) (n : Fin 640) : (iblk m c 3 t : Vec Ideal S1x2048x640 .bf16) (ix3 0 j n)
    = if h : n.val < 528 then A2 m c (ix3 3 j ⟨2048 + n.val, by omega⟩) else (0 : EReal) := by
  have e : ((win0_3.blk t).view.emb (ix3 0 j n) : S4x2048x640.Idx) = ix3 3 j n := by
    blk_ext [idx3]
  blk_simp [iblk]
  exact (congrArg (V m c main_v7 : Vec Ideal S4x2048x640 .bf16) e).trans (V_e m c _ _ _)

theorem rows_at (b : ℕ) (r : Fin 16) (k : Fin 2048) :
    rows m c b (ix2 r k) = Norm.rms (hid (A0 m c) r) (fun j => A1 m c (ix2 3 j)) k := by
  unfold rows
  rw [pay2_apply]
  simp only [blk0, blk1]

/-- One column block's product. -/
theorem prod_at (b : ℕ) (s : Fin 5) (r : Fin 16) (k : Fin 1024) :
    ∑ j : Fin 2048, rows m c b (ix2 r j) * (iblk m c 2 (pt b s.val) : Vec Ideal S1x2048x1024 .bf16) (ix3 0 j k)
      = P (A1 m c) (A2 m c) (hid (A0 m c) r) (col s k) := by
  simp only [rows_at, blk2 m c _ s (pt_col b s)]
  rfl

theorem fin4_at (b : ℕ) (r : Fin 16) (k : Fin 1024) : fin4 m c b (ix2 r k) = fq (A1 m c) (A2 m c) (hid (A0 m c) r) k := by
  have hc : col 0 k = ⟨2576 + k.val, by omega⟩ := col_of 0 k _ (.inl ⟨by decide, by show 2576 + k.val = 2576 + (1024 * 0 + k.val); omega⟩)
  unfold fin4 fq
  rw [pay7_apply, ← hc, ← prod_at m c b 0 r k]
  rfl

theorem fin5_at (b : ℕ) (r : Fin 16) (k : Fin 1024) : fin5 m c b (ix2 r k) = fk (A1 m c) (A2 m c) (hid (A0 m c) r) k := by
  have hc : col 1 k = ⟨3600 + k.val, by omega⟩ := col_of 1 k _ (.inl ⟨by decide, by show 3600 + k.val = 2576 + (1024 * 1 + k.val); omega⟩)
  unfold fin5 fk
  rw [pay6_apply, ← hc, ← prod_at m c b 1 r k]
  rfl

theorem fin6_at (b : ℕ) (r : Fin 16) (k : Fin 1024) : fin6 m c b (ix2 r k) = fv (A1 m c) (A2 m c) (hid (A0 m c) r) k := by
  have hc : col 2 k = ⟨4624 + k.val, by omega⟩ := col_of 2 k _ (.inl ⟨by decide, by show 4624 + k.val = 2576 + (1024 * 2 + k.val); omega⟩)
  unfold fin6 fv
  rw [pay6_apply, ← hc, ← prod_at m c b 2 r k]
  rfl

theorem fin7_at (b : ℕ) (r : Fin 16) (k : Fin 1024) : fin7 m c b (ix2 r k) = fz (A1 m c) (A2 m c) (hid (A0 m c) r) k := by
  have hc : col 3 k = ⟨k.val, by omega⟩ := col_of 3 k _ (.inr ⟨by decide, by show k.val + 3072 = 1024 * 3 + k.val; omega⟩)
  unfold fin7 fz
  rw [pay6_apply, ← hc, ← prod_at m c b 3 r k]
  rfl

theorem fin8_at (b : ℕ) (r : Fin 16) (k : Fin 1024) : fin8 m c b (ix2 r k) = fx (A1 m c) (A2 m c) (hid (A0 m c) r) k := by
  have hc : col 4 k = ⟨1024 + k.val, by omega⟩ := col_of 4 k _ (.inr ⟨by decide, by show 1024 + k.val + 3072 = 1024 * 4 + k.val; omega⟩)
  unfold fin8 fx
  rw [pay6_apply, ← hc, ← prod_at m c b 4 r k]
  rfl

theorem fin9_at (b : ℕ) (r : Fin 16) (k : Fin 512) : fin9 m c b (ix2 r k) = fbc (A1 m c) (A2 m c) (hid (A0 m c) r) k := by
  unfold fin9 fbc P
  rw [pay4_apply]
  simp only [blk0, blk1, blk3]
  refine Finset.sum_congr rfl fun j _ => ?_
  rw [dif_pos (show k.val < 528 by omega)]

theorem fin10_at (b : ℕ) (r : Fin 16) (k : Fin 128) : fin10 m c b (ix2 r k) = fdt (A1 m c) (A2 m c) (hid (A0 m c) r) k := by
  unfold fin10 fdt P
  rw [pay5_apply]
  simp only [blk0, blk1, blk3]
  by_cases h : k.val < 16
  · rw [dif_pos h]
    refine Finset.sum_congr rfl fun j _ => ?_
    rw [dif_pos (show 512 + k.val < 528 by omega)]
    exact congrArg (fun q => _ * A2 m c (ix3 3 j q)) (Fin.ext (by show 2048 + (512 + k.val) = 2560 + k.val; omega))
  · rw [dif_neg h]
    refine Finset.sum_eq_zero fun j _ => ?_
    rw [dif_neg (show ¬ 512 + k.val < 528 by omega), mul_zero]

/-! ## The result arrays: all sixteen rows, then the samples' -/

theorem final4 : (dats m 0 c).arrAt 4 cfg0.N = all (A0 m c) (fq (A1 m c) (A2 m c)) := by
  refine (dats m 0 c).arrAt_eq_of_covers 4 _ (by decide +kernel) fun t hf y => ?_
  blk_simp
  rw [after_4]
  have e : ((win0_4.blk t).view.emb y : S16x1024.Idx) = ix2 (n0 := 16) (n1 := 1024) (y 0) (y 1) := by
    blk_ext [idx4]
  refine ((congrArg (fin4 m c (t.val / 5)) (ix2_self (a := 16) (b := 1024) y)).trans (fin4_at m c _ (y 0) (y 1))).trans ?_
  exact (congrArg (all (A0 m c) (fq (A1 m c) (A2 m c))) e).symm

theorem final5 : (dats m 0 c).arrAt 5 cfg0.N = all (A0 m c) (fk (A1 m c) (A2 m c)) := by
  refine (dats m 0 c).arrAt_eq_of_covers 5 _ (by decide +kernel) fun t hf y => ?_
  blk_simp
  rw [after_5]
  have e : ((win0_5.blk t).view.emb y : S16x1024.Idx) = ix2 (n0 := 16) (n1 := 1024) (y 0) (y 1) := by
    blk_ext [idx5]
  refine ((congrArg (fin5 m c (t.val / 5)) (ix2_self (a := 16) (b := 1024) y)).trans (fin5_at m c _ (y 0) (y 1))).trans ?_
  exact (congrArg (all (A0 m c) (fk (A1 m c) (A2 m c))) e).symm

theorem final6 : (dats m 0 c).arrAt 6 cfg0.N = all (A0 m c) (fv (A1 m c) (A2 m c)) := by
  refine (dats m 0 c).arrAt_eq_of_covers 6 _ (by decide +kernel) fun t hf y => ?_
  blk_simp
  rw [after_6]
  have e : ((win0_6.blk t).view.emb y : S16x1024.Idx) = ix2 (n0 := 16) (n1 := 1024) (y 0) (y 1) := by
    blk_ext [idx6]
  refine ((congrArg (fin6 m c (t.val / 5)) (ix2_self (a := 16) (b := 1024) y)).trans (fin6_at m c _ (y 0) (y 1))).trans ?_
  exact (congrArg (all (A0 m c) (fv (A1 m c) (A2 m c))) e).symm

theorem final7 : (dats m 0 c).arrAt 7 cfg0.N = all (A0 m c) (fz (A1 m c) (A2 m c)) := by
  refine (dats m 0 c).arrAt_eq_of_covers 7 _ (by decide +kernel) fun t hf y => ?_
  blk_simp
  rw [after_7]
  have e : ((win0_7.blk t).view.emb y : S16x1024.Idx) = ix2 (n0 := 16) (n1 := 1024) (y 0) (y 1) := by
    blk_ext [idx7]
  refine ((congrArg (fin7 m c (t.val / 5)) (ix2_self (a := 16) (b := 1024) y)).trans (fin7_at m c _ (y 0) (y 1))).trans ?_
  exact (congrArg (all (A0 m c) (fz (A1 m c) (A2 m c))) e).symm

theorem final8 : (dats m 0 c).arrAt 8 cfg0.N = all (A0 m c) (fx (A1 m c) (A2 m c)) := by
  refine (dats m 0 c).arrAt_eq_of_covers 8 _ (by decide +kernel) fun t hf y => ?_
  blk_simp
  rw [after_8]
  have e : ((win0_8.blk t).view.emb y : S16x1024.Idx) = ix2 (n0 := 16) (n1 := 1024) (y 0) (y 1) := by
    blk_ext [idx8]
  refine ((congrArg (fin8 m c (t.val / 5)) (ix2_self (a := 16) (b := 1024) y)).trans (fin8_at m c _ (y 0) (y 1))).trans ?_
  exact (congrArg (all (A0 m c) (fx (A1 m c) (A2 m c))) e).symm

theorem final9 : (dats m 0 c).arrAt 9 cfg0.N = all (A0 m c) (fbc (A1 m c) (A2 m c)) := by
  refine (dats m 0 c).arrAt_eq_of_covers 9 _ (by decide +kernel) fun t hf y => ?_
  blk_simp
  rw [after_9]
  have e : ((win0_9.blk t).view.emb y : S16x512.Idx) = ix2 (n0 := 16) (n1 := 512) (y 0) (y 1) := by
    blk_ext [idx9]
  refine ((congrArg (fin9 m c (t.val / 5)) (ix2_self (a := 16) (b := 512) y)).trans (fin9_at m c _ (y 0) (y 1))).trans ?_
  exact (congrArg (all (A0 m c) (fbc (A1 m c) (A2 m c))) e).symm

theorem final10 : (dats m 0 c).arrAt 10 cfg0.N = all (A0 m c) (fdt (A1 m c) (A2 m c)) := by
  refine (dats m 0 c).arrAt_eq_of_covers 10 _ (by decide +kernel) fun t hf y => ?_
  blk_simp
  rw [after_10]
  have e : ((win0_10.blk t).view.emb y : S16x128.Idx) = ix2 (n0 := 16) (n1 := 128) (y 0) (y 1) := by
    blk_ext [idx10]
  refine ((congrArg (fin10 m c (t.val / 5)) (ix2_self (a := 16) (b := 128) y)).trans (fin10_at m c _ (y 0) (y 1))).trans ?_
  exact (congrArg (all (A0 m c) (fdt (A1 m c) (A2 m c))) e).symm

theorem tail12 : (Pipeline.afterTail₀ cfgs (dats m) 0 (V0 m) [hostOps1] c main_v12 : Vec Ideal S8x1024 .f32) = each (A0 m c) (fq (A1 m c) (A2 m c)) := by
  have e : (Pipeline.withArrays spec0 c (V0 m c) (fun w => (dats m 0 c).arrAt w cfg0.N) (Proc.devRef .tc main_v11_0) : Vec Ideal S16x1024 .f32)
      = all (A0 m c) (fq (A1 m c) (A2 m c)) := (Pipeline.withArrays_arr spec0 (by decide) c _ _ 4).trans (final4 m c)
  refine Cert.Proj.eq_arr2 _ _ fun b k => ?_
  rw [← hid_sample _ ⟨b.val, by omega⟩ b rfl]
  unfold Pipeline.afterTail₀
  dsimp only [hostOps1, List.flatten_cons, List.flatten_nil, List.append_nil, List.cons_append, List.nil_append]
  after_results
  refine (congrArg (fun u : Vec Ideal S16x1024 .f32 => (extractStridedSlice S8x1024 ![0, 0] u slices_S16x1024_S8x1024_0_0 : Vec Ideal S8x1024 .f32) (ix2 b k)) e).trans ?_
  pointwise [arr2]

theorem tail14 : (Pipeline.afterTail₀ cfgs (dats m) 0 (V0 m) [hostOps1] c main_v14 : Vec Ideal S8x1x16x64 .f32) = arr4 (head (A0 m c) (fk (A1 m c) (A2 m c))) := by
  have e : (Pipeline.withArrays spec0 c (V0 m c) (fun w => (dats m 0 c).arrAt w cfg0.N) (Proc.devRef .tc main_v11_1) : Vec Ideal S16x1024 .f32)
      = all (A0 m c) (fk (A1 m c) (A2 m c)) := (Pipeline.withArrays_arr spec0 (by decide) c _ _ 5).trans (final5 m c)
  refine eq_arr4 _ _ fun b o h d => ?_
  obtain rfl : o = 0 := Subsingleton.elim _ _
  unfold head
  rw [← hid_sample _ ⟨b.val, by omega⟩ b rfl]
  unfold Pipeline.afterTail₀
  dsimp only [hostOps1, List.flatten_cons, List.flatten_nil, List.append_nil, List.cons_append, List.nil_append]
  after_results
  refine (congrArg (fun u : Vec Ideal S16x1024 .f32 => (shapeCast S8x1x16x64 (extractStridedSlice S8x1024 ![0, 0] u slices_S16x1024_S8x1024_0_0 : Vec Ideal S8x1024 .f32) shapeCasts_S8x1024_S8x1x16x64 : Vec Ideal S8x1x16x64 .f32) (ix4 b 0 h d)) e).trans ?_
  pointwise [arr2]

theorem tail16 : (Pipeline.afterTail₀ cfgs (dats m) 0 (V0 m) [hostOps1] c main_v16 : Vec Ideal S8x1x16x64 .f32) = arr4 (head (A0 m c) (fv (A1 m c) (A2 m c))) := by
  have e : (Pipeline.withArrays spec0 c (V0 m c) (fun w => (dats m 0 c).arrAt w cfg0.N) (Proc.devRef .tc main_v11_2) : Vec Ideal S16x1024 .f32)
      = all (A0 m c) (fv (A1 m c) (A2 m c)) := (Pipeline.withArrays_arr spec0 (by decide) c _ _ 6).trans (final6 m c)
  refine eq_arr4 _ _ fun b o h d => ?_
  obtain rfl : o = 0 := Subsingleton.elim _ _
  unfold head
  rw [← hid_sample _ ⟨b.val, by omega⟩ b rfl]
  unfold Pipeline.afterTail₀
  dsimp only [hostOps1, List.flatten_cons, List.flatten_nil, List.append_nil, List.cons_append, List.nil_append]
  after_results
  refine (congrArg (fun u : Vec Ideal S16x1024 .f32 => (shapeCast S8x1x16x64 (extractStridedSlice S8x1024 ![0, 0] u slices_S16x1024_S8x1024_0_0 : Vec Ideal S8x1024 .f32) shapeCasts_S8x1024_S8x1x16x64 : Vec Ideal S8x1x16x64 .f32) (ix4 b 0 h d)) e).trans ?_
  pointwise [arr2]

theorem tail17 : (Pipeline.afterTail₀ cfgs (dats m) 0 (V0 m) [hostOps1] c main_v17 : Vec Ideal S8x1024 .f32) = each (A0 m c) (fz (A1 m c) (A2 m c)) := by
  have e : (Pipeline.withArrays spec0 c (V0 m c) (fun w => (dats m 0 c).arrAt w cfg0.N) (Proc.devRef .tc main_v11_3) : Vec Ideal S16x1024 .f32)
      = all (A0 m c) (fz (A1 m c) (A2 m c)) := (Pipeline.withArrays_arr spec0 (by decide) c _ _ 7).trans (final7 m c)
  refine Cert.Proj.eq_arr2 _ _ fun b k => ?_
  rw [← hid_sample _ ⟨b.val, by omega⟩ b rfl]
  unfold Pipeline.afterTail₀
  dsimp only [hostOps1, List.flatten_cons, List.flatten_nil, List.append_nil, List.cons_append, List.nil_append]
  after_results
  refine (congrArg (fun u : Vec Ideal S16x1024 .f32 => (extractStridedSlice S8x1024 ![0, 0] u slices_S16x1024_S8x1024_0_0 : Vec Ideal S8x1024 .f32) (ix2 b k)) e).trans ?_
  pointwise [arr2]

theorem tail18 : (Pipeline.afterTail₀ cfgs (dats m) 0 (V0 m) [hostOps1] c main_v18 : Vec Ideal S8x1024 .f32) = each (A0 m c) (fx (A1 m c) (A2 m c)) := by
  have e : (Pipeline.withArrays spec0 c (V0 m c) (fun w => (dats m 0 c).arrAt w cfg0.N) (Proc.devRef .tc main_v11_4) : Vec Ideal S16x1024 .f32)
      = all (A0 m c) (fx (A1 m c) (A2 m c)) := (Pipeline.withArrays_arr spec0 (by decide) c _ _ 8).trans (final8 m c)
  refine Cert.Proj.eq_arr2 _ _ fun b k => ?_
  rw [← hid_sample _ ⟨b.val, by omega⟩ b rfl]
  unfold Pipeline.afterTail₀
  dsimp only [hostOps1, List.flatten_cons, List.flatten_nil, List.append_nil, List.cons_append, List.nil_append]
  after_results
  refine (congrArg (fun u : Vec Ideal S16x1024 .f32 => (extractStridedSlice S8x1024 ![0, 0] u slices_S16x1024_S8x1024_0_0 : Vec Ideal S8x1024 .f32) (ix2 b k)) e).trans ?_
  pointwise [arr2]

theorem tail19 : (Pipeline.afterTail₀ cfgs (dats m) 0 (V0 m) [hostOps1] c main_v19 : Vec Ideal S8x512 .f32) = each (A0 m c) (fbc (A1 m c) (A2 m c)) := by
  have e : (Pipeline.withArrays spec0 c (V0 m c) (fun w => (dats m 0 c).arrAt w cfg0.N) (Proc.devRef .tc main_v11_5) : Vec Ideal S16x512 .f32)
      = all (A0 m c) (fbc (A1 m c) (A2 m c)) := (Pipeline.withArrays_arr spec0 (by decide) c _ _ 9).trans (final9 m c)
  refine Cert.Proj.eq_arr2 _ _ fun b k => ?_
  rw [← hid_sample _ ⟨b.val, by omega⟩ b rfl]
  unfold Pipeline.afterTail₀
  dsimp only [hostOps1, List.flatten_cons, List.flatten_nil, List.append_nil, List.cons_append, List.nil_append]
  after_results
  refine (congrArg (fun u : Vec Ideal S16x512 .f32 => (extractStridedSlice S8x512 ![0, 0] u slices_S16x512_S8x512_0_0 : Vec Ideal S8x512 .f32) (ix2 b k)) e).trans ?_
  pointwise [arr2]

theorem tail20 : (Pipeline.afterTail₀ cfgs (dats m) 0 (V0 m) [hostOps1] c main_v20 : Vec Ideal S8x128 .f32) = each (A0 m c) (fdt (A1 m c) (A2 m c)) := by
  have e : (Pipeline.withArrays spec0 c (V0 m c) (fun w => (dats m 0 c).arrAt w cfg0.N) (Proc.devRef .tc main_v11_6) : Vec Ideal S16x128 .f32)
      = all (A0 m c) (fdt (A1 m c) (A2 m c)) := (Pipeline.withArrays_arr spec0 (by decide) c _ _ 10).trans (final10 m c)
  refine Cert.Proj.eq_arr2 _ _ fun b k => ?_
  rw [← hid_sample _ ⟨b.val, by omega⟩ b rfl]
  unfold Pipeline.afterTail₀
  dsimp only [hostOps1, List.flatten_cons, List.flatten_nil, List.append_nil, List.cons_append, List.nil_append]
  after_results
  refine (congrArg (fun u : Vec Ideal S16x128 .f32 => (extractStridedSlice S8x128 ![0, 0] u slices_S16x128_S8x128_0_0 : Vec Ideal S8x128 .f32) (ix2 b k)) e).trans ?_
  pointwise [arr2]

end

end Cert.ProjRow

/-! ## The reference -/

namespace Cert.ProjRow.Ref

open Cert.Reference8Ideal Cert.Reference8Ideal.Gen Cert.Reference8Ideal.Read Cert.Reference8Ideal.Facts Idealize.ShloMosaic Idealize.ShloMosaic.TcCoe Idealize.SL.Sem
open Cert.Proj (zero_int)

variable (x0 : Vec Ideal S8x1x2048 .f32) (x1 : Vec Ideal S4x2048 .f32) (x2 : Vec Ideal S4x2048x5648 .f32)

theorem norm_at (b : Fin 8) (k : Fin 2048) :
    val_main_v15 (F := Ideal) x0 x1 (ix2 b k) = Norm.rms (samp x0 b) (fun j => x1 (ix2 3 j)) k := by
  unfold Norm.rms samp
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem proj_at (b : Fin 8) (n : Fin 5648) : val_main_v18 (F := Ideal) x0 x1 x2 (ix2 b n) = P x1 x2 (samp x0 b) n := by
  have h : P x1 x2 (samp x0 b) n = ∑ j : Fin 2048, val_main_v15 (F := Ideal) x0 x1 (ix2 b j) * x2 (ix3 3 j n) := by
    simp only [norm_at]
    rfl
  rw [h]
  pointwise [val_main_v18, val_main_v17, val_main_v16]

theorem q_at (b : Fin 8) (k : Fin 1024) : val_main_v27 (F := Ideal) x0 x1 x2 (ix2 b k) = fq x1 x2 (samp x0 b) k := by
  rw [fq, ← proj_at]
  pointwise [val_main_v27, val_main_v26, val_main_v23, val_main_cst_2]

theorem k_at (b : Fin 8) (o : Fin 1) (h : Fin 16) (d : Fin 64) : val_main_v28 (F := Ideal) x0 x1 x2 (ix4 b o h d) = head x0 (fk x1 x2) b o h d := by
  obtain rfl : o = 0 := Subsingleton.elim _ _
  rw [head, fk, ← proj_at]
  pointwise [val_main_v28, val_main_v24]

theorem v_at (b : Fin 8) (o : Fin 1) (h : Fin 16) (d : Fin 64) : val_main_v29 (F := Ideal) x0 x1 x2 (ix4 b o h d) = head x0 (fv x1 x2) b o h d := by
  obtain rfl : o = 0 := Subsingleton.elim _ _
  rw [head, fv, ← proj_at]
  pointwise [val_main_v29, val_main_v25]

theorem z_at (b : Fin 8) (k : Fin 1024) : val_main_v19 (F := Ideal) x0 x1 x2 (ix2 b k) = fz x1 x2 (samp x0 b) k := by
  rw [fz, ← proj_at]
  pointwise [val_main_v19]

theorem x_at (b : Fin 8) (k : Fin 1024) : val_main_v20 (F := Ideal) x0 x1 x2 (ix2 b k) = fx x1 x2 (samp x0 b) k := by
  rw [fx, ← proj_at]
  pointwise [val_main_v20]

theorem bc_at (b : Fin 8) (k : Fin 512) : val_main_v21 (F := Ideal) x0 x1 x2 (ix2 b k) = fbc x1 x2 (samp x0 b) k := by
  rw [fbc, ← proj_at]
  pointwise [val_main_v21]

theorem dt_at (b : Fin 8) (k : Fin 128) : val_main_v30 (F := Ideal) x0 x1 x2 (ix2 b k) = fdt x1 x2 (samp x0 b) k := by
  unfold fdt
  simp only [← proj_at]
  rw [← zero_int]
  pointwise [val_main_v30, val_main_v22, val_main_call0_v0, val_main_c]

end Cert.ProjRow.Ref

/-! ## The claims -/

namespace Cert.ProjRow

open Cert.Kernel8Ideal Cert.Kernel8Ideal.Gen Idealize.ShloMosaic Idealize.ShloMosaic.TcCoe Idealize.SL.Sem
open Cert.Proj (arr2 arr4 eq_arr2 eq_arr4)

/-- The kernel's run, each result named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = each (A0 m c) (fq (A1 m c) (A2 m c))
      ∧ r.2.mem ((c.tc : Thread nD τ).loc main_v14) = arr4 (head (A0 m c) (fk (A1 m c) (A2 m c)))
      ∧ r.2.mem ((c.tc : Thread nD τ).loc main_v16) = arr4 (head (A0 m c) (fv (A1 m c) (A2 m c)))
      ∧ r.2.mem ((c.tc : Thread nD τ).loc main_v17) = each (A0 m c) (fz (A1 m c) (A2 m c))
      ∧ r.2.mem ((c.tc : Thread nD τ).loc main_v18) = each (A0 m c) (fx (A1 m c) (A2 m c))
      ∧ r.2.mem ((c.tc : Thread nD τ).loc main_v19) = each (A0 m c) (fbc (A1 m c) (A2 m c))
      ∧ r.2.mem ((c.tc : Thread nD τ).loc main_v20) = each (A0 m c) (fdt (A1 m c) (A2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (run_main m ρ) (frame m ρ)) fun r h c =>
    ⟨((h.1 c).2 main_v12 (Pipeline.mem_restRefs_of main_v12 (by decide) (by decide))).trans (tail12 m c),
     ((h.1 c).2 main_v14 (Pipeline.mem_restRefs_of main_v14 (by decide) (by decide))).trans (tail14 m c),
     ((h.1 c).2 main_v16 (Pipeline.mem_restRefs_of main_v16 (by decide) (by decide))).trans (tail16 m c),
     ((h.1 c).2 main_v17 (Pipeline.mem_restRefs_of main_v17 (by decide) (by decide))).trans (tail17 m c),
     ((h.1 c).2 main_v18 (Pipeline.mem_restRefs_of main_v18 (by decide) (by decide))).trans (tail18 m c),
     ((h.1 c).2 main_v19 (Pipeline.mem_restRefs_of main_v19 (by decide) (by decide))).trans (tail19 m c),
     ((h.1 c).2 main_v20 (Pipeline.mem_restRefs_of main_v20 (by decide) (by decide))).trans (tail20 m c), h.2.1 c⟩

/-- The two programs' tables of bodies are the same. -/
theorem same_table : HEq (@Cert.Kernel8.defs₀ Bits _ _) (@Cert.Kernel8Ideal.defs₀ Bits _ _) := by
  unfold Cert.Kernel8.defs₀ Cert.Kernel8Ideal.defs₀
  refine heq_of_eq (congrArg Defs.onTc ?_)
  funext l x
  match l with
  | 0 => rfl

/-- The frame of the program as printed: its idealized copy has the same text. -/
theorem bits_frame : Cert.quiescent_Kernel8 (hKernel8 := Cert.Kernel8.Gen.facts) := fun m ρ _ => by
  have h := Cert.ProjRow.frame (F := Bits) m ρ
  unfold Cert.Kernel8Ideal.defs at h
  unfold Cert.Kernel8.defs
  rw [show Cert.Kernel8.defs₀ = Cert.Kernel8Ideal.defs₀ from eq_of_heq same_table]
  exact h

theorem ref_frame : Cert.quiescent_Reference8Ideal (hReference8Ideal := Cert.Reference8Ideal.Gen.facts) := fun m ρ _ =>
  θ_run_mono (Cert.Reference8Ideal.Value.run (F := Ideal) m ρ) fun r h =>
    ⟨fun c => (h c).2.2.2.2.2.2.2, sem_eq_zero_of_no_sems (by decide) r.2⟩

theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => each (A0 m c) (fq (A1 m c) (A2 m c)),
    fun c => arr4 (head (A0 m c) (fk (A1 m c) (A2 m c))),
    fun c => arr4 (head (A0 m c) (fv (A1 m c) (A2 m c))),
    fun c => each (A0 m c) (fz (A1 m c) (A2 m c)),
    fun c => each (A0 m c) (fx (A1 m c) (A2 m c)),
    fun c => each (A0 m c) (fbc (A1 m c) (A2 m c)),
    fun c => each (A0 m c) (fdt (A1 m c) (A2 m c)), run_results m g, ?_⟩
  refine θ_run_mono (Cert.Reference8Ideal.Value.run (F := Ideal) m' g') fun r h c => ?_
  obtain ⟨e0, e1, e2⟩ := hargs c
  obtain ⟨h0, h1, h2, h3, h4, h5, h6, h7⟩ := h c
  refine ⟨h0.trans ?_, h1.trans ?_, h2.trans ?_, h3.trans ?_, h4.trans ?_, h5.trans ?_, h6.trans ?_, h7⟩
  · rw [Cert.Reference8Ideal.Read.val_main_v27_eq, e0, e1, e2]
    exact eq_arr2 _ _ (Ref.q_at _ _ _)
  · rw [Cert.Reference8Ideal.Read.val_main_v28_eq, e0, e1, e2]
    exact eq_arr4 _ _ (Ref.k_at _ _ _)
  · rw [Cert.Reference8Ideal.Read.val_main_v29_eq, e0, e1, e2]
    exact eq_arr4 _ _ (Ref.v_at _ _ _)
  · rw [Cert.Reference8Ideal.Read.val_main_v19_eq, e0, e1, e2]
    exact eq_arr2 _ _ (Ref.z_at _ _ _)
  · rw [Cert.Reference8Ideal.Read.val_main_v20_eq, e0, e1, e2]
    exact eq_arr2 _ _ (Ref.x_at _ _ _)
  · rw [Cert.Reference8Ideal.Read.val_main_v21_eq, e0, e1, e2]
    exact eq_arr2 _ _ (Ref.bc_at _ _ _)
  · rw [Cert.Reference8Ideal.Read.val_main_v30_eq, e0, e1, e2]
    exact eq_arr2 _ _ (Ref.dt_at _ _ _)

end Cert.ProjRow

end
-- ==== Proof.lean ====
module

public import proofs.«01_k».proof.Proof.Gen.KernelIdeal.Value
public import proofs.«01_k».proof.Proof.Gen.ReferenceIdeal.Run
public import proofs.«01_k».proof.Proof.Alg
public import proofs.«01_k».proof.Proof.FfnAlg
public import proofs.«01_k».proof.Proof.Ple
public import proofs.«01_k».proof.Proof.Out
public import proofs.«01_k».proof.Proof.Proj
public import proofs.«01_k».proof.Proof.ProjBits
public import proofs.«01_k».proof.Proof.StepAlg
public import proofs.«01_k».proof.Proof.PleRow
public import proofs.«01_k».proof.Proof.ProjRow
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Att.preFacts, Cert.Step.preFacts,
    fun m ρ _ => Cert.Kernel.Gen.frame m ρ, fun m ρ _ => Cert.KernelIdeal.Gen.frame m ρ, fun m ρ _ => Cert.KernelIdeal.Gen.frame m ρ,
    Cert.Att.ref_frame, fun m ρ _ => Cert.Att.ref_frame m ρ trivial,
    fun m ρ _ => Cert.Kernel2.Gen.frame m ρ, fun m ρ _ => Cert.Kernel2Ideal.Gen.frame m ρ, Cert.Ffn.ref_frame,
    fun m ρ _ => Cert.Kernel3.Gen.frame m ρ, fun m ρ _ => Cert.Kernel3Ideal.Gen.frame m ρ, Cert.Ple.ref_frame,
    fun m ρ _ => Cert.Kernel4.Gen.frame m ρ, fun m ρ _ => Cert.Kernel4Ideal.Gen.frame m ρ, Cert.Out.ref_frame,
    Cert.Proj.bits_frame, fun m ρ _ => Cert.Proj.frame m ρ, Cert.Proj.ref_frame,
    fun m ρ _ => Cert.Kernel6.Gen.frame m ρ, fun m ρ _ => Cert.Kernel6Ideal.Gen.frame m ρ, fun m ρ _ => Cert.Kernel6Ideal.Gen.frame m ρ,
    Cert.Step.ref_frame, fun m ρ _ => Cert.Step.ref_frame m ρ trivial,
    fun m ρ _ => Cert.Kernel7.Gen.frame m ρ, fun m ρ _ => Cert.Kernel7Ideal.Gen.frame m ρ, Cert.PleRow.ref_frame,
    Cert.ProjRow.bits_frame, fun m ρ _ => Cert.ProjRow.frame m ρ, Cert.ProjRow.ref_frame,
    trivial, Cert.Att.algebraic, trivial, Cert.Ffn.algebraic, trivial, Cert.Ple.algebraic, trivial, Cert.Out.algebraic, trivial, Cert.Proj.algebraic,
    trivial, Cert.Step.algebraic, trivial, Cert.PleRow.algebraic, trivial, Cert.ProjRow.algebraic⟩

end Cert.Proof

end
